-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "u" .f32 0x3D579436#32 ((19⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x19x96x96 : Shape := ⟨4, ![2, 19, 96, 96]⟩
abbrev S2x1x96x96 : Shape := ⟨4, ![2, 1, 96, 96]⟩
abbrev S2x128x96x96 : Shape := ⟨4, ![2, 128, 96, 96]⟩
abbrev S2x3x384x384 : Shape := ⟨4, ![2, 3, 384, 384]⟩
abbrev S_ : Shape := ⟨0, ![]⟩
abbrev S2x128x98x98 : Shape := ⟨4, ![2, 128, 98, 98]⟩
abbrev S2x98x98 : Shape := ⟨3, ![2, 98, 98]⟩
abbrev S2x1x98x98 : Shape := ⟨4, ![2, 1, 98, 98]⟩
abbrev S2x96x96 : Shape := ⟨3, ![2, 96, 96]⟩
abbrev S2x19x98x98 : Shape := ⟨4, ![2, 19, 98, 98]⟩

class Facts : Prop where
  pads_S2x128x96x96_S2x128x98x98_000_000_110_110 : S2x128x96x96.Pads (![0, 0, 1, 1] : Fin 4 → Nat) ![0, 0, 1, 1] ![0, 0, 0, 0] S2x128x98x98
  h_S_ : 0 < S_.numel
  reducesTo_S2x128x98x98_S2x98x98_d1 : S2x128x98x98.ReducesTo [1] S2x98x98
  bcast_S2x98x98_S2x1x98x98_0_2_3 : S2x98x98.BroadcastsInDim S2x1x98x98 (![0, 2, 3] : Fin 3 → Fin S2x1x98x98.rank)
  bcast_S_S2x1x98x98 : S_.BroadcastsInDim S2x1x98x98 (![] : Fin 0 → Fin S2x1x98x98.rank)
  slices_S2x1x98x98_S2x1x96x96_0_0_0_0 : S2x1x98x98.Slices ![0, 0, 0, 0] S2x1x96x96
  slices_S2x1x98x98_S2x1x96x96_0_0_0_1 : S2x1x98x98.Slices ![0, 0, 0, 1] S2x1x96x96
  slices_S2x1x98x98_S2x1x96x96_0_0_0_2 : S2x1x98x98.Slices ![0, 0, 0, 2] S2x1x96x96
  slices_S2x1x98x98_S2x1x96x96_0_0_1_0 : S2x1x98x98.Slices ![0, 0, 1, 0] S2x1x96x96
  slices_S2x1x98x98_S2x1x96x96_0_0_1_1 : S2x1x98x98.Slices ![0, 0, 1, 1] S2x1x96x96
  slices_S2x1x98x98_S2x1x96x96_0_0_1_2 : S2x1x98x98.Slices ![0, 0, 1, 2] S2x1x96x96
  slices_S2x1x98x98_S2x1x96x96_0_0_2_0 : S2x1x98x98.Slices ![0, 0, 2, 0] S2x1x96x96
  slices_S2x1x98x98_S2x1x96x96_0_0_2_1 : S2x1x98x98.Slices ![0, 0, 2, 1] S2x1x96x96
  slices_S2x1x98x98_S2x1x96x96_0_0_2_2 : S2x1x98x98.Slices ![0, 0, 2, 2] S2x1x96x96
  slices_S2x128x98x98_S2x128x96x96_0_0_0_0 : S2x128x98x98.Slices ![0, 0, 0, 0] S2x128x96x96
  slices_S2x128x98x98_S2x128x96x96_0_0_0_1 : S2x128x98x98.Slices ![0, 0, 0, 1] S2x128x96x96
  slices_S2x128x98x98_S2x128x96x96_0_0_0_2 : S2x128x98x98.Slices ![0, 0, 0, 2] S2x128x96x96
  slices_S2x128x98x98_S2x128x96x96_0_0_1_0 : S2x128x98x98.Slices ![0, 0, 1, 0] S2x128x96x96
  slices_S2x128x98x98_S2x128x96x96_0_0_1_1 : S2x128x98x98.Slices ![0, 0, 1, 1] S2x128x96x96
  slices_S2x128x98x98_S2x128x96x96_0_0_1_2 : S2x128x98x98.Slices ![0, 0, 1, 2] S2x128x96x96
  slices_S2x128x98x98_S2x128x96x96_0_0_2_0 : S2x128x98x98.Slices ![0, 0, 2, 0] S2x128x96x96
  slices_S2x128x98x98_S2x128x96x96_0_0_2_1 : S2x128x98x98.Slices ![0, 0, 2, 1] S2x128x96x96
  slices_S2x128x98x98_S2x128x96x96_0_0_2_2 : S2x128x98x98.Slices ![0, 0, 2, 2] S2x128x96x96
  reducesTo_S2x128x96x96_S2x96x96_d1 : S2x128x96x96.ReducesTo [1] S2x96x96
  bcast_S2x96x96_S2x1x96x96_0_2_3 : S2x96x96.BroadcastsInDim S2x1x96x96 (![0, 2, 3] : Fin 3 → Fin S2x1x96x96.rank)
  pads_S2x19x96x96_S2x19x98x98_000_000_110_110 : S2x19x96x96.Pads (![0, 0, 1, 1] : Fin 4 → Nat) ![0, 0, 1, 1] ![0, 0, 0, 0] S2x19x98x98
  reducesTo_S2x19x98x98_S2x98x98_d1 : S2x19x98x98.ReducesTo [1] S2x98x98
  bcast_S_S2x98x98 : S_.BroadcastsInDim S2x98x98 (![] : Fin 0 → Fin S2x98x98.rank)
  bcast_S2x1x98x98_S2x19x98x98_0_1_2_3 : S2x1x98x98.BroadcastsInDim S2x19x98x98 (![0, 1, 2, 3] : Fin 4 → Fin S2x19x98x98.rank)
  slices_S2x19x98x98_S2x19x96x96_0_0_0_0 : S2x19x98x98.Slices ![0, 0, 0, 0] S2x19x96x96
  slices_S2x19x98x98_S2x19x96x96_0_0_0_1 : S2x19x98x98.Slices ![0, 0, 0, 1] S2x19x96x96
  slices_S2x19x98x98_S2x19x96x96_0_0_0_2 : S2x19x98x98.Slices ![0, 0, 0, 2] S2x19x96x96
  slices_S2x19x98x98_S2x19x96x96_0_0_1_0 : S2x19x98x98.Slices ![0, 0, 1, 0] S2x19x96x96
  slices_S2x19x98x98_S2x19x96x96_0_0_1_1 : S2x19x98x98.Slices ![0, 0, 1, 1] S2x19x96x96
  slices_S2x19x98x98_S2x19x96x96_0_0_1_2 : S2x19x98x98.Slices ![0, 0, 1, 2] S2x19x96x96
  slices_S2x19x98x98_S2x19x96x96_0_0_2_0 : S2x19x98x98.Slices ![0, 0, 2, 0] S2x19x96x96
  slices_S2x19x98x98_S2x19x96x96_0_0_2_1 : S2x19x98x98.Slices ![0, 0, 2, 1] S2x19x96x96
  slices_S2x19x98x98_S2x19x96x96_0_0_2_2 : S2x19x98x98.Slices ![0, 0, 2, 2] S2x19x96x96
  reducesTo_S2x19x96x96_S2x96x96_d1 : S2x19x96x96.ReducesTo [1] S2x96x96
  bcast_S_S2x19x96x96 : S_.BroadcastsInDim S2x19x96x96 (![] : Fin 0 → Fin S2x19x96x96.rank)

variable [Facts]

def fn_pad {F : FTy → Type} [FloatOps F] (arg0 : FVec F S2x128x96x96 .f32) (arg1 : IVec S_ 32) : FVec F S2x128x98x98 .f32 :=
  let v0 : FVec F S_ .f32 := sitofp .f32 arg1
  let v1 : FVec F S2x128x98x98 .f32 := (fun x v => pad S2x128x98x98 ![0, 0, 1, 1] ![0, 0, 1, 1] ![0, 0, 0, 0] x v pads_S2x128x96x96_S2x128x98x98_000_000_110_110 h_S_) arg0 v0
  v1

def fn_pad_0 {F : FTy → Type} [FloatOps F] (arg0 : FVec F S2x19x96x96 .f32) (arg1 : IVec S_ 32) : FVec F S2x19x98x98 .f32 :=
  let v0 : FVec F S_ .f32 := sitofp .f32 arg1
  let v1 : FVec F S2x19x98x98 .f32 := (fun x v => pad S2x19x98x98 ![0, 0, 1, 1] ![0, 0, 1, 1] ![0, 0, 0, 0] x v pads_S2x19x96x96_S2x19x98x98_000_000_110_110 h_S_) arg0 v0
  v1

def fn_part12 {F : FTy → Type} [FloatOps F] (main_v222 : IVec S2x1x96x96 1) (main_v225 : IVec S2x1x96x96 1) (main_v228 : IVec S2x19x96x96 1) (main_v261 : IVec S2x1x96x96 1) : IVec S2x19x96x96 1 × IVec S2x1x96x96 1 :=
  let main_v262 : IVec S2x1x96x96 1 := andi main_v261 main_v222
  let main_v263 : IVec S2x1x96x96 1 := andi main_v262 main_v225
  (main_v228, main_v263)

def fn_part11 {F : FTy → Type} [FloatOps F] (main_v150 : IVec S2x1x96x96 1) (main_v153 : IVec S2x1x96x96 1) (main_v156 : IVec S2x1x96x96 1) (main_v159 : IVec S2x1x96x96 1) (main_v162 : IVec S2x1x96x96 1) (main_v165 : IVec S2x1x96x96 1) (main_v168 : IVec S2x1x96x96 1) (main_v171 : IVec S2x1x96x96 1) (main_v174 : IVec S2x1x96x96 1) (main_v177 : IVec S2x1x96x96 1) (main_v180 : IVec S2x1x96x96 1) (main_v183 : IVec S2x1x96x96 1) (main_v186 : IVec S2x1x96x96 1) (main_v189 : IVec S2x1x96x96 1) (main_v192 : IVec S2x1x96x96 1) (main_v195 : IVec S2x1x96x96 1) (main_v198 : IVec S2x1x96x96 1) (main_v201 : IVec S2x1x96x96 1) (main_v204 : IVec S2x1x96x96 1) (main_v207 : IVec S2x1x96x96 1) (main_v210 : IVec S2x1x96x96 1) (main_v213 : IVec S2x1x96x96 1) (main_v216 : IVec S2x1x96x96 1) (main_v219 : IVec S2x1x96x96 1) (main_v222 : IVec S2x1x96x96 1) (main_v225 : IVec S2x1x96x96 1) (main_v228 : IVec S2x19x96x96 1) (main_v237 : IVec S2x1x96x96 1) : IVec S2x19x96x96 1 × IVec S2x1x96x96 1 :=
  let main_v238 : IVec S2x1x96x96 1 := andi main_v237 main_v150
  let main_v239 : IVec S2x1x96x96 1 := andi main_v238 main_v153
  let main_v240 : IVec S2x1x96x96 1 := andi main_v239 main_v156
  let main_v241 : IVec S2x1x96x96 1 := andi main_v240 main_v159
  let main_v242 : IVec S2x1x96x96 1 := andi main_v241 main_v162
  let main_v243 : IVec S2x1x96x96 1 := andi main_v242 main_v165
  let main_v244 : IVec S2x1x96x96 1 := andi main_v243 main_v168
  let main_v245 : IVec S2x1x96x96 1 := andi main_v244 main_v171
  let main_v246 : IVec S2x1x96x96 1 := andi main_v245 main_v174
  let main_v247 : IVec S2x1x96x96 1 := andi main_v246 main_v177
  let main_v248 : IVec S2x1x96x96 1 := andi main_v247 main_v180
  let main_v249 : IVec S2x1x96x96 1 := andi main_v248 main_v183
  let main_v250 : IVec S2x1x96x96 1 := andi main_v249 main_v186
  let main_v251 : IVec S2x1x96x96 1 := andi main_v250 main_v189
  let main_v252 : IVec S2x1x96x96 1 := andi main_v251 main_v192
  let main_v253 : IVec S2x1x96x96 1 := andi main_v252 main_v195
  let main_v254 : IVec S2x1x96x96 1 := andi main_v253 main_v198
  let main_v255 : IVec S2x1x96x96 1 := andi main_v254 main_v201
  let main_v256 : IVec S2x1x96x96 1 := andi main_v255 main_v204
  let main_v257 : IVec S2x1x96x96 1 := andi main_v256 main_v207
  let main_v258 : IVec S2x1x96x96 1 := andi main_v257 main_v210
  let main_v259 : IVec S2x1x96x96 1 := andi main_v258 main_v213
  let main_v260 : IVec S2x1x96x96 1 := andi main_v259 main_v216
  let main_v261 : IVec S2x1x96x96 1 := andi main_v260 main_v219
  fn_part12 (F := F) main_v222 main_v225 main_v228 main_v261

def fn_part10 {F : FTy → Type} [FloatOps F] (main_arg0 : FVec F S2x19x96x96 .f32) (main_v59 : FVec F S2x1x96x96 .f32) (main_v64 : FVec F S2x1x96x96 .f32) (main_v69 : FVec F S2x1x96x96 .f32) (main_v108 : FVec F S2x1x96x96 .f32) (main_v111 : FVec F S2x1x96x96 .f32) (main_v114 : FVec F S2x1x96x96 .f32) (main_v117 : FVec F S2x1x96x96 .f32) (main_v120 : IVec S2x1x96x96 1) (main_v123 : IVec S2x1x96x96 1) (main_v126 : IVec S2x1x96x96 1) (main_v129 : IVec S2x1x96x96 1) (main_v132 : IVec S2x1x96x96 1) (main_v135 : IVec S2x1x96x96 1) (main_v138 : IVec S2x1x96x96 1) (main_v141 : IVec S2x1x96x96 1) (main_v144 : IVec S2x1x96x96 1) (main_v147 : IVec S2x1x96x96 1) (main_v150 : IVec S2x1x96x96 1) (main_v153 : IVec S2x1x96x96 1) (main_v156 : IVec S2x1x96x96 1) (main_v159 : IVec S2x1x96x96 1) (main_v162 : IVec S2x1x96x96 1) (main_v165 : IVec S2x1x96x96 1) (main_v168 : IVec S2x1x96x96 1) (main_v171 : IVec S2x1x96x96 1) (main_v174 : IVec S2x1x96x96 1) (main_v177 : IVec S2x1x96x96 1) (main_v180 : IVec S2x1x96x96 1) (main_v183 : IVec S2x1x96x96 1) (main_v186 : IVec S2x1x96x96 1) (main_v189 : IVec S2x1x96x96 1) (main_v192 : IVec S2x1x96x96 1) (main_v195 : IVec S2x1x96x96 1) (main_v198 : IVec S2x1x96x96 1) (main_v201 : IVec S2x1x96x96 1) (main_v204 : IVec S2x1x96x96 1) (main_v207 : IVec S2x1x96x96 1) (main_v210 : IVec S2x1x96x96 1) (main_v213 : IVec S2x1x96x96 1) (main_v214 : IVec S2x1x96x96 1) : IVec S2x19x96x96 1 × IVec S2x1x96x96 1 :=
  let main_v215 : IVec S2x1x96x96 1 := cmpf .oeq main_v108 main_v117
  let main_v216 : IVec S2x1x96x96 1 := ori main_v214 main_v215
  let main_v217 : IVec S2x1x96x96 1 := cmpf .une main_v59 main_v64
  let main_v218 : IVec S2x1x96x96 1 := cmpf .oeq main_v111 main_v114
  let main_v219 : IVec S2x1x96x96 1 := ori main_v217 main_v218
  let main_v220 : IVec S2x1x96x96 1 := cmpf .une main_v59 main_v69
  let main_v221 : IVec S2x1x96x96 1 := cmpf .oeq main_v111 main_v117
  let main_v222 : IVec S2x1x96x96 1 := ori main_v220 main_v221
  let main_v223 : IVec S2x1x96x96 1 := cmpf .une main_v64 main_v69
  let main_v224 : IVec S2x1x96x96 1 := cmpf .oeq main_v114 main_v117
  let main_v225 : IVec S2x1x96x96 1 := ori main_v223 main_v224
  let main_v226 : FVec F S2x19x96x96 .f32 := Host.absf main_arg0
  let main_cst_23 : FVec F S_ .f32 := constant S_ .f32 0x7F800000#32
  let main_v227 : FVec F S2x19x96x96 .f32 := broadcastInDim S2x19x96x96 ![] bcast_S_S2x19x96x96 main_cst_23
  let main_v228 : IVec S2x19x96x96 1 := cmpf .olt main_v226 main_v227
  let main_v229 : IVec S2x1x96x96 1 := andi main_v120 main_v123
  let main_v230 : IVec S2x1x96x96 1 := andi main_v229 main_v126
  let main_v231 : IVec S2x1x96x96 1 := andi main_v230 main_v129
  let main_v232 : IVec S2x1x96x96 1 := andi main_v231 main_v132
  let main_v233 : IVec S2x1x96x96 1 := andi main_v232 main_v135
  let main_v234 : IVec S2x1x96x96 1 := andi main_v233 main_v138
  let main_v235 : IVec S2x1x96x96 1 := andi main_v234 main_v141
  let main_v236 : IVec S2x1x96x96 1 := andi main_v235 main_v144
  let main_v237 : IVec S2x1x96x96 1 := andi main_v236 main_v147
  fn_part11 (F := F) main_v150 main_v153 main_v156 main_v159 main_v162 main_v165 main_v168 main_v171 main_v174 main_v177 main_v180 main_v183 main_v186 main_v189 main_v192 main_v195 main_v198 main_v201 main_v204 main_v207 main_v210 main_v213 main_v216 main_v219 main_v222 main_v225 main_v228 main_v237

def fn_part9 {F : FTy → Type} [FloatOps F] (main_arg0 : FVec F S2x19x96x96 .f32) (main_v44 : FVec F S2x1x96x96 .f32) (main_v49 : FVec F S2x1x96x96 .f32) (main_v54 : FVec F S2x1x96x96 .f32) (main_v59 : FVec F S2x1x96x96 .f32) (main_v64 : FVec F S2x1x96x96 .f32) (main_v69 : FVec F S2x1x96x96 .f32) (main_v102 : FVec F S2x1x96x96 .f32) (main_v105 : FVec F S2x1x96x96 .f32) (main_v108 : FVec F S2x1x96x96 .f32) (main_v111 : FVec F S2x1x96x96 .f32) (main_v114 : FVec F S2x1x96x96 .f32) (main_v117 : FVec F S2x1x96x96 .f32) (main_v120 : IVec S2x1x96x96 1) (main_v123 : IVec S2x1x96x96 1) (main_v126 : IVec S2x1x96x96 1) (main_v129 : IVec S2x1x96x96 1) (main_v132 : IVec S2x1x96x96 1) (main_v135 : IVec S2x1x96x96 1) (main_v138 : IVec S2x1x96x96 1) (main_v141 : IVec S2x1x96x96 1) (main_v144 : IVec S2x1x96x96 1) (main_v147 : IVec S2x1x96x96 1) (main_v150 : IVec S2x1x96x96 1) (main_v153 : IVec S2x1x96x96 1) (main_v156 : IVec S2x1x96x96 1) (main_v159 : IVec S2x1x96x96 1) (main_v162 : IVec S2x1x96x96 1) (main_v165 : IVec S2x1x96x96 1) (main_v168 : IVec S2x1x96x96 1) (main_v171 : IVec S2x1x96x96 1) (main_v174 : IVec S2x1x96x96 1) (main_v177 : IVec S2x1x96x96 1) (main_v180 : IVec S2x1x96x96 1) (main_v183 : IVec S2x1x96x96 1) (main_v186 : IVec S2x1x96x96 1) (main_v189 : IVec S2x1x96x96 1) (main_v190 : IVec S2x1x96x96 1) : IVec S2x19x96x96 1 × IVec S2x1x96x96 1 :=
  let main_v191 : IVec S2x1x96x96 1 := cmpf .oeq main_v102 main_v114
  let main_v192 : IVec S2x1x96x96 1 := ori main_v190 main_v191
  let main_v193 : IVec S2x1x96x96 1 := cmpf .une main_v44 main_v69
  let main_v194 : IVec S2x1x96x96 1 := cmpf .oeq main_v102 main_v117
  let main_v195 : IVec S2x1x96x96 1 := ori main_v193 main_v194
  let main_v196 : IVec S2x1x96x96 1 := cmpf .une main_v49 main_v54
  let main_v197 : IVec S2x1x96x96 1 := cmpf .oeq main_v105 main_v108
  let main_v198 : IVec S2x1x96x96 1 := ori main_v196 main_v197
  let main_v199 : IVec S2x1x96x96 1 := cmpf .une main_v49 main_v59
  let main_v200 : IVec S2x1x96x96 1 := cmpf .oeq main_v105 main_v111
  let main_v201 : IVec S2x1x96x96 1 := ori main_v199 main_v200
  let main_v202 : IVec S2x1x96x96 1 := cmpf .une main_v49 main_v64
  let main_v203 : IVec S2x1x96x96 1 := cmpf .oeq main_v105 main_v114
  let main_v204 : IVec S2x1x96x96 1 := ori main_v202 main_v203
  let main_v205 : IVec S2x1x96x96 1 := cmpf .une main_v49 main_v69
  let main_v206 : IVec S2x1x96x96 1 := cmpf .oeq main_v105 main_v117
  let main_v207 : IVec S2x1x96x96 1 := ori main_v205 main_v206
  let main_v208 : IVec S2x1x96x96 1 := cmpf .une main_v54 main_v59
  let main_v209 : IVec S2x1x96x96 1 := cmpf .oeq main_v108 main_v111
  let main_v210 : IVec S2x1x96x96 1 := ori main_v208 main_v209
  let main_v211 : IVec S2x1x96x96 1 := cmpf .une main_v54 main_v64
  let main_v212 : IVec S2x1x96x96 1 := cmpf .oeq main_v108 main_v114
  let main_v213 : IVec S2x1x96x96 1 := ori main_v211 main_v212
  let main_v214 : IVec S2x1x96x96 1 := cmpf .une main_v54 main_v69
  fn_part10 (F := F) main_arg0 main_v59 main_v64 main_v69 main_v108 main_v111 main_v114 main_v117 main_v120 main_v123 main_v126 main_v129 main_v132 main_v135 main_v138 main_v141 main_v144 main_v147 main_v150 main_v153 main_v156 main_v159 main_v162 main_v165 main_v168 main_v171 main_v174 main_v177 main_v180 main_v183 main_v186 main_v189 main_v192 main_v195 main_v198 main_v201 main_v204 main_v207 main_v210 main_v213 main_v214

def fn_part8 {F : FTy → Type} [FloatOps F] (main_arg0 : FVec F S2x19x96x96 .f32) (main_v39 : FVec F S2x1x96x96 .f32) (main_v44 : FVec F S2x1x96x96 .f32) (main_v49 : FVec F S2x1x96x96 .f32) (main_v54 : FVec F S2x1x96x96 .f32) (main_v59 : FVec F S2x1x96x96 .f32) (main_v64 : FVec F S2x1x96x96 .f32) (main_v69 : FVec F S2x1x96x96 .f32) (main_v99 : FVec F S2x1x96x96 .f32) (main_v102 : FVec F S2x1x96x96 .f32) (main_v105 : FVec F S2x1x96x96 .f32) (main_v108 : FVec F S2x1x96x96 .f32) (main_v111 : FVec F S2x1x96x96 .f32) (main_v114 : FVec F S2x1x96x96 .f32) (main_v117 : FVec F S2x1x96x96 .f32) (main_v120 : IVec S2x1x96x96 1) (main_v123 : IVec S2x1x96x96 1) (main_v126 : IVec S2x1x96x96 1) (main_v129 : IVec S2x1x96x96 1) (main_v132 : IVec S2x1x96x96 1) (main_v135 : IVec S2x1x96x96 1) (main_v138 : IVec S2x1x96x96 1) (main_v141 : IVec S2x1x96x96 1) (main_v144 : IVec S2x1x96x96 1) (main_v147 : IVec S2x1x96x96 1) (main_v150 : IVec S2x1x96x96 1) (main_v153 : IVec S2x1x96x96 1) (main_v156 : IVec S2x1x96x96 1) (main_v159 : IVec S2x1x96x96 1) (main_v162 : IVec S2x1x96x96 1) (main_v165 : IVec S2x1x96x96 1) (main_v166 : IVec S2x1x96x96 1) : IVec S2x19x96x96 1 × IVec S2x1x96x96 1 :=
  let main_v167 : IVec S2x1x96x96 1 := cmpf .oeq main_v99 main_v105
  let main_v168 : IVec S2x1x96x96 1 := ori main_v166 main_v167
  let main_v169 : IVec S2x1x96x96 1 := cmpf .une main_v39 main_v54
  let main_v170 : IVec S2x1x96x96 1 := cmpf .oeq main_v99 main_v108
  let main_v171 : IVec S2x1x96x96 1 := ori main_v169 main_v170
  let main_v172 : IVec S2x1x96x96 1 := cmpf .une main_v39 main_v59
  let main_v173 : IVec S2x1x96x96 1 := cmpf .oeq main_v99 main_v111
  let main_v174 : IVec S2x1x96x96 1 := ori main_v172 main_v173
  let main_v175 : IVec S2x1x96x96 1 := cmpf .une main_v39 main_v64
  let main_v176 : IVec S2x1x96x96 1 := cmpf .oeq main_v99 main_v114
  let main_v177 : IVec S2x1x96x96 1 := ori main_v175 main_v176
  let main_v178 : IVec S2x1x96x96 1 := cmpf .une main_v39 main_v69
  let main_v179 : IVec S2x1x96x96 1 := cmpf .oeq main_v99 main_v117
  let main_v180 : IVec S2x1x96x96 1 := ori main_v178 main_v179
  let main_v181 : IVec S2x1x96x96 1 := cmpf .une main_v44 main_v49
  let main_v182 : IVec S2x1x96x96 1 := cmpf .oeq main_v102 main_v105
  let main_v183 : IVec S2x1x96x96 1 := ori main_v181 main_v182
  let main_v184 : IVec S2x1x96x96 1 := cmpf .une main_v44 main_v54
  let main_v185 : IVec S2x1x96x96 1 := cmpf .oeq main_v102 main_v108
  let main_v186 : IVec S2x1x96x96 1 := ori main_v184 main_v185
  let main_v187 : IVec S2x1x96x96 1 := cmpf .une main_v44 main_v59
  let main_v188 : IVec S2x1x96x96 1 := cmpf .oeq main_v102 main_v111
  let main_v189 : IVec S2x1x96x96 1 := ori main_v187 main_v188
  let main_v190 : IVec S2x1x96x96 1 := cmpf .une main_v44 main_v64
  fn_part9 (F := F) main_arg0 main_v44 main_v49 main_v54 main_v59 main_v64 main_v69 main_v102 main_v105 main_v108 main_v111 main_v114 main_v117 main_v120 main_v123 main_v126 main_v129 main_v132 main_v135 main_v138 main_v141 main_v144 main_v147 main_v150 main_v153 main_v156 main_v159 main_v162 main_v165 main_v168 main_v171 main_v174 main_v177 main_v180 main_v183 main_v186 main_v189 main_v190

def fn_part7 {F : FTy → Type} [FloatOps F] (main_arg0 : FVec F S2x19x96x96 .f32) (main_v34 : FVec F S2x1x96x96 .f32) (main_v39 : FVec F S2x1x96x96 .f32) (main_v44 : FVec F S2x1x96x96 .f32) (main_v49 : FVec F S2x1x96x96 .f32) (main_v54 : FVec F S2x1x96x96 .f32) (main_v59 : FVec F S2x1x96x96 .f32) (main_v64 : FVec F S2x1x96x96 .f32) (main_v69 : FVec F S2x1x96x96 .f32) (main_v96 : FVec F S2x1x96x96 .f32) (main_v99 : FVec F S2x1x96x96 .f32) (main_v102 : FVec F S2x1x96x96 .f32) (main_v105 : FVec F S2x1x96x96 .f32) (main_v108 : FVec F S2x1x96x96 .f32) (main_v111 : FVec F S2x1x96x96 .f32) (main_v114 : FVec F S2x1x96x96 .f32) (main_v117 : FVec F S2x1x96x96 .f32) (main_v120 : IVec S2x1x96x96 1) (main_v123 : IVec S2x1x96x96 1) (main_v126 : IVec S2x1x96x96 1) (main_v129 : IVec S2x1x96x96 1) (main_v132 : IVec S2x1x96x96 1) (main_v135 : IVec S2x1x96x96 1) (main_v138 : IVec S2x1x96x96 1) (main_v141 : IVec S2x1x96x96 1) (main_v142 : IVec S2x1x96x96 1) : IVec S2x19x96x96 1 × IVec S2x1x96x96 1 :=
  let main_v143 : IVec S2x1x96x96 1 := cmpf .oeq main_v96 main_v99
  let main_v144 : IVec S2x1x96x96 1 := ori main_v142 main_v143
  let main_v145 : IVec S2x1x96x96 1 := cmpf .une main_v34 main_v44
  let main_v146 : IVec S2x1x96x96 1 := cmpf .oeq main_v96 main_v102
  let main_v147 : IVec S2x1x96x96 1 := ori main_v145 main_v146
  let main_v148 : IVec S2x1x96x96 1 := cmpf .une main_v34 main_v49
  let main_v149 : IVec S2x1x96x96 1 := cmpf .oeq main_v96 main_v105
  let main_v150 : IVec S2x1x96x96 1 := ori main_v148 main_v149
  let main_v151 : IVec S2x1x96x96 1 := cmpf .une main_v34 main_v54
  let main_v152 : IVec S2x1x96x96 1 := cmpf .oeq main_v96 main_v108
  let main_v153 : IVec S2x1x96x96 1 := ori main_v151 main_v152
  let main_v154 : IVec S2x1x96x96 1 := cmpf .une main_v34 main_v59
  let main_v155 : IVec S2x1x96x96 1 := cmpf .oeq main_v96 main_v111
  let main_v156 : IVec S2x1x96x96 1 := ori main_v154 main_v155
  let main_v157 : IVec S2x1x96x96 1 := cmpf .une main_v34 main_v64
  let main_v158 : IVec S2x1x96x96 1 := cmpf .oeq main_v96 main_v114
  let main_v159 : IVec S2x1x96x96 1 := ori main_v157 main_v158
  let main_v160 : IVec S2x1x96x96 1 := cmpf .une main_v34 main_v69
  let main_v161 : IVec S2x1x96x96 1 := cmpf .oeq main_v96 main_v117
  let main_v162 : IVec S2x1x96x96 1 := ori main_v160 main_v161
  let main_v163 : IVec S2x1x96x96 1 := cmpf .une main_v39 main_v44
  let main_v164 : IVec S2x1x96x96 1 := cmpf .oeq main_v99 main_v102
  let main_v165 : IVec S2x1x96x96 1 := ori main_v163 main_v164
  let main_v166 : IVec S2x1x96x96 1 := cmpf .une main_v39 main_v49
  fn_part8 (F := F) main_arg0 main_v39 main_v44 main_v49 main_v54 main_v59 main_v64 main_v69 main_v99 main_v102 main_v105 main_v108 main_v111 main_v114 main_v117 main_v120 main_v123 main_v126 main_v129 main_v132 main_v135 main_v138 main_v141 main_v144 main_v147 main_v150 main_v153 main_v156 main_v159 main_v162 main_v165 main_v166

def fn_part6 {F : FTy → Type} [FloatOps F] (main_arg0 : FVec F S2x19x96x96 .f32) (main_v29 : FVec F S2x1x96x96 .f32) (main_v34 : FVec F S2x1x96x96 .f32) (main_v39 : FVec F S2x1x96x96 .f32) (main_v44 : FVec F S2x1x96x96 .f32) (main_v49 : FVec F S2x1x96x96 .f32) (main_v54 : FVec F S2x1x96x96 .f32) (main_v59 : FVec F S2x1x96x96 .f32) (main_v64 : FVec F S2x1x96x96 .f32) (main_v69 : FVec F S2x1x96x96 .f32) (main_v93 : FVec F S2x1x96x96 .f32) (main_v96 : FVec F S2x1x96x96 .f32) (main_v99 : FVec F S2x1x96x96 .f32) (main_v102 : FVec F S2x1x96x96 .f32) (main_v105 : FVec F S2x1x96x96 .f32) (main_v108 : FVec F S2x1x96x96 .f32) (main_v111 : FVec F S2x1x96x96 .f32) (main_v114 : FVec F S2x1x96x96 .f32) (main_v117 : FVec F S2x1x96x96 .f32) (main_v118 : IVec S2x1x96x96 1) : IVec S2x19x96x96 1 × IVec S2x1x96x96 1 :=
  let main_v119 : IVec S2x1x96x96 1 := cmpf .oeq main_v93 main_v96
  let main_v120 : IVec S2x1x96x96 1 := ori main_v118 main_v119
  let main_v121 : IVec S2x1x96x96 1 := cmpf .une main_v29 main_v39
  let main_v122 : IVec S2x1x96x96 1 := cmpf .oeq main_v93 main_v99
  let main_v123 : IVec S2x1x96x96 1 := ori main_v121 main_v122
  let main_v124 : IVec S2x1x96x96 1 := cmpf .une main_v29 main_v44
  let main_v125 : IVec S2x1x96x96 1 := cmpf .oeq main_v93 main_v102
  let main_v126 : IVec S2x1x96x96 1 := ori main_v124 main_v125
  let main_v127 : IVec S2x1x96x96 1 := cmpf .une main_v29 main_v49
  let main_v128 : IVec S2x1x96x96 1 := cmpf .oeq main_v93 main_v105
  let main_v129 : IVec S2x1x96x96 1 := ori main_v127 main_v128
  let main_v130 : IVec S2x1x96x96 1 := cmpf .une main_v29 main_v54
  let main_v131 : IVec S2x1x96x96 1 := cmpf .oeq main_v93 main_v108
  let main_v132 : IVec S2x1x96x96 1 := ori main_v130 main_v131
  let main_v133 : IVec S2x1x96x96 1 := cmpf .une main_v29 main_v59
  let main_v134 : IVec S2x1x96x96 1 := cmpf .oeq main_v93 main_v111
  let main_v135 : IVec S2x1x96x96 1 := ori main_v133 main_v134
  let main_v136 : IVec S2x1x96x96 1 := cmpf .une main_v29 main_v64
  let main_v137 : IVec S2x1x96x96 1 := cmpf .oeq main_v93 main_v114
  let main_v138 : IVec S2x1x96x96 1 := ori main_v136 main_v137
  let main_v139 : IVec S2x1x96x96 1 := cmpf .une main_v29 main_v69
  let main_v140 : IVec S2x1x96x96 1 := cmpf .oeq main_v93 main_v117
  let main_v141 : IVec S2x1x96x96 1 := ori main_v139 main_v140
  let main_v142 : IVec S2x1x96x96 1 := cmpf .une main_v34 main_v39
  fn_part7 (F := F) main_arg0 main_v34 main_v39 main_v44 main_v49 main_v54 main_v59 main_v64 main_v69 main_v96 main_v99 main_v102 main_v105 main_v108 main_v111 main_v114 main_v117 main_v120 main_v123 main_v126 main_v129 main_v132 main_v135 main_v138 main_v141 main_v142

def fn_part5 {F : FTy → Type} [FloatOps F] (main_arg0 : FVec F S2x19x96x96 .f32) (main_v29 : FVec F S2x1x96x96 .f32) (main_v34 : FVec F S2x1x96x96 .f32) (main_v39 : FVec F S2x1x96x96 .f32) (main_v44 : FVec F S2x1x96x96 .f32) (main_v49 : FVec F S2x1x96x96 .f32) (main_v54 : FVec F S2x1x96x96 .f32) (main_v59 : FVec F S2x1x96x96 .f32) (main_v64 : FVec F S2x1x96x96 .f32) (main_v69 : FVec F S2x1x96x96 .f32) (main_v86 : FVec F S2x19x96x96 .f32) (main_v87 : FVec F S2x19x96x96 .f32) (main_v88 : FVec F S2x19x96x96 .f32) (main_v89 : FVec F S2x19x96x96 .f32) (main_v90 : FVec F S2x19x96x96 .f32) (main_v93 : FVec F S2x1x96x96 .f32) (main_v96 : FVec F S2x1x96x96 .f32) (main_v99 : FVec F S2x1x96x96 .f32) (main_v100 : FVec F S2x19x96x96 .f32) : IVec S2x19x96x96 1 × IVec S2x1x96x96 1 :=
  let main_cst_17 : FVec F S_ .f32 := constant S_ .f32 0x00000000#32
  let main_v101 : FVec F S2x96x96 .f32 := (fun x v => Host.reduceAdd x v reducesTo_S2x19x96x96_S2x96x96_d1 h_S_) main_v100 main_cst_17
  let main_v102 : FVec F S2x1x96x96 .f32 := broadcastInDim S2x1x96x96 ![0, 2, 3] bcast_S2x96x96_S2x1x96x96_0_2_3 main_v101
  let main_v103 : FVec F S2x19x96x96 .f32 := mulf main_v86 main_v86
  let main_cst_18 : FVec F S_ .f32 := constant S_ .f32 0x00000000#32
  let main_v104 : FVec F S2x96x96 .f32 := (fun x v => Host.reduceAdd x v reducesTo_S2x19x96x96_S2x96x96_d1 h_S_) main_v103 main_cst_18
  let main_v105 : FVec F S2x1x96x96 .f32 := broadcastInDim S2x1x96x96 ![0, 2, 3] bcast_S2x96x96_S2x1x96x96_0_2_3 main_v104
  let main_v106 : FVec F S2x19x96x96 .f32 := mulf main_v86 main_v87
  let main_cst_19 : FVec F S_ .f32 := constant S_ .f32 0x00000000#32
  let main_v107 : FVec F S2x96x96 .f32 := (fun x v => Host.reduceAdd x v reducesTo_S2x19x96x96_S2x96x96_d1 h_S_) main_v106 main_cst_19
  let main_v108 : FVec F S2x1x96x96 .f32 := broadcastInDim S2x1x96x96 ![0, 2, 3] bcast_S2x96x96_S2x1x96x96_0_2_3 main_v107
  let main_v109 : FVec F S2x19x96x96 .f32 := mulf main_v86 main_v88
  let main_cst_20 : FVec F S_ .f32 := constant S_ .f32 0x00000000#32
  let main_v110 : FVec F S2x96x96 .f32 := (fun x v => Host.reduceAdd x v reducesTo_S2x19x96x96_S2x96x96_d1 h_S_) main_v109 main_cst_20
  let main_v111 : FVec F S2x1x96x96 .f32 := broadcastInDim S2x1x96x96 ![0, 2, 3] bcast_S2x96x96_S2x1x96x96_0_2_3 main_v110
  let main_v112 : FVec F S2x19x96x96 .f32 := mulf main_v86 main_v89
  let main_cst_21 : FVec F S_ .f32 := constant S_ .f32 0x00000000#32
  let main_v113 : FVec F S2x96x96 .f32 := (fun x v => Host.reduceAdd x v reducesTo_S2x19x96x96_S2x96x96_d1 h_S_) main_v112 main_cst_21
  let main_v114 : FVec F S2x1x96x96 .f32 := broadcastInDim S2x1x96x96 ![0, 2, 3] bcast_S2x96x96_S2x1x96x96_0_2_3 main_v113
  let main_v115 : FVec F S2x19x96x96 .f32 := mulf main_v86 main_v90
  let main_cst_22 : FVec F S_ .f32 := constant S_ .f32 0x00000000#32
  let main_v116 : FVec F S2x96x96 .f32 := (fun x v => Host.reduceAdd x v reducesTo_S2x19x96x96_S2x96x96_d1 h_S_) main_v115 main_cst_22
  let main_v117 : FVec F S2x1x96x96 .f32 := broadcastInDim S2x1x96x96 ![0, 2, 3] bcast_S2x96x96_S2x1x96x96_0_2_3 main_v116
  let main_v118 : IVec S2x1x96x96 1 := cmpf .une main_v29 main_v34
  fn_part6 (F := F) main_arg0 main_v29 main_v34 main_v39 main_v44 main_v49 main_v54 main_v59 main_v64 main_v69 main_v93 main_v96 main_v99 main_v102 main_v105 main_v108 main_v111 main_v114 main_v117 main_v118

def fn_part4 {F : FTy → Type} [FloatOps F] (main_arg0 : FVec F S2x19x96x96 .f32) (main_v29 : FVec F S2x1x96x96 .f32) (main_v34 : FVec F S2x1x96x96 .f32) (main_v39 : FVec F S2x1x96x96 .f32) (main_v44 : FVec F S2x1x96x96 .f32) (main_v49 : FVec F S2x1x96x96 .f32) (main_v54 : FVec F S2x1x96x96 .f32) (main_v59 : FVec F S2x1x96x96 .f32) (main_v64 : FVec F S2x1x96x96 .f32) (main_v69 : FVec F S2x1x96x96 .f32) (main_v77 : FVec F S2x19x98x98 .f32) (main_v79 : FVec F S2x1x98x98 .f32) : IVec S2x19x96x96 1 × IVec S2x1x96x96 1 :=
  let main_v80 : FVec F S2x19x98x98 .f32 := broadcastInDim S2x19x98x98 ![0, 1, 2, 3] bcast_S2x1x98x98_S2x19x98x98_0_1_2_3 main_v79
  let main_v81 : FVec F S2x19x98x98 .f32 := Host.divf main_v77 main_v80
  let main_v82 : FVec F S2x19x96x96 .f32 := (extractStridedSlice S2x19x96x96 ![0, 0, 0, 0] · slices_S2x19x98x98_S2x19x96x96_0_0_0_0) main_v81
  let main_v83 : FVec F S2x19x96x96 .f32 := (extractStridedSlice S2x19x96x96 ![0, 0, 0, 1] · slices_S2x19x98x98_S2x19x96x96_0_0_0_1) main_v81
  let main_v84 : FVec F S2x19x96x96 .f32 := (extractStridedSlice S2x19x96x96 ![0, 0, 0, 2] · slices_S2x19x98x98_S2x19x96x96_0_0_0_2) main_v81
  let main_v85 : FVec F S2x19x96x96 .f32 := (extractStridedSlice S2x19x96x96 ![0, 0, 1, 0] · slices_S2x19x98x98_S2x19x96x96_0_0_1_0) main_v81
  let main_v86 : FVec F S2x19x96x96 .f32 := (extractStridedSlice S2x19x96x96 ![0, 0, 1, 1] · slices_S2x19x98x98_S2x19x96x96_0_0_1_1) main_v81
  let main_v87 : FVec F S2x19x96x96 .f32 := (extractStridedSlice S2x19x96x96 ![0, 0, 1, 2] · slices_S2x19x98x98_S2x19x96x96_0_0_1_2) main_v81
  let main_v88 : FVec F S2x19x96x96 .f32 := (extractStridedSlice S2x19x96x96 ![0, 0, 2, 0] · slices_S2x19x98x98_S2x19x96x96_0_0_2_0) main_v81
  let main_v89 : FVec F S2x19x96x96 .f32 := (extractStridedSlice S2x19x96x96 ![0, 0, 2, 1] · slices_S2x19x98x98_S2x19x96x96_0_0_2_1) main_v81
  let main_v90 : FVec F S2x19x96x96 .f32 := (extractStridedSlice S2x19x96x96 ![0, 0, 2, 2] · slices_S2x19x98x98_S2x19x96x96_0_0_2_2) main_v81
  let main_v91 : FVec F S2x19x96x96 .f32 := mulf main_v86 main_v82
  let main_cst_14 : FVec F S_ .f32 := constant S_ .f32 0x00000000#32
  let main_v92 : FVec F S2x96x96 .f32 := (fun x v => Host.reduceAdd x v reducesTo_S2x19x96x96_S2x96x96_d1 h_S_) main_v91 main_cst_14
  let main_v93 : FVec F S2x1x96x96 .f32 := broadcastInDim S2x1x96x96 ![0, 2, 3] bcast_S2x96x96_S2x1x96x96_0_2_3 main_v92
  let main_v94 : FVec F S2x19x96x96 .f32 := mulf main_v86 main_v83
  let main_cst_15 : FVec F S_ .f32 := constant S_ .f32 0x00000000#32
  let main_v95 : FVec F S2x96x96 .f32 := (fun x v => Host.reduceAdd x v reducesTo_S2x19x96x96_S2x96x96_d1 h_S_) main_v94 main_cst_15
  let main_v96 : FVec F S2x1x96x96 .f32 := broadcastInDim S2x1x96x96 ![0, 2, 3] bcast_S2x96x96_S2x1x96x96_0_2_3 main_v95
  let main_v97 : FVec F S2x19x96x96 .f32 := mulf main_v86 main_v84
  let main_cst_16 : FVec F S_ .f32 := constant S_ .f32 0x00000000#32
  let main_v98 : FVec F S2x96x96 .f32 := (fun x v => Host.reduceAdd x v reducesTo_S2x19x96x96_S2x96x96_d1 h_S_) main_v97 main_cst_16
  let main_v99 : FVec F S2x1x96x96 .f32 := broadcastInDim S2x1x96x96 ![0, 2, 3] bcast_S2x96x96_S2x1x96x96_0_2_3 main_v98
  let main_v100 : FVec F S2x19x96x96 .f32 := mulf main_v86 main_v85
  fn_part5 (F := F) main_arg0 main_v29 main_v34 main_v39 main_v44 main_v49 main_v54 main_v59 main_v64 main_v69 main_v86 main_v87 main_v88 main_v89 main_v90 main_v93 main_v96 main_v99 main_v100

def fn_part3 {F : FTy → Type} [FloatOps F] (main_arg0 : FVec F S2x19x96x96 .f32) (main_arg2 : FVec F S2x128x96x96 .f32) (main_v11 : FVec F S2x1x96x96 .f32) (main_v14 : FVec F S2x1x96x96 .f32) (main_v15 : FVec F S2x1x96x96 .f32) (main_v24 : FVec F S2x128x96x96 .f32) (main_v29 : FVec F S2x1x96x96 .f32) (main_v34 : FVec F S2x1x96x96 .f32) (main_v39 : FVec F S2x1x96x96 .f32) (main_v44 : FVec F S2x1x96x96 .f32) (main_v49 : FVec F S2x1x96x96 .f32) (main_v54 : FVec F S2x1x96x96 .f32) (main_v59 : FVec F S2x1x96x96 .f32) (main_v60 : FVec F S2x128x96x96 .f32) (main_cst_8 : FVec F S_ .f32) : IVec S2x19x96x96 1 × IVec S2x1x96x96 1 :=
  let main_v61 : FVec F S2x96x96 .f32 := (fun x v => Host.reduceAdd x v reducesTo_S2x128x96x96_S2x96x96_d1 h_S_) main_v60 main_cst_8
  let main_v62 : FVec F S2x1x96x96 .f32 := broadcastInDim S2x1x96x96 ![0, 2, 3] bcast_S2x96x96_S2x1x96x96_0_2_3 main_v61
  let main_v63 : FVec F S2x1x96x96 .f32 := mulf main_v14 main_v11
  let main_v64 : FVec F S2x1x96x96 .f32 := Host.divf main_v62 main_v63
  let main_v65 : FVec F S2x128x96x96 .f32 := mulf main_v24 main_arg2
  let main_cst_9 : FVec F S_ .f32 := constant S_ .f32 0x00000000#32
  let main_v66 : FVec F S2x96x96 .f32 := (fun x v => Host.reduceAdd x v reducesTo_S2x128x96x96_S2x96x96_d1 h_S_) main_v65 main_cst_9
  let main_v67 : FVec F S2x1x96x96 .f32 := broadcastInDim S2x1x96x96 ![0, 2, 3] bcast_S2x96x96_S2x1x96x96_0_2_3 main_v66
  let main_v68 : FVec F S2x1x96x96 .f32 := mulf main_v15 main_v11
  let main_v69 : FVec F S2x1x96x96 .f32 := Host.divf main_v67 main_v68
  let main_c_10 : IVec S_ 32 := constantI S_ 32 0#32
  let main_v70 : FVec F S2x19x98x98 .f32 := fn_pad_0 (F := F) main_arg0 main_c_10
  let main_cst_11 : FVec F S_ .f32 := constant S_ .f32 0xFF800000#32
  let main_v71 : FVec F S2x98x98 .f32 := (fun x v => Host.reduce FloatOps.maximumf x v reducesTo_S2x19x98x98_S2x98x98_d1 h_S_) main_v70 main_cst_11
  let main_cst_12 : FVec F S_ .f32 := constant S_ .f32 0xFF800000#32
  let main_v72 : FVec F S2x98x98 .f32 := broadcastInDim S2x98x98 ![] bcast_S_S2x98x98 main_cst_12
  let main_v73 : FVec F S2x98x98 .f32 := maximumf main_v72 main_v71
  let main_v74 : FVec F S2x1x98x98 .f32 := broadcastInDim S2x1x98x98 ![0, 2, 3] bcast_S2x98x98_S2x1x98x98_0_2_3 main_v73
  let main_v75 : FVec F S2x19x98x98 .f32 := broadcastInDim S2x19x98x98 ![0, 1, 2, 3] bcast_S2x1x98x98_S2x19x98x98_0_1_2_3 main_v74
  let main_v76 : FVec F S2x19x98x98 .f32 := subf main_v70 main_v75
  let main_v77 : FVec F S2x19x98x98 .f32 := Host.exp main_v76
  let main_cst_13 : FVec F S_ .f32 := constant S_ .f32 0x00000000#32
  let main_v78 : FVec F S2x98x98 .f32 := (fun x v => Host.reduceAdd x v reducesTo_S2x19x98x98_S2x98x98_d1 h_S_) main_v77 main_cst_13
  let main_v79 : FVec F S2x1x98x98 .f32 := broadcastInDim S2x1x98x98 ![0, 2, 3] bcast_S2x98x98_S2x1x98x98_0_2_3 main_v78
  fn_part4 (F := F) main_arg0 main_v29 main_v34 main_v39 main_v44 main_v49 main_v54 main_v59 main_v64 main_v69 main_v77 main_v79

def fn_part2 {F : FTy → Type} [FloatOps F] (main_arg0 : FVec F S2x19x96x96 .f32) (main_arg2 : FVec F S2x128x96x96 .f32) (main_v10 : FVec F S2x1x96x96 .f32) (main_v11 : FVec F S2x1x96x96 .f32) (main_v12 : FVec F S2x1x96x96 .f32) (main_v13 : FVec F S2x1x96x96 .f32) (main_v14 : FVec F S2x1x96x96 .f32) (main_v15 : FVec F S2x1x96x96 .f32) (main_v20 : FVec F S2x128x96x96 .f32) (main_v21 : FVec F S2x128x96x96 .f32) (main_v22 : FVec F S2x128x96x96 .f32) (main_v23 : FVec F S2x128x96x96 .f32) (main_v24 : FVec F S2x128x96x96 .f32) (main_v29 : FVec F S2x1x96x96 .f32) (main_v34 : FVec F S2x1x96x96 .f32) (main_v39 : FVec F S2x1x96x96 .f32) (main_v40 : FVec F S2x128x96x96 .f32) (main_cst_4 : FVec F S_ .f32) : IVec S2x19x96x96 1 × IVec S2x1x96x96 1 :=
  let main_v41 : FVec F S2x96x96 .f32 := (fun x v => Host.reduceAdd x v reducesTo_S2x128x96x96_S2x96x96_d1 h_S_) main_v40 main_cst_4
  let main_v42 : FVec F S2x1x96x96 .f32 := broadcastInDim S2x1x96x96 ![0, 2, 3] bcast_S2x96x96_S2x1x96x96_0_2_3 main_v41
  let main_v43 : FVec F S2x1x96x96 .f32 := mulf main_v10 main_v11
  let main_v44 : FVec F S2x1x96x96 .f32 := Host.divf main_v42 main_v43
  let main_v45 : FVec F S2x128x96x96 .f32 := mulf main_v20 main_arg2
  let main_cst_5 : FVec F S_ .f32 := constant S_ .f32 0x00000000#32
  let main_v46 : FVec F S2x96x96 .f32 := (fun x v => Host.reduceAdd x v reducesTo_S2x128x96x96_S2x96x96_d1 h_S_) main_v45 main_cst_5
  let main_v47 : FVec F S2x1x96x96 .f32 := broadcastInDim S2x1x96x96 ![0, 2, 3] bcast_S2x96x96_S2x1x96x96_0_2_3 main_v46
  let main_v48 : FVec F S2x1x96x96 .f32 := mulf main_v11 main_v11
  let main_v49 : FVec F S2x1x96x96 .f32 := Host.divf main_v47 main_v48
  let main_v50 : FVec F S2x128x96x96 .f32 := mulf main_v21 main_arg2
  let main_cst_6 : FVec F S_ .f32 := constant S_ .f32 0x00000000#32
  let main_v51 : FVec F S2x96x96 .f32 := (fun x v => Host.reduceAdd x v reducesTo_S2x128x96x96_S2x96x96_d1 h_S_) main_v50 main_cst_6
  let main_v52 : FVec F S2x1x96x96 .f32 := broadcastInDim S2x1x96x96 ![0, 2, 3] bcast_S2x96x96_S2x1x96x96_0_2_3 main_v51
  let main_v53 : FVec F S2x1x96x96 .f32 := mulf main_v12 main_v11
  let main_v54 : FVec F S2x1x96x96 .f32 := Host.divf main_v52 main_v53
  let main_v55 : FVec F S2x128x96x96 .f32 := mulf main_v22 main_arg2
  let main_cst_7 : FVec F S_ .f32 := constant S_ .f32 0x00000000#32
  let main_v56 : FVec F S2x96x96 .f32 := (fun x v => Host.reduceAdd x v reducesTo_S2x128x96x96_S2x96x96_d1 h_S_) main_v55 main_cst_7
  let main_v57 : FVec F S2x1x96x96 .f32 := broadcastInDim S2x1x96x96 ![0, 2, 3] bcast_S2x96x96_S2x1x96x96_0_2_3 main_v56
  let main_v58 : FVec F S2x1x96x96 .f32 := mulf main_v13 main_v11
  let main_v59 : FVec F S2x1x96x96 .f32 := Host.divf main_v57 main_v58
  let main_v60 : FVec F S2x128x96x96 .f32 := mulf main_v23 main_arg2
  let main_cst_8 : FVec F S_ .f32 := constant S_ .f32 0x00000000#32
  fn_part3 (F := F) main_arg0 main_arg2 main_v11 main_v14 main_v15 main_v24 main_v29 main_v34 main_v39 main_v44 main_v49 main_v54 main_v59 main_v60 main_cst_8

def fn_part1 {F : FTy → Type} [FloatOps F] (main_arg0 : FVec F S2x19x96x96 .f32) (main_arg2 : FVec F S2x128x96x96 .f32) (main_v0 : FVec F S2x128x98x98 .f32) (main_v7 : FVec F S2x1x96x96 .f32) (main_v8 : FVec F S2x1x96x96 .f32) (main_v9 : FVec F S2x1x96x96 .f32) (main_v10 : FVec F S2x1x96x96 .f32) (main_v11 : FVec F S2x1x96x96 .f32) (main_v12 : FVec F S2x1x96x96 .f32) (main_v13 : FVec F S2x1x96x96 .f32) (main_v14 : FVec F S2x1x96x96 .f32) (main_v15 : FVec F S2x1x96x96 .f32) (main_v16 : FVec F S2x128x96x96 .f32) (main_v17 : FVec F S2x128x96x96 .f32) (main_v18 : FVec F S2x128x96x96 .f32) (main_v19 : FVec F S2x128x96x96 .f32) (main_v20 : FVec F S2x128x96x96 .f32) : IVec S2x19x96x96 1 × IVec S2x1x96x96 1 :=
  let main_v21 : FVec F S2x128x96x96 .f32 := (extractStridedSlice S2x128x96x96 ![0, 0, 1, 2] · slices_S2x128x98x98_S2x128x96x96_0_0_1_2) main_v0
  let main_v22 : FVec F S2x128x96x96 .f32 := (extractStridedSlice S2x128x96x96 ![0, 0, 2, 0] · slices_S2x128x98x98_S2x128x96x96_0_0_2_0) main_v0
  let main_v23 : FVec F S2x128x96x96 .f32 := (extractStridedSlice S2x128x96x96 ![0, 0, 2, 1] · slices_S2x128x98x98_S2x128x96x96_0_0_2_1) main_v0
  let main_v24 : FVec F S2x128x96x96 .f32 := (extractStridedSlice S2x128x96x96 ![0, 0, 2, 2] · slices_S2x128x98x98_S2x128x96x96_0_0_2_2) main_v0
  let main_v25 : FVec F S2x128x96x96 .f32 := mulf main_v16 main_arg2
  let main_cst_1 : FVec F S_ .f32 := constant S_ .f32 0x00000000#32
  let main_v26 : FVec F S2x96x96 .f32 := (fun x v => Host.reduceAdd x v reducesTo_S2x128x96x96_S2x96x96_d1 h_S_) main_v25 main_cst_1
  let main_v27 : FVec F S2x1x96x96 .f32 := broadcastInDim S2x1x96x96 ![0, 2, 3] bcast_S2x96x96_S2x1x96x96_0_2_3 main_v26
  let main_v28 : FVec F S2x1x96x96 .f32 := mulf main_v7 main_v11
  let main_v29 : FVec F S2x1x96x96 .f32 := Host.divf main_v27 main_v28
  let main_v30 : FVec F S2x128x96x96 .f32 := mulf main_v17 main_arg2
  let main_cst_2 : FVec F S_ .f32 := constant S_ .f32 0x00000000#32
  let main_v31 : FVec F S2x96x96 .f32 := (fun x v => Host.reduceAdd x v reducesTo_S2x128x96x96_S2x96x96_d1 h_S_) main_v30 main_cst_2
  let main_v32 : FVec F S2x1x96x96 .f32 := broadcastInDim S2x1x96x96 ![0, 2, 3] bcast_S2x96x96_S2x1x96x96_0_2_3 main_v31
  let main_v33 : FVec F S2x1x96x96 .f32 := mulf main_v8 main_v11
  let main_v34 : FVec F S2x1x96x96 .f32 := Host.divf main_v32 main_v33
  let main_v35 : FVec F S2x128x96x96 .f32 := mulf main_v18 main_arg2
  let main_cst_3 : FVec F S_ .f32 := constant S_ .f32 0x00000000#32
  let main_v36 : FVec F S2x96x96 .f32 := (fun x v => Host.reduceAdd x v reducesTo_S2x128x96x96_S2x96x96_d1 h_S_) main_v35 main_cst_3
  let main_v37 : FVec F S2x1x96x96 .f32 := broadcastInDim S2x1x96x96 ![0, 2, 3] bcast_S2x96x96_S2x1x96x96_0_2_3 main_v36
  let main_v38 : FVec F S2x1x96x96 .f32 := mulf main_v9 main_v11
  let main_v39 : FVec F S2x1x96x96 .f32 := Host.divf main_v37 main_v38
  let main_v40 : FVec F S2x128x96x96 .f32 := mulf main_v19 main_arg2
  let main_cst_4 : FVec F S_ .f32 := constant S_ .f32 0x00000000#32
  fn_part2 (F := F) main_arg0 main_arg2 main_v10 main_v11 main_v12 main_v13 main_v14 main_v15 main_v20 main_v21 main_v22 main_v23 main_v24 main_v29 main_v34 main_v39 main_v40 main_cst_4

def fn {F : FTy → Type} [FloatOps F] (main_arg0 : FVec F S2x19x96x96 .f32) (main_arg1 : IVec S2x1x96x96 32) (main_arg2 : FVec F S2x128x96x96 .f32) (main_arg3 : FVec F S2x128x96x96 .f32) (main_arg4 : FVec F S2x3x384x384 .f32) (main_arg5 : FVec F S2x1x96x96 .f32) : IVec S2x19x96x96 1 × IVec S2x1x96x96 1 :=
  let main_c : IVec S_ 32 := constantI S_ 32 0#32
  let main_v0 : FVec F S2x128x98x98 .f32 := fn_pad (F := F) main_arg2 main_c
  let main_v1 : FVec F S2x128x98x98 .f32 := mulf main_v0 main_v0
  let main_cst : FVec F S_ .f32 := constant S_ .f32 0x00000000#32
  let main_v2 : FVec F S2x98x98 .f32 := (fun x v => Host.reduceAdd x v reducesTo_S2x128x98x98_S2x98x98_d1 h_S_) main_v1 main_cst
  let main_v3 : FVec F S2x1x98x98 .f32 := broadcastInDim S2x1x98x98 ![0, 2, 3] bcast_S2x98x98_S2x1x98x98_0_2_3 main_v2
  let main_v4 : FVec F S2x1x98x98 .f32 := Host.sqrt main_v3
  let main_cst_0 : FVec F S_ .f32 := constant S_ .f32 0x322BCC77#32
  let main_v5 : FVec F S2x1x98x98 .f32 := broadcastInDim S2x1x98x98 ![] bcast_S_S2x1x98x98 main_cst_0
  let main_v6 : FVec F S2x1x98x98 .f32 := maximumf main_v4 main_v5
  let main_v7 : FVec F S2x1x96x96 .f32 := (extractStridedSlice S2x1x96x96 ![0, 0, 0, 0] · slices_S2x1x98x98_S2x1x96x96_0_0_0_0) main_v6
  let main_v8 : FVec F S2x1x96x96 .f32 := (extractStridedSlice S2x1x96x96 ![0, 0, 0, 1] · slices_S2x1x98x98_S2x1x96x96_0_0_0_1) main_v6
  let main_v9 : FVec F S2x1x96x96 .f32 := (extractStridedSlice S2x1x96x96 ![0, 0, 0, 2] · slices_S2x1x98x98_S2x1x96x96_0_0_0_2) main_v6
  let main_v10 : FVec F S2x1x96x96 .f32 := (extractStridedSlice S2x1x96x96 ![0, 0, 1, 0] · slices_S2x1x98x98_S2x1x96x96_0_0_1_0) main_v6
  let main_v11 : FVec F S2x1x96x96 .f32 := (extractStridedSlice S2x1x96x96 ![0, 0, 1, 1] · slices_S2x1x98x98_S2x1x96x96_0_0_1_1) main_v6
  let main_v12 : FVec F S2x1x96x96 .f32 := (extractStridedSlice S2x1x96x96 ![0, 0, 1, 2] · slices_S2x1x98x98_S2x1x96x96_0_0_1_2) main_v6
  let main_v13 : FVec F S2x1x96x96 .f32 := (extractStridedSlice S2x1x96x96 ![0, 0, 2, 0] · slices_S2x1x98x98_S2x1x96x96_0_0_2_0) main_v6
  let main_v14 : FVec F S2x1x96x96 .f32 := (extractStridedSlice S2x1x96x96 ![0, 0, 2, 1] · slices_S2x1x98x98_S2x1x96x96_0_0_2_1) main_v6
  let main_v15 : FVec F S2x1x96x96 .f32 := (extractStridedSlice S2x1x96x96 ![0, 0, 2, 2] · slices_S2x1x98x98_S2x1x96x96_0_0_2_2) main_v6
  let main_v16 : FVec F S2x128x96x96 .f32 := (extractStridedSlice S2x128x96x96 ![0, 0, 0, 0] · slices_S2x128x98x98_S2x128x96x96_0_0_0_0) main_v0
  let main_v17 : FVec F S2x128x96x96 .f32 := (extractStridedSlice S2x128x96x96 ![0, 0, 0, 1] · slices_S2x128x98x98_S2x128x96x96_0_0_0_1) main_v0
  let main_v18 : FVec F S2x128x96x96 .f32 := (extractStridedSlice S2x128x96x96 ![0, 0, 0, 2] · slices_S2x128x98x98_S2x128x96x96_0_0_0_2) main_v0
  let main_v19 : FVec F S2x128x96x96 .f32 := (extractStridedSlice S2x128x96x96 ![0, 0, 1, 0] · slices_S2x128x98x98_S2x128x96x96_0_0_1_0) main_v0
  let main_v20 : FVec F S2x128x96x96 .f32 := (extractStridedSlice S2x128x96x96 ![0, 0, 1, 1] · slices_S2x128x98x98_S2x128x96x96_0_0_1_1) main_v0
  fn_part1 (F := F) main_arg0 main_arg2 main_v0 main_v7 main_v8 main_v9 main_v10 main_v11 main_v12 main_v13 main_v14 main_v15 main_v16 main_v17 main_v18 main_v19 main_v20
-- ==== Kernel.lean ====
abbrev S2x19x96x96 : Shape := ⟨4, ![2, 19, 96, 96]⟩
abbrev S2x1x96x96 : Shape := ⟨4, ![2, 1, 96, 96]⟩
abbrev S2x128x96x96 : Shape := ⟨4, ![2, 128, 96, 96]⟩
abbrev S2x3x384x384 : Shape := ⟨4, ![2, 3, 384, 384]⟩
abbrev S1x4 : Shape := ⟨2, ![1, 4]⟩
abbrev S1x19x96x96 : Shape := ⟨4, ![1, 19, 96, 96]⟩
abbrev S1x1x96x96 : Shape := ⟨4, ![1, 1, 96, 96]⟩
abbrev S1x64x96x96 : Shape := ⟨4, ![1, 64, 96, 96]⟩
abbrev S5x96x96 : Shape := ⟨3, ![5, 96, 96]⟩
abbrev S9x96x96 : Shape := ⟨3, ![9, 96, 96]⟩
abbrev S1x8 : Shape := ⟨2, ![1, 8]⟩
abbrev S19x96x96 : Shape := ⟨3, ![19, 96, 96]⟩
abbrev S96x96 : Shape := ⟨2, ![96, 96]⟩
abbrev S1x96x96 : Shape := ⟨3, ![1, 96, 96]⟩
abbrev S19x1x96 : Shape := ⟨3, ![19, 1, 96]⟩
abbrev S19x95x96 : Shape := ⟨3, ![19, 95, 96]⟩
abbrev S19x96x1 : Shape := ⟨3, ![19, 96, 1]⟩
abbrev S19x96x95 : Shape := ⟨3, ![19, 96, 95]⟩
abbrev S96x1 : Shape := ⟨2, ![96, 1]⟩
abbrev S96x95 : Shape := ⟨2, ![96, 95]⟩
abbrev S1x96 : Shape := ⟨2, ![1, 96]⟩
abbrev S95x96 : Shape := ⟨2, ![95, 96]⟩
abbrev S64x96x96 : Shape := ⟨3, ![64, 96, 96]⟩
abbrev S64x96x1 : Shape := ⟨3, ![64, 96, 1]⟩
abbrev S64x96x95 : Shape := ⟨3, ![64, 96, 95]⟩
abbrev S1x95x96 : Shape := ⟨3, ![1, 95, 96]⟩
abbrev S64x95x96 : Shape := ⟨3, ![64, 95, 96]⟩
abbrev S1 : Shape := ⟨1, ![1]⟩
abbrev S1x1x1 : Shape := ⟨3, ![1, 1, 1]⟩
abbrev S1x1 : Shape := ⟨2, ![1, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x19x96x96, .f32⟩
  | .hbm, ⟨1, _⟩ => ⟨S2x1x96x96, .i32⟩
  | .hbm, ⟨2, _⟩ => ⟨S2x128x96x96, .f32⟩
  | .hbm, ⟨3, _⟩ => ⟨S2x128x96x96, .f32⟩
  | .hbm, ⟨4, _⟩ => ⟨S2x3x384x384, .f32⟩
  | .hbm, ⟨5, _⟩ => ⟨S2x1x96x96, .f32⟩
  | .hbm, ⟨6, _⟩ => ⟨S1x4, .f32⟩
  | .local _ .vmem, ⟨0, _⟩ => ⟨S1x19x96x96, .f32⟩
  | .local _ .vmem, ⟨1, _⟩ => ⟨S1x19x96x96, .f32⟩
  | .local _ .vmem, ⟨2, _⟩ => ⟨S1x1x96x96, .i32⟩
  | .local _ .vmem, ⟨3, _⟩ => ⟨S1x1x96x96, .i32⟩
  | .local _ .vmem, ⟨4, _⟩ => ⟨S1x64x96x96, .f32⟩
  | .local _ .vmem, ⟨5, _⟩ => ⟨S1x64x96x96, .f32⟩
  | .local _ .vmem, ⟨6, _⟩ => ⟨S1x64x96x96, .f32⟩
  | .local _ .vmem, ⟨7, _⟩ => ⟨S1x64x96x96, .f32⟩
  | .local _ .vmem, ⟨8, _⟩ => ⟨S1x1x96x96, .f32⟩
  | .local _ .vmem, ⟨9, _⟩ => ⟨S1x1x96x96, .f32⟩
  | .local _ .vmem, ⟨10, _⟩ => ⟨S1x4, .f32⟩
  | .local _ .vmem, ⟨11, _⟩ => ⟨S5x96x96, .f32⟩
  | .local _ .vmem, ⟨12, _⟩ => ⟨S5x96x96, .f32⟩
  | .local _ .vmem, ⟨13, _⟩ => ⟨S9x96x96, .f32⟩
  | .local _ .vmem, ⟨14, _⟩ => ⟨S1x8, .f32⟩
  | _, _ => ⟨S2x19x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v105 : BitVec 1 := Scalar.cmpi .eq arg1 c1_i32
  let v106 : BitVec 32 := Scalar.extui v105
  let c0_i32_75 : BitVec 32 := 0#32
  let v107 : BitVec 1 := Scalar.cmpi .ne v106 c0_i32_75
  v107

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x96x96 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x96x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x96x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x96x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "u" => some ((19⁻¹ : ℝ) : EReal)
  | _ => none
-- ==== ReferenceIdeal.lean ====
abbrev S2x19x96x96 : Shape := ⟨4, ![2, 19, 96, 96]⟩
abbrev S2x1x96x96 : Shape := ⟨4, ![2, 1, 96, 96]⟩
abbrev S2x128x96x96 : Shape := ⟨4, ![2, 128, 96, 96]⟩
abbrev S2x3x384x384 : Shape := ⟨4, ![2, 3, 384, 384]⟩
abbrev S_ : Shape := ⟨0, ![]⟩
abbrev S2x128x98x98 : Shape := ⟨4, ![2, 128, 98, 98]⟩
abbrev S2x128x1x96x96 : Shape := ⟨5, ![2, 128, 1, 96, 96]⟩
abbrev S2x128x9x96x96 : Shape := ⟨5, ![2, 128, 9, 96, 96]⟩
abbrev S2x9x96x96 : Shape := ⟨4, ![2, 9, 96, 96]⟩
abbrev S2x1x98x98 : Shape := ⟨4, ![2, 1, 98, 98]⟩
abbrev S2x1x1x96x96 : Shape := ⟨5, ![2, 1, 1, 96, 96]⟩
abbrev S2x1x9x96x96 : Shape := ⟨5, ![2, 1, 9, 96, 96]⟩
abbrev S2x96x96 : Shape := ⟨3, ![2, 96, 96]⟩
abbrev S2x19x98x98 : Shape := ⟨4, ![2, 19, 98, 98]⟩
abbrev S2x19x1x96x96 : Shape := ⟨5, ![2, 19, 1, 96, 96]⟩
abbrev S2x19x9x96x96 : Shape := ⟨5, ![2, 19, 9, 96, 96]⟩
abbrev S2x96x96x9 : Shape := ⟨4, ![2, 96, 96, 9]⟩
abbrev S2x96x96x5 : Shape := ⟨4, ![2, 96, 96, 5]⟩
abbrev S2x96x96x4 : Shape := ⟨4, ![2, 96, 96, 4]⟩
abbrev S2x96x96x5x1 : Shape := ⟨5, ![2, 96, 96, 5, 1]⟩
abbrev S1 : Shape := ⟨1, ![1]⟩
abbrev S1x1x1x1x1 : Shape := ⟨5, ![1, 1, 1, 1, 1]⟩
abbrev S2x96x96x4x1 : Shape := ⟨5, ![2, 96, 96, 4, 1]⟩
abbrev S2x5x96x96 : Shape := ⟨4, ![2, 5, 96, 96]⟩
abbrev S2x4x96x96 : Shape := ⟨4, ![2, 4, 96, 96]⟩
abbrev S4 : Shape := ⟨1, ![4]⟩
abbrev S1x4 : Shape := ⟨2, ![1, 4]⟩

abbrev nBuf : Space → Nat
  | .hbm => 308
  | .vmem => 0
  | .smem => 0
  | _ => 0

abbrev hbmTy0_0 (i : Nat) : BufTy := match i % 128 with
  | 0 => ⟨S2x19x96x96, .f32⟩
  | 1 => ⟨S2x1x96x96, .i32⟩
  | 2 => ⟨S2x128x96x96, .f32⟩
  | 3 => ⟨S2x128x96x96, .f32⟩
  | 4 => ⟨S2x3x384x384, .f32⟩
  | 5 => ⟨S2x1x96x96, .f32⟩
  | 6 => ⟨S_, .i32⟩
  | 7 => ⟨S2x1x96x96, .i32⟩
  | 8 => ⟨S2x1x96x96, .i1⟩
  | 9 => ⟨S_, .f32⟩
  | 10 => ⟨S2x1x96x96, .f32⟩
  | 11 => ⟨S2x1x96x96, .f32⟩
  | 12 => ⟨S_, .f32⟩
  | 13 => ⟨S2x1x96x96, .f32⟩
  | 14 => ⟨S2x1x96x96, .i1⟩
  | 15 => ⟨S_, .i32⟩
  | 16 => ⟨S_, .f32⟩
  | 17 => ⟨S2x128x98x98, .f32⟩
  | 18 => ⟨S2x128x96x96, .f32⟩
  | 19 => ⟨S2x128x96x96, .f32⟩
  | 20 => ⟨S2x128x96x96, .f32⟩
  | 21 => ⟨S2x128x96x96, .f32⟩
  | 22 => ⟨S2x128x96x96, .f32⟩
  | 23 => ⟨S2x128x96x96, .f32⟩
  | 24 => ⟨S2x128x96x96, .f32⟩
  | 25 => ⟨S2x128x96x96, .f32⟩
  | 26 => ⟨S2x128x96x96, .f32⟩
  | 27 => ⟨S2x128x1x96x96, .f32⟩
  | 28 => ⟨S2x128x1x96x96, .f32⟩
  | 29 => ⟨S2x128x1x96x96, .f32⟩
  | 30 => ⟨S2x128x1x96x96, .f32⟩
  | 31 => ⟨S2x128x1x96x96, .f32⟩
  | 32 => ⟨S2x128x1x96x96, .f32⟩
  | 33 => ⟨S2x128x1x96x96, .f32⟩
  | 34 => ⟨S2x128x1x96x96, .f32⟩
  | 35 => ⟨S2x128x1x96x96, .f32⟩
  | 36 => ⟨S2x128x9x96x96, .f32⟩
  | 37 => ⟨S2x128x1x96x96, .f32⟩
  | 38 => ⟨S2x128x9x96x96, .f32⟩
  | 39 => ⟨S2x128x9x96x96, .f32⟩
  | 40 => ⟨S_, .f32⟩
  | 41 => ⟨S2x9x96x96, .f32⟩
  | 42 => ⟨S2x128x9x96x96, .f32⟩
  | 43 => ⟨S_, .f32⟩
  | 44 => ⟨S2x9x96x96, .f32⟩
  | 45 => ⟨S2x9x96x96, .f32⟩
  | 46 => ⟨S2x128x1x96x96, .f32⟩
  | 47 => ⟨S_, .f32⟩
  | 48 => ⟨S2x1x96x96, .f32⟩
  | 49 => ⟨S2x1x96x96, .f32⟩
  | 50 => ⟨S_, .f32⟩
  | 51 => ⟨S2x9x96x96, .f32⟩
  | 52 => ⟨S2x9x96x96, .f32⟩
  | 53 => ⟨S_, .f32⟩
  | 54 => ⟨S2x1x96x96, .f32⟩
  | 55 => ⟨S2x1x96x96, .f32⟩
  | 56 => ⟨S2x9x96x96, .f32⟩
  | 57 => ⟨S2x9x96x96, .f32⟩
  | 58 => ⟨S2x9x96x96, .f32⟩
  | 59 => ⟨S2x1x96x96, .f32⟩
  | 60 => ⟨S_, .i32⟩
  | 61 => ⟨S_, .f32⟩
  | 62 => ⟨S2x1x98x98, .f32⟩
  | 63 => ⟨S2x1x96x96, .f32⟩
  | 64 => ⟨S2x1x96x96, .f32⟩
  | 65 => ⟨S2x1x96x96, .f32⟩
  | 66 => ⟨S2x1x96x96, .f32⟩
  | 67 => ⟨S2x1x96x96, .f32⟩
  | 68 => ⟨S2x1x96x96, .f32⟩
  | 69 => ⟨S2x1x96x96, .f32⟩
  | 70 => ⟨S2x1x96x96, .f32⟩
  | 71 => ⟨S2x1x96x96, .f32⟩
  | 72 => ⟨S2x1x1x96x96, .f32⟩
  | 73 => ⟨S2x1x1x96x96, .f32⟩
  | 74 => ⟨S2x1x1x96x96, .f32⟩
  | 75 => ⟨S2x1x1x96x96, .f32⟩
  | 76 => ⟨S2x1x1x96x96, .f32⟩
  | 77 => ⟨S2x1x1x96x96, .f32⟩
  | 78 => ⟨S2x1x1x96x96, .f32⟩
  | 79 => ⟨S2x1x1x96x96, .f32⟩
  | 80 => ⟨S2x1x1x96x96, .f32⟩
  | 81 => ⟨S2x1x9x96x96, .f32⟩
  | 82 => ⟨S2x9x96x96, .f32⟩
  | 83 => ⟨S2x9x96x96, .i32⟩
  | 84 => ⟨S2x9x96x96, .i32⟩
  | 85 => ⟨S2x9x96x96, .i1⟩
  | 86 => ⟨S2x9x96x96, .i1⟩
  | 87 => ⟨S2x9x96x96, .i1⟩
  | 88 => ⟨S2x9x96x96, .f32⟩
  | 89 => ⟨S2x9x96x96, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S2x9x96x96, .i1⟩
  | 98 => ⟨S2x9x96x96, .i1⟩
  | 99 => ⟨S2x9x96x96, .i1⟩
  | 100 => ⟨S2x9x96x96, .f32⟩
  | 101 => ⟨S2x9x96x96, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .i32⟩
  | 110 => ⟨S_, .f32⟩
  | 111 => ⟨S2x128x98x98, .f32⟩
  | 112 => ⟨S2x128x96x96, .f32⟩
  | 113 => ⟨S2x128x96x96, .f32⟩
  | 114 => ⟨S2x128x96x96, .f32⟩
  | 115 => ⟨S2x128x96x96, .f32⟩
  | 116 => ⟨S2x128x96x96, .f32⟩
  | 117 => ⟨S2x128x96x96, .f32⟩
  | 118 => ⟨S2x128x96x96, .f32⟩
  | 119 => ⟨S2x128x96x96, .f32⟩
  | 120 => ⟨S2x128x96x96, .f32⟩
  | 121 => ⟨S2x128x1x96x96, .f32⟩
  | 122 => ⟨S2x128x1x96x96, .f32⟩
  | 123 => ⟨S2x128x1x96x96, .f32⟩
  | 124 => ⟨S2x128x1x96x96, .f32⟩
  | 125 => ⟨S2x128x1x96x96, .f32⟩
  | 126 => ⟨S2x128x1x96x96, .f32⟩
  | 127 => ⟨S2x128x1x96x96, .f32⟩
  | _ => ⟨S2x19x96x96, .f32⟩

abbrev hbmTy0_1 (i : Nat) : BufTy := match i % 128 with
  | 0 => ⟨S2x128x1x96x96, .f32⟩
  | 1 => ⟨S2x128x1x96x96, .f32⟩
  | 2 => ⟨S2x128x9x96x96, .f32⟩
  | 3 => ⟨S2x128x1x96x96, .f32⟩
  | 4 => ⟨S2x128x9x96x96, .f32⟩
  | 5 => ⟨S2x128x9x96x96, .f32⟩
  | 6 => ⟨S_, .f32⟩
  | 7 => ⟨S2x9x96x96, .f32⟩
  | 8 => ⟨S2x128x9x96x96, .f32⟩
  | 9 => ⟨S_, .f32⟩
  | 10 => ⟨S2x9x96x96, .f32⟩
  | 11 => ⟨S2x9x96x96, .f32⟩
  | 12 => ⟨S2x128x1x96x96, .f32⟩
  | 13 => ⟨S_, .f32⟩
  | 14 => ⟨S2x1x96x96, .f32⟩
  | 15 => ⟨S2x1x96x96, .f32⟩
  | 16 => ⟨S_, .f32⟩
  | 17 => ⟨S2x9x96x96, .f32⟩
  | 18 => ⟨S2x9x96x96, .f32⟩
  | 19 => ⟨S_, .f32⟩
  | 20 => ⟨S2x1x96x96, .f32⟩
  | 21 => ⟨S2x1x96x96, .f32⟩
  | 22 => ⟨S2x9x96x96, .f32⟩
  | 23 => ⟨S2x9x96x96, .f32⟩
  | 24 => ⟨S2x9x96x96, .f32⟩
  | 25 => ⟨S_, .f32⟩
  | 26 => ⟨S2x96x96, .f32⟩
  | 27 => ⟨S_, .f32⟩
  | 28 => ⟨S2x96x96, .f32⟩
  | 29 => ⟨S2x96x96, .f32⟩
  | 30 => ⟨S2x1x96x96, .f32⟩
  | 31 => ⟨S2x19x96x96, .f32⟩
  | 32 => ⟨S2x19x96x96, .f32⟩
  | 33 => ⟨S2x19x96x96, .f32⟩
  | 34 => ⟨S_, .f32⟩
  | 35 => ⟨S2x96x96, .f32⟩
  | 36 => ⟨S2x1x96x96, .f32⟩
  | 37 => ⟨S2x19x96x96, .f32⟩
  | 38 => ⟨S2x19x96x96, .f32⟩
  | 39 => ⟨S_, .i32⟩
  | 40 => ⟨S_, .f32⟩
  | 41 => ⟨S2x19x98x98, .f32⟩
  | 42 => ⟨S2x19x96x96, .f32⟩
  | 43 => ⟨S2x19x96x96, .f32⟩
  | 44 => ⟨S2x19x96x96, .f32⟩
  | 45 => ⟨S2x19x96x96, .f32⟩
  | 46 => ⟨S2x19x96x96, .f32⟩
  | 47 => ⟨S2x19x96x96, .f32⟩
  | 48 => ⟨S2x19x96x96, .f32⟩
  | 49 => ⟨S2x19x96x96, .f32⟩
  | 50 => ⟨S2x19x96x96, .f32⟩
  | 51 => ⟨S2x19x1x96x96, .f32⟩
  | 52 => ⟨S2x19x1x96x96, .f32⟩
  | 53 => ⟨S2x19x1x96x96, .f32⟩
  | 54 => ⟨S2x19x1x96x96, .f32⟩
  | 55 => ⟨S2x19x1x96x96, .f32⟩
  | 56 => ⟨S2x19x1x96x96, .f32⟩
  | 57 => ⟨S2x19x1x96x96, .f32⟩
  | 58 => ⟨S2x19x1x96x96, .f32⟩
  | 59 => ⟨S2x19x1x96x96, .f32⟩
  | 60 => ⟨S2x19x9x96x96, .f32⟩
  | 61 => ⟨S_, .f32⟩
  | 62 => ⟨S2x9x96x96, .f32⟩
  | 63 => ⟨S_, .f32⟩
  | 64 => ⟨S2x9x96x96, .f32⟩
  | 65 => ⟨S2x9x96x96, .f32⟩
  | 66 => ⟨S2x1x9x96x96, .f32⟩
  | 67 => ⟨S2x19x9x96x96, .f32⟩
  | 68 => ⟨S2x19x9x96x96, .f32⟩
  | 69 => ⟨S2x19x9x96x96, .f32⟩
  | 70 => ⟨S_, .f32⟩
  | 71 => ⟨S2x9x96x96, .f32⟩
  | 72 => ⟨S2x1x9x96x96, .f32⟩
  | 73 => ⟨S2x19x9x96x96, .f32⟩
  | 74 => ⟨S2x19x9x96x96, .f32⟩
  | 75 => ⟨S2x19x1x96x96, .f32⟩
  | 76 => ⟨S2x19x9x96x96, .f32⟩
  | 77 => ⟨S2x19x9x96x96, .f32⟩
  | 78 => ⟨S_, .f32⟩
  | 79 => ⟨S2x9x96x96, .f32⟩
  | 80 => ⟨S2x96x96x9, .f32⟩
  | 81 => ⟨S2x96x96x9, .f32⟩
  | 82 => ⟨S_, .f32⟩
  | 83 => ⟨S2x9x96x96, .f32⟩
  | 84 => ⟨S2x9x96x96, .f32⟩
  | 85 => ⟨S2x96x96x9, .f32⟩
  | 86 => ⟨S2x96x96x5, .f32⟩
  | 87 => ⟨S2x96x96x5, .i32⟩
  | 88 => ⟨S2x96x96x9, .f32⟩
  | 89 => ⟨S2x96x96x4, .f32⟩
  | 90 => ⟨S2x96x96x4, .i32⟩
  | 91 => ⟨S2x96x96x4, .f32⟩
  | 92 => ⟨S_, .i32⟩
  | 93 => ⟨S2x96x96x5, .i32⟩
  | 94 => ⟨S2x96x96x5, .i1⟩
  | 95 => ⟨S_, .i32⟩
  | 96 => ⟨S2x96x96x5, .i32⟩
  | 97 => ⟨S2x96x96x5, .i32⟩
  | 98 => ⟨S2x96x96x5, .i32⟩
  | 99 => ⟨S2x96x96x5x1, .i32⟩
  | 100 => ⟨S1, .i32⟩
  | 101 => ⟨S_, .i32⟩
  | 102 => ⟨S2x96x96x5x1, .i32⟩
  | 103 => ⟨S2x96x96x5x1, .i1⟩
  | 104 => ⟨S1x1x1x1x1, .i32⟩
  | 105 => ⟨S2x96x96x5x1, .i32⟩
  | 106 => ⟨S2x96x96x5x1, .i1⟩
  | 107 => ⟨S2x96x96x5x1, .i1⟩
  | 108 => ⟨S_, .i1⟩
  | 109 => ⟨S2x96x96x5, .i1⟩
  | 110 => ⟨S2x96x96x5, .f32⟩
  | 111 => ⟨S_, .f32⟩
  | 112 => ⟨S2x96x96x5, .f32⟩
  | 113 => ⟨S2x96x96x5, .f32⟩
  | 114 => ⟨S_, .i32⟩
  | 115 => ⟨S2x96x96x4, .i32⟩
  | 116 => ⟨S2x96x96x4, .i1⟩
  | 117 => ⟨S_, .i32⟩
  | 118 => ⟨S2x96x96x4, .i32⟩
  | 119 => ⟨S2x96x96x4, .i32⟩
  | 120 => ⟨S2x96x96x4, .i32⟩
  | 121 => ⟨S2x96x96x4x1, .i32⟩
  | 122 => ⟨S1, .i32⟩
  | 123 => ⟨S_, .i32⟩
  | 124 => ⟨S2x96x96x4x1, .i32⟩
  | 125 => ⟨S2x96x96x4x1, .i1⟩
  | 126 => ⟨S1x1x1x1x1, .i32⟩
  | 127 => ⟨S2x96x96x4x1, .i32⟩
  | _ => ⟨S2x19x96x96, .f32⟩

abbrev hbmTy0_2 (i : Nat) : BufTy := match i % 128 with
  | 0 => ⟨S2x96x96x4x1, .i1⟩
  | 1 => ⟨S2x96x96x4x1, .i1⟩
  | 2 => ⟨S_, .i1⟩
  | 3 => ⟨S2x96x96x4, .i1⟩
  | 4 => ⟨S2x96x96x4, .f32⟩
  | 5 => ⟨S_, .f32⟩
  | 6 => ⟨S2x96x96x4, .f32⟩
  | 7 => ⟨S2x96x96x4, .f32⟩
  | 8 => ⟨S2x96x96x5, .f32⟩
  | 9 => ⟨S2x96x96x5, .f32⟩
  | 10 => ⟨S2x5x96x96, .f32⟩
  | 11 => ⟨S_, .f32⟩
  | 12 => ⟨S2x96x96x4, .f32⟩
  | 13 => ⟨S2x96x96x4, .f32⟩
  | 14 => ⟨S2x96x96x4, .f32⟩
  | 15 => ⟨S2x96x96x4, .f32⟩
  | 16 => ⟨S2x4x96x96, .f32⟩
  | 17 => ⟨S2x5x96x96, .i1⟩
  | 18 => ⟨S2x5x96x96, .f32⟩
  | 19 => ⟨S2x5x96x96, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S2x4x96x96, .i1⟩
  | 28 => ⟨S2x4x96x96, .f32⟩
  | 29 => ⟨S2x4x96x96, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S1, .f32⟩
  | 47 => ⟨S1, .f32⟩
  | 48 => ⟨S1, .f32⟩
  | 49 => ⟨S1, .f32⟩
  | 50 => ⟨S4, .f32⟩
  | 51 => ⟨S1x4, .f32⟩
  | _ => ⟨S2x19x96x96, .f32⟩

abbrev hbmTy (i : Nat) : BufTy := match i / 128 with
  | 0 => hbmTy0_0 i
  | 1 => hbmTy0_1 i
  | 2 => hbmTy0_2 i
  | _ => ⟨S2x19x96x96, .f32⟩

abbrev bufTy : (tb : Table) → Fin (tcTables nBuf tb) → BufTy
  | .hbm, ⟨i, _⟩ => hbmTy i
  | _, _ => ⟨S2x19x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_call1_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩
abbrev main_v84 : Ref sig .tc := ⟨.hbm, 108, rfl⟩
abbrev main_c_14 : Ref sig .tc := ⟨.hbm, 109, rfl⟩
abbrev main_call2_v0 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_15 : Ref sig .tc := ⟨.hbm, 134, rfl⟩
abbrev main_v108 : Ref sig .tc := ⟨.hbm, 135, rfl⟩
abbrev main_v109 : Ref sig .tc := ⟨.hbm, 136, rfl⟩
abbrev main_cst_16 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_17 : Ref sig .tc := ⟨.hbm, 141, rfl⟩
abbrev main_v113 : Ref sig .tc := ⟨.hbm, 142, rfl⟩
abbrev main_v114 : Ref sig .tc := ⟨.hbm, 143, rfl⟩
abbrev main_cst_18 : Ref sig .tc := ⟨.hbm, 144, rfl⟩
abbrev main_v115 : Ref sig .tc := ⟨.hbm, 145, rfl⟩
abbrev main_v116 : Ref sig .tc := ⟨.hbm, 146, rfl⟩
abbrev main_cst_19 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_20 : Ref sig .tc := ⟨.hbm, 153, rfl⟩
abbrev main_v122 : Ref sig .tc := ⟨.hbm, 154, rfl⟩
abbrev main_cst_21 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_22 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_c_23 : Ref sig .tc := ⟨.hbm, 167, rfl⟩
abbrev main_call3_v0 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_24 : Ref sig .tc := ⟨.hbm, 189, rfl⟩
abbrev main_v153 : Ref sig .tc := ⟨.hbm, 190, rfl⟩
abbrev main_cst_25 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_26 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_27 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_28 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_values : Ref sig .tc := ⟨.hbm, 214, rfl⟩
abbrev main_indices : Ref sig .tc := ⟨.hbm, 215, rfl⟩
abbrev main_v173 : Ref sig .tc := ⟨.hbm, 216, rfl⟩
abbrev main_values_29 : Ref sig .tc := ⟨.hbm, 217, rfl⟩
abbrev main_indices_30 : Ref sig .tc := ⟨.hbm, 218, rfl⟩
abbrev main_v174 : Ref sig .tc := ⟨.hbm, 219, rfl⟩
abbrev main_call4_c : Ref sig .tc := ⟨.hbm, 220, rfl⟩
abbrev main_call4_v0 : Ref sig .tc := ⟨.hbm, 221, rfl⟩
abbrev main_call4_v1 : Ref sig .tc := ⟨.hbm, 222, rfl⟩
abbrev main_call4_c_0 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_call4_v5 : Ref sig .tc := ⟨.hbm, 227, rfl⟩
abbrev main_call4_c_1 : Ref sig .tc := ⟨.hbm, 228, rfl⟩
abbrev main_call4_c_2 : Ref sig .tc := ⟨.hbm, 229, rfl⟩
abbrev main_call4_v6 : Ref sig .tc := ⟨.hbm, 230, rfl⟩
abbrev main_call4_v7 : Ref sig .tc := ⟨.hbm, 231, rfl⟩
abbrev main_call4_v8 : Ref sig .tc := ⟨.hbm, 232, rfl⟩
abbrev main_call4_v9 : Ref sig .tc := ⟨.hbm, 233, rfl⟩
abbrev main_call4_v10 : Ref sig .tc := ⟨.hbm, 234, rfl⟩
abbrev main_call4_v11 : Ref sig .tc := ⟨.hbm, 235, rfl⟩
abbrev main_call4_c_3 : Ref sig .tc := ⟨.hbm, 236, rfl⟩
abbrev main_call4_v12 : Ref sig .tc := ⟨.hbm, 237, rfl⟩
abbrev main_call4_v13 : Ref sig .tc := ⟨.hbm, 238, rfl⟩
abbrev main_call4_cst : Ref sig .tc := ⟨.hbm, 239, rfl⟩
abbrev main_call4_v14 : Ref sig .tc := ⟨.hbm, 240, rfl⟩
abbrev main_v175 : Ref sig .tc := ⟨.hbm, 241, rfl⟩
abbrev main_call5_c : Ref sig .tc := ⟨.hbm, 242, rfl⟩
abbrev main_call5_v0 : Ref sig .tc := ⟨.hbm, 243, rfl⟩
abbrev main_call5_v1 : Ref sig .tc := ⟨.hbm, 244, rfl⟩
abbrev main_call5_c_0 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_v5 : Ref sig .tc := ⟨.hbm, 249, rfl⟩
abbrev main_call5_c_1 : Ref sig .tc := ⟨.hbm, 250, rfl⟩
abbrev main_call5_c_2 : Ref sig .tc := ⟨.hbm, 251, rfl⟩
abbrev main_call5_v6 : Ref sig .tc := ⟨.hbm, 252, rfl⟩
abbrev main_call5_v7 : Ref sig .tc := ⟨.hbm, 253, rfl⟩
abbrev main_call5_v8 : Ref sig .tc := ⟨.hbm, 254, rfl⟩
abbrev main_call5_v9 : Ref sig .tc := ⟨.hbm, 255, rfl⟩
abbrev main_call5_v10 : Ref sig .tc := ⟨.hbm, 256, rfl⟩
abbrev main_call5_v11 : Ref sig .tc := ⟨.hbm, 257, rfl⟩
abbrev main_call5_c_3 : Ref sig .tc := ⟨.hbm, 258, rfl⟩
abbrev main_call5_v12 : Ref sig .tc := ⟨.hbm, 259, rfl⟩
abbrev main_call5_v13 : Ref sig .tc := ⟨.hbm, 260, rfl⟩
abbrev main_call5_cst : Ref sig .tc := ⟨.hbm, 261, rfl⟩
abbrev main_call5_v14 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_cst_31 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_cst_32 : Ref sig .tc := ⟨.hbm, 276, rfl⟩
abbrev main_v188 : Ref sig .tc := ⟨.hbm, 277, rfl⟩
abbrev main_cst_33 : Ref sig .tc := ⟨.hbm, 278, rfl⟩
abbrev main_v189 : Ref sig .tc := ⟨.hbm, 279, rfl⟩
abbrev main_cst_34 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_cst_35 : Ref sig .tc := ⟨.hbm, 286, rfl⟩
abbrev main_v195 : Ref sig .tc := ⟨.hbm, 287, rfl⟩
abbrev main_cst_36 : Ref sig .tc := ⟨.hbm, 288, rfl⟩
abbrev main_v196 : Ref sig .tc := ⟨.hbm, 289, rfl⟩
abbrev main_cst_37 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_cst_38 : Ref sig .tc := ⟨.hbm, 294, rfl⟩
abbrev main_v200 : Ref sig .tc := ⟨.hbm, 295, rfl⟩
abbrev main_cst_39 : Ref sig .tc := ⟨.hbm, 296, rfl⟩
abbrev main_v201 : Ref sig .tc := ⟨.hbm, 297, rfl⟩
abbrev main_cst_40 : Ref sig .tc := ⟨.hbm, 298, rfl⟩
abbrev main_v202 : Ref sig .tc := ⟨.hbm, 299, rfl⟩
abbrev main_cst_41 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩

abbrev nD : Nat := 1
abbrev τ : Topo := Topo.v7x

variable {F : FTy → Type} [FloatOps F]
-- ==== Proof.KernelIdealBufs.lean ====
module

public import proofs.«01_k».proof.Proof.Gen.KernelIdeal.Frame
public import proofs.«01_k».proof.Proof.Gen.KernelIdeal.Skeleton

/-! The buffers the body is called with, and what the two kinds of grid point ask of the coordinates. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers a call of the body works on, each of them whole. -/
structure Bufs where
  /-- The window over the logits. -/
  a2 : Memref sig .tc .vmem S1x19x96x96 .f32
  h2 : a2.IsWhole
  /-- The window over the labels. -/
  a3 : Memref sig .tc .vmem S1x1x96x96 .i32
  h3 : a3.IsWhole
  /-- The window over the averaged features. -/
  a4 : Memref sig .tc .vmem S1x64x96x96 .f32
  h4 : a4.IsWhole
  /-- The window over the source features. -/
  a5 : Memref sig .tc .vmem S1x64x96x96 .f32
  h5 : a5.IsWhole
  /-- The window over the mix masks. -/
  a6 : Memref sig .tc .vmem S1x1x96x96 .f32
  h6 : a6.IsWhole
  /-- The window over the result. -/
  a7 : Memref sig .tc .vmem S1x4 .f32
  h7 : a7.IsWhole
  /-- The source features' channel sums. -/
  a8 : Memref sig .tc .vmem S5x96x96 .f32
  h8 : a8.IsWhole
  /-- The averaged features' channel sums. -/
  a9 : Memref sig .tc .vmem S5x96x96 .f32
  h9 : a9.IsWhole
  /-- The nine planes of cross probabilities. -/
  a10 : Memref sig .tc .vmem S9x96x96 .f32
  h10 : a10.IsWhole
  /-- The sums carried from one batch entry to the next. -/
  a11 : Memref sig .tc .vmem S1x8 .f32
  h11 : a11.IsWhole

/-- The first channel block of a batch entry is up: the body clears the sums and stores the planes. -/
abbrev Opens (i : grid0.Coords) : Prop :=
  Scalar.cmpi .ne (Scalar.extui (Scalar.cmpi .eq (BitVec.ofNat 32 (i 1).val) 0#32)) 0#32 = 1#1

/-- The last channel block of a batch entry is up: the body turns the sums into the result. -/
abbrev Closes (i : grid0.Coords) : Prop := k0_cond2 i = 1#1

/-- The body on the buffers `B`. -/
abbrev run (i : grid0.Coords) (B : Bufs) : Prog (TpuEff nD τ sig (Elt F) Λ₀ .tc) PUnit :=
  cc0__kernel_body i B.a2 B.h2 B.a3 B.h3 B.a4 B.h4 B.a5 B.h5 B.a6 B.h6 B.a7 B.h7 B.a8 B.h8 B.a9 B.h9 B.a10 B.h10 B.a11 B.h11

end Cert.KernelIdeal.Body

end
-- ==== Proof.KernelIdealOpening.lean ====
module

public import proofs.«01_k».proof.Proof.KernelIdealBufs

/-! One run of the body at the first channel block of a batch entry. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At the first channel block the body leaves the windows and the carried sums as they were, and stores into the two
    scratches of channel sums and into the scratch of planes; the stores are what the run finds. -/
def opening (c : Dev nD) (i : grid0.Coords) (B : Bufs) (hc0 : Opens i) (hc1 : ¬Closes i)
    (x0 : Vec F S1x19x96x96 .f32) (x1 : Vec F S1x1x96x96 .i32) (x2 : Vec F S1x64x96x96 .f32) (x3 : Vec F S1x64x96x96 .f32) (x4 : Vec F S1x1x96x96 .f32) :
    Σ' (L8 : List (View.Piece (Elt F) S5x96x96 .f32)), Σ' (L9 : List (View.Piece (Elt F) S5x96x96 .f32)), { L10 : List (View.Piece (Elt F) S9x96x96 .f32) //
      ∀ (x5 : Vec F S1x4 .f32) (a : Vec F S1x8 .f32) (E : Set ℕ) (K : PUnit → sProp 𝕄),
        iprop(owns (c : Thread nD τ) B.a2 fullShare x0 ∗ owns (c : Thread nD τ) B.a3 fullShare x1 ∗ owns (c : Thread nD τ) B.a4 fullShare x2 ∗ owns (c : Thread nD τ) B.a5 fullShare x3 ∗ owns (c : Thread nD τ) B.a6 fullShare x4 ∗ owns (c : Thread nD τ) B.a7 fullShare x5 ∗ (∃ d, owns (c : Thread nD τ) B.a8 fullShare d) ∗ (∃ d, owns (c : Thread nD τ) B.a9 fullShare d) ∗ (∃ d, owns (c : Thread nD τ) B.a10 fullShare d) ∗ owns (c : Thread nD τ) B.a11 fullShare a
            ∗ (iprop(owns (c : Thread nD τ) B.a2 fullShare x0 ∗ owns (c : Thread nD τ) B.a3 fullShare x1 ∗ owns (c : Thread nD τ) B.a4 fullShare x2 ∗ owns (c : Thread nD τ) B.a5 fullShare x3 ∗ owns (c : Thread nD τ) B.a6 fullShare x4 ∗ owns (c : Thread nD τ) B.a7 fullShare x5 ∗ (∃ f, B.a8.view.loc (c : Thread nD τ) ↦[B.a8.view.set]{fullShare} B.a8.view.writes (Elt F) f L8) ∗ (∃ f, B.a9.view.loc (c : Thread nD τ) ↦[B.a9.view.set]{fullShare} B.a9.view.writes (Elt F) f L9) ∗ (∃ f, B.a10.view.loc (c : Thread nD τ) ↦[B.a10.view.set]{fullShare} B.a10.view.writes (Elt F) f L10) ∗ owns (c : Thread nD τ) B.a11 fullShare a) -∗ K ⟨⟩))
          ⊢ wp frame (wpE (defs₀ (F := F)) Variants.none c none) E (run i B) K } := by
  refine ⟨?_, ?_, ?_, fun x5 a E K => ?run⟩
  case run =>
    unfold run
    simp only [cc0__kernel_body_eq_skeleton]; unfold cc0__kernel_body_skel
    simp only [k0_part18_eq_skeleton, k0_part1_eq_skeleton, k0_part2_eq_skeleton, k0_part3_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%f9, %hf9, H9⟩, Hk⟩
    obtain rfl := B.h2.eq_unread hf0; obtain rfl := B.h3.eq_unread hf1; obtain rfl := B.h4.eq_unread hf2; obtain rfl := B.h5.eq_unread hf3; obtain rfl := B.h6.eq_unread hf4; obtain rfl := B.h7.eq_unread hf5; obtain rfl := B.h11.eq_unread hf9
    sl_exec (disch := first | sl_exact hc0 | sl_exact hc1)
    sl_step
    iapply Hk
    isplitl [H0]
    · iexists _; isplitr; · ipureintro; exact B.h2.read_unread _
      iexact H0
    isplitl [H1]
    · iexists _; isplitr; · ipureintro; exact B.h3.read_unread _
      iexact H1
    isplitl [H2]
    · iexists _; isplitr; · ipureintro; exact B.h4.read_unread _
      iexact H2
    isplitl [H3]
    · iexists _; isplitr; · ipureintro; exact B.h5.read_unread _
      iexact H3
    isplitl [H4]
    · iexists _; isplitr; · ipureintro; exact B.h6.read_unread _
      iexact H4
    isplitl [H5]
    · iexists _; isplitr; · ipureintro; exact B.h7.read_unread _
      iexact H5
    isplitl [HS0]; · iexists _; iexact HS0
    isplitl [HS1]; · iexists _; iexact HS1
    isplitl [HS2]; · iexists _; iexact HS2
    iexists _; isplitr; · ipureintro; exact B.h11.read_unread _
    iexact H9

end Cert.KernelIdeal.Body

end
-- ==== Proof.KernelIdealClosing.lean ====
module

public import proofs.«01_k».proof.Proof.KernelIdealOpening

/-! One run of the body at the last channel block of a batch entry. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the last channel block the body leaves the inputs and the planes as they were, adds to the two scratches of
    channel sums, and stores the carried sums and the result; the stores are what the run finds. -/
def closing (c : Dev nD) (i : grid0.Coords) (B : Bufs) (hc0 : ¬Opens i) (hc1 : Closes i)
    (x0 : Vec F S1x19x96x96 .f32) (x1 : Vec F S1x1x96x96 .i32) (x2 : Vec F S1x64x96x96 .f32) (x3 : Vec F S1x64x96x96 .f32) (x4 : Vec F S1x1x96x96 .f32)
    (s8 : Vec F S5x96x96 .f32) (s9 : Vec F S5x96x96 .f32) (s10 : Vec F S9x96x96 .f32) (a : Vec F S1x8 .f32) :
    Σ' (L7 : List (View.Piece (Elt F) S1x4 .f32)), Σ' (L8 : List (View.Piece (Elt F) S5x96x96 .f32)), Σ' (L9 : List (View.Piece (Elt F) S5x96x96 .f32)), { L11 : List (View.Piece (Elt F) S1x8 .f32) //
      ∀ (E : Set ℕ) (K : PUnit → sProp 𝕄),
        iprop(owns (c : Thread nD τ) B.a2 fullShare x0 ∗ owns (c : Thread nD τ) B.a3 fullShare x1 ∗ owns (c : Thread nD τ) B.a4 fullShare x2 ∗ owns (c : Thread nD τ) B.a5 fullShare x3 ∗ owns (c : Thread nD τ) B.a6 fullShare x4 ∗ (∃ d, owns (c : Thread nD τ) B.a7 fullShare d) ∗ owns (c : Thread nD τ) B.a8 fullShare s8 ∗ owns (c : Thread nD τ) B.a9 fullShare s9 ∗ owns (c : Thread nD τ) B.a10 fullShare s10 ∗ owns (c : Thread nD τ) B.a11 fullShare a
            ∗ (iprop(owns (c : Thread nD τ) B.a2 fullShare x0 ∗ owns (c : Thread nD τ) B.a3 fullShare x1 ∗ owns (c : Thread nD τ) B.a4 fullShare x2 ∗ owns (c : Thread nD τ) B.a5 fullShare x3 ∗ owns (c : Thread nD τ) B.a6 fullShare x4 ∗ (∃ f, B.a7.view.loc (c : Thread nD τ) ↦[B.a7.view.set]{fullShare} B.a7.view.writes (Elt F) f L7) ∗ (B.a8.view.loc (c : Thread nD τ) ↦[B.a8.view.set]{fullShare} B.a8.view.writes (Elt F) (B.h8.unread s8) L8) ∗ (B.a9.view.loc (c : Thread nD τ) ↦[B.a9.view.set]{fullShare} B.a9.view.writes (Elt F) (B.h9.unread s9) L9) ∗ owns (c : Thread nD τ) B.a10 fullShare s10 ∗ (∃ f, B.a11.view.loc (c : Thread nD τ) ↦[B.a11.view.set]{fullShare} B.a11.view.writes (Elt F) f L11)) -∗ K ⟨⟩))
          ⊢ wp frame (wpE (defs₀ (F := F)) Variants.none c none) E (run i B) K } := by
  refine ⟨?_, ?_, ?_, ?_, fun E K => ?run⟩
  case run =>
    unfold run
    simp only [cc0__kernel_body_eq_skeleton]; unfold cc0__kernel_body_skel
    simp only [k0_part18_eq_skeleton, k0_part19_eq_skeleton, k0_part20_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds5, %f5, -, H5⟩, ⟨%f6, %hf6, H6⟩, ⟨%f7, %hf7, H7⟩, ⟨%f8, %hf8, H8⟩, ⟨%f9, %hf9, H9⟩, Hk⟩
    obtain rfl := B.h2.eq_unread hf0; obtain rfl := B.h3.eq_unread hf1; obtain rfl := B.h4.eq_unread hf2; obtain rfl := B.h5.eq_unread hf3; obtain rfl := B.h6.eq_unread hf4; obtain rfl := B.h8.eq_unread hf6; obtain rfl := B.h9.eq_unread hf7; obtain rfl := B.h10.eq_unread hf8; obtain rfl := B.h11.eq_unread hf9
    sl_exec (disch := first | sl_exact hc0 | sl_exact hc1)
    sl_step
    iapply Hk
    isplitl [H0]
    · iexists _; isplitr; · ipureintro; exact B.h2.read_unread _
      iexact H0
    isplitl [H1]
    · iexists _; isplitr; · ipureintro; exact B.h3.read_unread _
      iexact H1
    isplitl [H2]
    · iexists _; isplitr; · ipureintro; exact B.h4.read_unread _
      iexact H2
    isplitl [H3]
    · iexists _; isplitr; · ipureintro; exact B.h5.read_unread _
      iexact H3
    isplitl [H4]
    · iexists _; isplitr; · ipureintro; exact B.h6.read_unread _
      iexact H4
    isplitl [H5]; · iexists _; iexact H5
    isplitl [H6]; · iexact H6
    isplitl [H7]; · iexact H7
    isplitl [H8]
    · iexists _; isplitr; · ipureintro; exact B.h10.read_unread _
      iexact H8
    iexists _; iexact H9

end Cert.KernelIdeal.Body

end
-- ==== Proof.KernelIdealRuns.lean ====
module

public import proofs.«01_k».proof.Proof.KernelIdealClosing
public import Idealize.ShloMosaic.Lib.Pipeline.FrameBody
public import Idealize.ShloMosaic.Lib.Ring
public import Idealize.ShloMosaic.Lib.WordCmp
public import Idealize.ShloMosaic.Lib.Claim

/-! The two kinds of grid point, and what the body leaves in the buffers at each.

The grid visits each batch entry at two points, one per half of the channels. The first of the two (an even point) opens
the entry, the second closes it. The sums carried in the last scratch are what they were before the launch until the
first entry is closed, so the invariant says nothing about them up to there; closing the first entry does not read
them. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which kind of point is up -/

/-- The first coordinate of a point is its image. -/
theorem coord0 (t : Fin cfg0.N) : (grid0.coords t 0).val = t.val / 2 := by
  have ht : t.val < 4 := Nat.lt_of_lt_of_eq t.isLt N_0
  have e : (grid0.coords t 0).val = t.val / 2 % 2 := Pipeline.Grid.coords_val t 0 (by decide) rfl
  omega

/-- The second coordinate of a point is its half of the channels. -/
theorem coord1 (t : Fin cfg0.N) : (grid0.coords t 1).val = t.val % 2 := by
  have e : (grid0.coords t 1).val = t.val / 1 % 2 := Pipeline.Grid.coords_val t 1 (by decide) rfl
  omega

/-- The even points open a batch entry. -/
theorem opens_iff (t : Fin cfg0.N) : Opens (grid0.coords t) ↔ t.val % 2 = 0 := by
  have ht : t.val < 4 := Nat.lt_of_lt_of_eq t.isLt N_0
  have e := coord1 t
  simp only [Opens, e]
  word_cmp

/-- The odd points close a batch entry. -/
theorem closes_iff (t : Fin cfg0.N) : Closes (grid0.coords t) ↔ t.val % 2 = 1 := by
  have ht : t.val < 4 := Nat.lt_of_lt_of_eq t.isLt N_0
  have e := coord1 t
  simp only [Closes, k0_cond2, e]
  word_cmp

/-- An even point opens an image. -/
theorem opens_of {t : Fin cfg0.N} (h : t.val % 2 = 0) : Opens (grid0.coords t) := (opens_iff t).mpr h
/-- An even point does not close one. -/
theorem not_closes_of {t : Fin cfg0.N} (h : t.val % 2 = 0) : ¬Closes (grid0.coords t) := fun k => by
  have := (closes_iff t).mp k; omega
/-- An odd point closes an image. -/
theorem closes_of {t : Fin cfg0.N} (h : t.val % 2 = 1) : Closes (grid0.coords t) := (closes_iff t).mpr h
/-- An odd point does not open one. -/
theorem not_opens_of {t : Fin cfg0.N} (h : t.val % 2 = 1) : ¬Opens (grid0.coords t) := fun k => by
  have := (opens_iff t).mp k; omega

/-- At an even point the result is not touched. -/
theorem out_idle : ∀ t : Fin cfg0.N, t.val % 2 = 0 → cfg0.idle 5 (grid0.coords t) = true := by decide +kernel
/-- At an even point the result is not written back. -/
theorem out_unflushed : ∀ t : Fin cfg0.N, t.val % 2 = 0 → (cfg0.win 5).flush t = false := by decide +kernel
/-- At an odd point the result is written. -/
theorem out_live : ∀ t : Fin cfg0.N, t.val % 2 = 1 → cfg0.idle 5 (grid0.coords t) = false := by decide +kernel

/-! ## What a run leaves -/

/-- The buffers of the call at point `t`: the windows' current staging buffers and the four scratches. -/
def bufs (t : Fin cfg0.N) : Bufs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _

section runs

variable (c : Dev nD) (i : grid0.Coords) (B : Bufs)
  (x0 : Vec F S1x19x96x96 .f32) (x1 : Vec F S1x1x96x96 .i32) (x2 : Vec F S1x64x96x96 .f32) (x3 : Vec F S1x64x96x96 .f32) (x4 : Vec F S1x1x96x96 .f32)

/-- The opening run stores all of the source features' sums, -/
theorem opening_cover8 (hc0 : Opens i) (hc1 : ¬Closes i) (y : S5x96x96.Idx) :
    ∃ pc ∈ (opening c i B hc0 hc1 x0 x1 x2 x3 x4).1, y ∈ pc.1.set := View.cover_of_wholeMem _ (by sl_whole_mem) y
/-- all of the averaged features' sums, -/
theorem opening_cover9 (hc0 : Opens i) (hc1 : ¬Closes i) (y : S5x96x96.Idx) :
    ∃ pc ∈ (opening c i B hc0 hc1 x0 x1 x2 x3 x4).2.1, y ∈ pc.1.set := View.cover_of_wholeMem _ (by sl_whole_mem) y
/-- and all nine planes. -/
theorem opening_cover10 (hc0 : Opens i) (hc1 : ¬Closes i) (y : S9x96x96.Idx) :
    ∃ pc ∈ (opening c i B hc0 hc1 x0 x1 x2 x3 x4).2.2.1, y ∈ pc.1.set := View.cover_of_tiledL (s := S9x96x96) _ S1x96x96.size (by sl_kernel_rfl) y

/-- What the opening run leaves in the source features' sums, -/
@[no_expose] def opened8 (hc0 : Opens i) (hc1 : ¬Closes i) : Vec F S5x96x96 .f32 :=
  B.a8.view.read (Elt F) (B.a8.view.writes (Elt F) B.a8.view.junk (opening c i B hc0 hc1 x0 x1 x2 x3 x4).1)
/-- in the averaged features' sums -/
@[no_expose] def opened9 (hc0 : Opens i) (hc1 : ¬Closes i) : Vec F S5x96x96 .f32 :=
  B.a9.view.read (Elt F) (B.a9.view.writes (Elt F) B.a9.view.junk (opening c i B hc0 hc1 x0 x1 x2 x3 x4).2.1)
/-- and in the planes. -/
@[no_expose] def opened10 (hc0 : Opens i) (hc1 : ¬Closes i) : Vec F S9x96x96 .f32 :=
  B.a10.view.read (Elt F) (B.a10.view.writes (Elt F) B.a10.view.junk (opening c i B hc0 hc1 x0 x1 x2 x3 x4).2.2.1)

variable (s8 : Vec F S5x96x96 .f32) (s9 : Vec F S5x96x96 .f32) (s10 : Vec F S9x96x96 .f32) (a : Vec F S1x8 .f32)

/-- The closing run stores all of the result -/
theorem closing_cover7 (hc0 : ¬Opens i) (hc1 : Closes i) (y : S1x4.Idx) :
    ∃ pc ∈ (closing c i B hc0 hc1 x0 x1 x2 x3 x4 s8 s9 s10 a).1, y ∈ pc.1.set := View.cover_of_tiledL _ S1x4.size (by sl_kernel_rfl) y
/-- and all of the carried sums. -/
theorem closing_cover11 (hc0 : ¬Opens i) (hc1 : Closes i) (y : S1x8.Idx) :
    ∃ pc ∈ (closing c i B hc0 hc1 x0 x1 x2 x3 x4 s8 s9 s10 a).2.2.2.1, y ∈ pc.1.set := View.cover_of_tiledL _ S1x8.size (by sl_kernel_rfl) y

/-- What the closing run leaves in the result's window, -/
@[no_expose] def closed7 (hc0 : ¬Opens i) (hc1 : Closes i) : Vec F S1x4 .f32 :=
  B.a7.view.read (Elt F) (B.a7.view.writes (Elt F) B.a7.view.junk (closing c i B hc0 hc1 x0 x1 x2 x3 x4 s8 s9 s10 a).1)
/-- in the source features' sums, -/
@[no_expose] def closed8 (hc0 : ¬Opens i) (hc1 : Closes i) : Vec F S5x96x96 .f32 :=
  B.a8.view.read (Elt F) (B.a8.view.writes (Elt F) (B.h8.unread s8) (closing c i B hc0 hc1 x0 x1 x2 x3 x4 s8 s9 s10 a).2.1)
/-- in the averaged features' sums -/
@[no_expose] def closed9 (hc0 : ¬Opens i) (hc1 : Closes i) : Vec F S5x96x96 .f32 :=
  B.a9.view.read (Elt F) (B.a9.view.writes (Elt F) (B.h9.unread s9) (closing c i B hc0 hc1 x0 x1 x2 x3 x4 s8 s9 s10 a).2.2.1)
/-- and in the carried sums. -/
@[no_expose] def closed11 (hc0 : ¬Opens i) (hc1 : Closes i) : Vec F S1x8 .f32 :=
  B.a11.view.read (Elt F) (B.a11.view.writes (Elt F) B.a11.view.junk (closing c i B hc0 hc1 x0 x1 x2 x3 x4 s8 s9 s10 a).2.2.2.1)

variable (a' : Vec F S1x8 .f32)

/-- At the first batch entry the new carried sums are the entry's own: the old ones are not read. -/
theorem pay184_first (v283 v287 v293 v299 : F .f32) (v345 v381 v389 : FVec F S96x96 .f32) (v393 : F .f32)
    (v582 v701 v702 v705 v706 : FVec F S96x96 .f32) :
    k0_pay184 0#32 v283 v287 v293 v299 v345 v381 v389 v393 v582 v701 v702 v705 v706 a
      = k0_pay184 0#32 v283 v287 v293 v299 v345 v381 v389 v393 v582 v701 v702 v705 v706 a' := rfl
/-- The same for the stored row. -/
theorem pay185_first (v283 v287 v293 v299 : F .f32) (v345 v381 v389 : FVec F S96x96 .f32) (v393 : F .f32)
    (v582 v701 v702 v705 v706 : FVec F S96x96 .f32) :
    k0_pay185 0#32 v283 v287 v293 v299 v345 v381 v389 v393 v582 v701 v702 v705 v706 a
      = k0_pay185 0#32 v283 v287 v293 v299 v345 v381 v389 v393 v582 v701 v702 v705 v706 a' := rfl
/-- The same for the last quotient's weight. -/
theorem pay186_first (v283 v287 v293 v299 : F .f32) (v345 v381 v389 : FVec F S96x96 .f32) (v393 : F .f32)
    (v582 v701 v702 v705 v706 : FVec F S96x96 .f32) :
    k0_pay186 0#32 v283 v287 v293 v299 v345 v381 v389 v393 v582 v701 v702 v705 v706 a
      = k0_pay186 0#32 v283 v287 v293 v299 v345 v381 v389 v393 v582 v701 v702 v705 v706 a' := rfl

/-- The channel sums never depend on the carried ones. -/
theorem closed8_any (hc0 : ¬Opens i) (hc1 : Closes i) :
    closed8 c i B x0 x1 x2 x3 x4 s8 s9 s10 a hc0 hc1 = closed8 c i B x0 x1 x2 x3 x4 s8 s9 s10 a' hc0 hc1 := by unfold closed8 closing; dsimp only
/-- Neither do those of the averaged features. -/
theorem closed9_any (hc0 : ¬Opens i) (hc1 : Closes i) :
    closed9 c i B x0 x1 x2 x3 x4 s8 s9 s10 a hc0 hc1 = closed9 c i B x0 x1 x2 x3 x4 s8 s9 s10 a' hc0 hc1 := by unfold closed9 closing; dsimp only

/-- So at the first batch entry the result -/
theorem closed7_first (hc0 : ¬Opens i) (hc1 : Closes i) (hi : (i 0).val = 0) :
    closed7 c i B x0 x1 x2 x3 x4 s8 s9 s10 a hc0 hc1 = closed7 c i B x0 x1 x2 x3 x4 s8 s9 s10 a' hc0 hc1 := by
  unfold closed7 closing closing.sl.r_98 closing.sl.r_99
  dsimp only
  rw [hi]
  generalize View.readAt (Elt F) B.a11.view _ (B.h11.unread a) = z
  generalize View.readAt (Elt F) B.a11.view _ (B.h11.unread a') = z'
  rw [pay184_first z z', pay186_first z z']

/-- and the carried sums do not depend on the sums before. -/
theorem closed11_first (hc0 : ¬Opens i) (hc1 : Closes i) (hi : (i 0).val = 0) :
    closed11 c i B x0 x1 x2 x3 x4 s8 s9 s10 a hc0 hc1 = closed11 c i B x0 x1 x2 x3 x4 s8 s9 s10 a' hc0 hc1 := by
  unfold closed11 closing
  dsimp only
  rw [hi]
  generalize View.readAt (Elt F) B.a11.view _ (B.h11.unread a) = z
  generalize View.readAt (Elt F) B.a11.view _ (B.h11.unread a') = z'
  rw [pay185_first z z']

/-- The opening run, with what it leaves named. -/
theorem opening_run (hc0 : Opens i) (hc1 : ¬Closes i) (x5 : Vec F S1x4 .f32) (E : Set ℕ) (K : PUnit → sProp 𝕄) :
    iprop(owns (c : Thread nD τ) B.a2 fullShare x0 ∗ owns (c : Thread nD τ) B.a3 fullShare x1 ∗ owns (c : Thread nD τ) B.a4 fullShare x2 ∗ owns (c : Thread nD τ) B.a5 fullShare x3 ∗ owns (c : Thread nD τ) B.a6 fullShare x4 ∗ owns (c : Thread nD τ) B.a7 fullShare x5 ∗ (∃ d, owns (c : Thread nD τ) B.a8 fullShare d) ∗ (∃ d, owns (c : Thread nD τ) B.a9 fullShare d)
        ∗ (∃ d, owns (c : Thread nD τ) B.a10 fullShare d) ∗ owns (c : Thread nD τ) B.a11 fullShare a
        ∗ (iprop(owns (c : Thread nD τ) B.a2 fullShare x0 ∗ owns (c : Thread nD τ) B.a3 fullShare x1 ∗ owns (c : Thread nD τ) B.a4 fullShare x2 ∗ owns (c : Thread nD τ) B.a5 fullShare x3 ∗ owns (c : Thread nD τ) B.a6 fullShare x4 ∗ owns (c : Thread nD τ) B.a7 fullShare x5 ∗ owns (c : Thread nD τ) B.a8 fullShare (opened8 c i B x0 x1 x2 x3 x4 hc0 hc1)
            ∗ owns (c : Thread nD τ) B.a9 fullShare (opened9 c i B x0 x1 x2 x3 x4 hc0 hc1) ∗ owns (c : Thread nD τ) B.a10 fullShare (opened10 c i B x0 x1 x2 x3 x4 hc0 hc1)
            ∗ owns (c : Thread nD τ) B.a11 fullShare a) -∗ K ⟨⟩))
      ⊢ wp frame (wpE (defs₀ (F := F)) Variants.none c none) E (run i B) K := by
  iintro ⟨H0, H1, H2, H3, H4, H5, HS0, HS1, HS2, HS3, Hk⟩
  iapply ((opening c i B hc0 hc1 x0 x1 x2 x3 x4).2.2.2 x5 a E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%es0, HS0⟩, ⟨%es1, HS1⟩, ⟨%es2, HS2⟩, HS3⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr
    swap; · iexact HS0
    ipureintro; exact View.read_writes_of_cover _ _ _ _ _ (opening_cover8 c i B x0 x1 x2 x3 x4 hc0 hc1)
  isplitl [HS1]
  · unfold owns; iexists _; isplitr
    swap; · iexact HS1
    ipureintro; exact View.read_writes_of_cover _ _ _ _ _ (opening_cover9 c i B x0 x1 x2 x3 x4 hc0 hc1)
  isplitl [HS2]
  · unfold owns; iexists _; isplitr
    swap; · iexact HS2
    ipureintro; exact View.read_writes_of_cover _ _ _ _ _ (opening_cover10 c i B x0 x1 x2 x3 x4 hc0 hc1)
  iexact HS3

/-- The closing run, with what it leaves named. -/
theorem closing_run (hc0 : ¬Opens i) (hc1 : Closes i) (E : Set ℕ) (K : PUnit → sProp 𝕄) :
    iprop(owns (c : Thread nD τ) B.a2 fullShare x0 ∗ owns (c : Thread nD τ) B.a3 fullShare x1 ∗ owns (c : Thread nD τ) B.a4 fullShare x2 ∗ owns (c : Thread nD τ) B.a5 fullShare x3 ∗ owns (c : Thread nD τ) B.a6 fullShare x4 ∗ (∃ d, owns (c : Thread nD τ) B.a7 fullShare d) ∗ owns (c : Thread nD τ) B.a8 fullShare s8 ∗ owns (c : Thread nD τ) B.a9 fullShare s9
        ∗ owns (c : Thread nD τ) B.a10 fullShare s10 ∗ owns (c : Thread nD τ) B.a11 fullShare a
        ∗ (iprop(owns (c : Thread nD τ) B.a2 fullShare x0 ∗ owns (c : Thread nD τ) B.a3 fullShare x1 ∗ owns (c : Thread nD τ) B.a4 fullShare x2 ∗ owns (c : Thread nD τ) B.a5 fullShare x3 ∗ owns (c : Thread nD τ) B.a6 fullShare x4 ∗ owns (c : Thread nD τ) B.a7 fullShare (closed7 c i B x0 x1 x2 x3 x4 s8 s9 s10 a hc0 hc1) ∗ owns (c : Thread nD τ) B.a8 fullShare (closed8 c i B x0 x1 x2 x3 x4 s8 s9 s10 a hc0 hc1)
            ∗ owns (c : Thread nD τ) B.a9 fullShare (closed9 c i B x0 x1 x2 x3 x4 s8 s9 s10 a hc0 hc1) ∗ owns (c : Thread nD τ) B.a10 fullShare s10
            ∗ owns (c : Thread nD τ) B.a11 fullShare (closed11 c i B x0 x1 x2 x3 x4 s8 s9 s10 a hc0 hc1)) -∗ K ⟨⟩))
      ⊢ wp frame (wpE (defs₀ (F := F)) Variants.none c none) E (run i B) K := by
  iintro ⟨H0, H1, H2, H3, H4, H5, HS0, HS1, HS2, HS3, Hk⟩
  iapply ((closing c i B hc0 hc1 x0 x1 x2 x3 x4 s8 s9 s10 a).2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, ⟨%es3, HS3⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (closing_cover7 c i B x0 x1 x2 x3 x4 s8 s9 s10 a hc0 hc1)
  isplitl [HS0]
  · unfold owns; iexists _; isplitr
    swap; · iexact HS0
    ipureintro; unfold closed8; rfl
  isplitl [HS1]
  · unfold owns; iexists _; isplitr
    swap; · iexact HS1
    ipureintro; unfold closed9; rfl
  isplitl [HS2]; · iexact HS2
  unfold owns; iexists _; isplitr
  swap; · iexact HS3
  ipureintro; exact View.read_writes_of_cover _ _ _ _ _ (closing_cover11 c i B x0 x1 x2 x3 x4 s8 s9 s10 a hc0 hc1)

end runs

end Cert.KernelIdeal.Body

end
-- ==== Proof.KernelIdealFrame.lean ====
module

public import proofs.«01_k».proof.Proof.KernelIdealRuns

/-! The launch: what each grid point leaves in the buffers, the invariant between the points, and the frame.

The sums carried in the last scratch are what they were before the launch until the first entry is closed, so the
invariant says nothing about them up to there; closing the first entry does not read them. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold after each point -/

/-- What a point leaves: the result's window, the two scratches of channel sums, the planes, the carried sums. -/
structure Left (F : FTy → Type) [FloatOps F] where
  out : Vec F S1x4 .f32
  src : Vec F S5x96x96 .f32
  ema : Vec F S5x96x96 .f32
  planes : Vec F S9x96x96 .f32
  sums : Vec F S1x8 .f32

/-- The blocks point `t` reads. -/
abbrev blk0 (c : Dev nD) (t : Fin cfg0.N) : Vec F S1x19x96x96 .f32 := iblk m c 0 t
/-- The point's labels. -/
abbrev blk1 (c : Dev nD) (t : Fin cfg0.N) : Vec F S1x1x96x96 .i32 := iblk m c 1 t
/-- The point's half of the averaged features. -/
abbrev blk2 (c : Dev nD) (t : Fin cfg0.N) : Vec F S1x64x96x96 .f32 := iblk m c 2 t
/-- The point's half of the source features. -/
abbrev blk3 (c : Dev nD) (t : Fin cfg0.N) : Vec F S1x64x96x96 .f32 := iblk m c 3 t
/-- The point's mixing mask. -/
abbrev blk4 (c : Dev nD) (t : Fin cfg0.N) : Vec F S1x1x96x96 .f32 := iblk m c 4 t

/-- What point `t` leaves, over what the point before left. -/
def point (c : Dev nD) (t : Fin cfg0.N) (p : Left F) : Left F :=
  if h : t.val % 2 = 0 then
    { out := p.out
      src := opened8 c (grid0.coords t) (bufs t) (blk0 m c t) (blk1 m c t) (blk2 m c t) (blk3 m c t) (blk4 m c t) (opens_of h) (not_closes_of h)
      ema := opened9 c (grid0.coords t) (bufs t) (blk0 m c t) (blk1 m c t) (blk2 m c t) (blk3 m c t) (blk4 m c t) (opens_of h) (not_closes_of h)
      planes := opened10 c (grid0.coords t) (bufs t) (blk0 m c t) (blk1 m c t) (blk2 m c t) (blk3 m c t) (blk4 m c t) (opens_of h) (not_closes_of h)
      sums := p.sums }
  else
    have h' : t.val % 2 = 1 := by omega
    { out := closed7 c (grid0.coords t) (bufs t) (blk0 m c t) (blk1 m c t) (blk2 m c t) (blk3 m c t) (blk4 m c t) p.src p.ema p.planes p.sums (not_opens_of h') (closes_of h')
      src := closed8 c (grid0.coords t) (bufs t) (blk0 m c t) (blk1 m c t) (blk2 m c t) (blk3 m c t) (blk4 m c t) p.src p.ema p.planes p.sums (not_opens_of h') (closes_of h')
      ema := closed9 c (grid0.coords t) (bufs t) (blk0 m c t) (blk1 m c t) (blk2 m c t) (blk3 m c t) (blk4 m c t) p.src p.ema p.planes p.sums (not_opens_of h') (closes_of h')
      planes := p.planes
      sums := closed11 c (grid0.coords t) (bufs t) (blk0 m c t) (blk1 m c t) (blk2 m c t) (blk3 m c t) (blk4 m c t) p.src p.ema p.planes p.sums (not_opens_of h') (closes_of h') }

/-- What stands for the buffers' contents before the launch; nothing that is stated reads it. -/
def unset : Left F where
  out := (bufs ⟨0, by decide +kernel⟩).a7.view.read (Elt F) (bufs ⟨0, by decide +kernel⟩).a7.view.junk
  src := (bufs ⟨0, by decide +kernel⟩).a8.view.read (Elt F) (bufs ⟨0, by decide +kernel⟩).a8.view.junk
  ema := (bufs ⟨0, by decide +kernel⟩).a9.view.read (Elt F) (bufs ⟨0, by decide +kernel⟩).a9.view.junk
  planes := (bufs ⟨0, by decide +kernel⟩).a10.view.read (Elt F) (bufs ⟨0, by decide +kernel⟩).a10.view.junk
  sums := (bufs ⟨0, by decide +kernel⟩).a11.view.read (Elt F) (bufs ⟨0, by decide +kernel⟩).a11.view.junk

/-- What the buffers hold after point `n`. -/
def left (c : Dev nD) : (n : ℕ) → n < cfg0.N → Left F
  | 0, h => point m c ⟨0, h⟩ unset
  | n + 1, h => point m c ⟨n + 1, h⟩ (left c n (Nat.lt_of_succ_lt h))

/-- The invariant before point `n`: nothing before the first; then the sums and the planes at what the point before
    left, and once the first entry is closed the carried sums too. -/
def between (c : Dev nD) : (n : ℕ) → n ≤ cfg0.N → sProp 𝕄
  | 0, _ => Pipeline.ΦA spec0 c
  | n + 1, h => iprop(iprop(owns (c : Thread nD τ) (Memref.whole cc0_scratch0) fullShare (left m c n h).src
      ∗ owns (c : Thread nD τ) (Memref.whole cc0_scratch1) fullShare (left m c n h).ema
      ∗ owns (c : Thread nD τ) (Memref.whole cc0_scratch2) fullShare (left m c n h).planes
      ∗ (∃ a, ⌜n ≠ 0 → a = (left m c n h).sums⌝ ∗ owns (c : Thread nD τ) (Memref.whole cc0_scratch3) fullShare a)) ∗ (∃ r, prngReg c r))

/-- After the first point, what is held between points. -/
theorem between_pos (c : Dev nD) (n : ℕ) (h : n ≤ cfg0.N) (hz : n ≠ 0) :
    between m c n h = iprop(iprop(owns (c : Thread nD τ) (Memref.whole cc0_scratch0) fullShare (left m c (n - 1) (by omega)).src
      ∗ owns (c : Thread nD τ) (Memref.whole cc0_scratch1) fullShare (left m c (n - 1) (by omega)).ema
      ∗ owns (c : Thread nD τ) (Memref.whole cc0_scratch2) fullShare (left m c (n - 1) (by omega)).planes
      ∗ (∃ a, ⌜n - 1 ≠ 0 → a = (left m c (n - 1) (by omega)).sums⌝ ∗ owns (c : Thread nD τ) (Memref.whole cc0_scratch3) fullShare a)) ∗ (∃ r, prngReg c r)) := by
  cases n with
  | zero => exact absurd rfl hz
  | succ n => rfl

/-- The invariant of a launch that names nothing: every scratch at some contents. -/
theorem unnamed_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- After a later point: the point, over what the one before left. -/
theorem left_pos (c : Dev nD) (t : Fin cfg0.N) (hz : t.val ≠ 0) :
    left m c t.val t.isLt = point m c t (left m c (t.val - 1) (by omega)) := by
  obtain ⟨n, hn⟩ := t
  cases n with
  | zero => exact absurd rfl hz
  | succ n => rfl

/-- After the first point. -/
theorem left_zero (c : Dev nD) (t : Fin cfg0.N) (hz : t.val = 0) : left m c t.val t.isLt = point m c t unset := by
  obtain ⟨n, hn⟩ := t
  cases n with
  | zero => rfl
  | succ n => exact absurd hz (Nat.succ_ne_zero n)

/-- An even point. -/
theorem point_even (c : Dev nD) (t : Fin cfg0.N) (p : Left F) (h : t.val % 2 = 0) : point m c t p =
    { out := p.out
      src := opened8 c (grid0.coords t) (bufs t) (blk0 m c t) (blk1 m c t) (blk2 m c t) (blk3 m c t) (blk4 m c t) (opens_of h) (not_closes_of h)
      ema := opened9 c (grid0.coords t) (bufs t) (blk0 m c t) (blk1 m c t) (blk2 m c t) (blk3 m c t) (blk4 m c t) (opens_of h) (not_closes_of h)
      planes := opened10 c (grid0.coords t) (bufs t) (blk0 m c t) (blk1 m c t) (blk2 m c t) (blk3 m c t) (blk4 m c t) (opens_of h) (not_closes_of h)
      sums := p.sums } := by unfold point; rw [dif_pos h]

/-- An odd point. -/
theorem point_odd (c : Dev nD) (t : Fin cfg0.N) (p : Left F) (h : t.val % 2 = 1) : point m c t p =
    { out := closed7 c (grid0.coords t) (bufs t) (blk0 m c t) (blk1 m c t) (blk2 m c t) (blk3 m c t) (blk4 m c t) p.src p.ema p.planes p.sums (not_opens_of h) (closes_of h)
      src := closed8 c (grid0.coords t) (bufs t) (blk0 m c t) (blk1 m c t) (blk2 m c t) (blk3 m c t) (blk4 m c t) p.src p.ema p.planes p.sums (not_opens_of h) (closes_of h)
      ema := closed9 c (grid0.coords t) (bufs t) (blk0 m c t) (blk1 m c t) (blk2 m c t) (blk3 m c t) (blk4 m c t) p.src p.ema p.planes p.sums (not_opens_of h) (closes_of h)
      planes := p.planes
      sums := closed11 c (grid0.coords t) (bufs t) (blk0 m c t) (blk1 m c t) (blk2 m c t) (blk3 m c t) (blk4 m c t) p.src p.ema p.planes p.sums (not_opens_of h) (closes_of h) } := by
  unfold point; rw [dif_neg (by omega)]

/-- What the body leaves at an even point. -/
theorem left_even (c : Dev nD) (t : Fin cfg0.N) (h : t.val % 2 = 0) :
    (left m c t.val t.isLt).src = opened8 c (grid0.coords t) (bufs t) (blk0 m c t) (blk1 m c t) (blk2 m c t) (blk3 m c t) (blk4 m c t) (opens_of h) (not_closes_of h)
    ∧ (left m c t.val t.isLt).ema = opened9 c (grid0.coords t) (bufs t) (blk0 m c t) (blk1 m c t) (blk2 m c t) (blk3 m c t) (blk4 m c t) (opens_of h) (not_closes_of h)
    ∧ (left m c t.val t.isLt).planes = opened10 c (grid0.coords t) (bufs t) (blk0 m c t) (blk1 m c t) (blk2 m c t) (blk3 m c t) (blk4 m c t) (opens_of h) (not_closes_of h)
    ∧ ∀ hz : t.val ≠ 0, (left m c t.val t.isLt).sums = (left m c (t.val - 1) (by omega)).sums := by
  by_cases hz : t.val = 0
  · rw [left_zero m c t hz, point_even m c t _ h]; exact ⟨rfl, rfl, rfl, fun k => absurd hz k⟩
  · rw [left_pos m c t hz, point_even m c t _ h]; exact ⟨rfl, rfl, rfl, fun _ => rfl⟩

/-- The invariant after a point. -/
theorem between_after (c : Dev nD) (t : Fin cfg0.N) :
    between m c (t.val + 1) t.isLt = iprop(iprop(owns (c : Thread nD τ) (bufs t).a8 fullShare (left m c t.val t.isLt).src
      ∗ owns (c : Thread nD τ) (bufs t).a9 fullShare (left m c t.val t.isLt).ema
      ∗ owns (c : Thread nD τ) (bufs t).a10 fullShare (left m c t.val t.isLt).planes
      ∗ (∃ a, ⌜t.val ≠ 0 → a = (left m c t.val t.isLt).sums⌝ ∗ owns (c : Thread nD τ) (bufs t).a11 fullShare a)) ∗ (∃ r, prngReg c r)) := rfl

/-- The invariant before a later point. -/
theorem between_before (c : Dev nD) (t : Fin cfg0.N) (hz : t.val ≠ 0) :
    between m c t.val (Nat.le_of_lt t.isLt) = iprop(iprop(owns (c : Thread nD τ) (bufs t).a8 fullShare (left m c (t.val - 1) (by omega)).src
      ∗ owns (c : Thread nD τ) (bufs t).a9 fullShare (left m c (t.val - 1) (by omega)).ema
      ∗ owns (c : Thread nD τ) (bufs t).a10 fullShare (left m c (t.val - 1) (by omega)).planes
      ∗ (∃ a, ⌜t.val - 1 ≠ 0 → a = (left m c (t.val - 1) (by omega)).sums⌝ ∗ owns (c : Thread nD τ) (bufs t).a11 fullShare a)) ∗ (∃ r, prngReg c r)) :=
  between_pos m c _ _ hz

/-! ## The pipeline's proof data -/

/-- Arrays as the launch finds them; after point `t` the inputs' buffers at their blocks and the result's at what the
    point leaves; the invariant `between`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c t.val t.isLt).out
  Φ t := between m c t.val (Nat.le_of_lt_succ t.isLt)
  q _ := fullShare
  owed _ := 0

/-- The arrays at the start are the memory's. -/
theorem A_eq (c : Dev nD) (w : Fin cfg0.W) : (dats m 0 c).A w = V m c (Pipeline.arrRef spec0 w) := by dsimp only [dats]

/-- The logits stay in their window. -/
theorem after0 (c : Dev nD) (t : Fin cfg0.N) : (dats m 0 c).after 0 t = blk0 m c t := by dsimp only [dats]
/-- The labels stay in their window. -/
theorem after1 (c : Dev nD) (t : Fin cfg0.N) : (dats m 0 c).after 1 t = blk1 m c t := by dsimp only [dats]
/-- The averaged features stay in their window. -/
theorem after2 (c : Dev nD) (t : Fin cfg0.N) : (dats m 0 c).after 2 t = blk2 m c t := by dsimp only [dats]
/-- The source features stay in their window. -/
theorem after3 (c : Dev nD) (t : Fin cfg0.N) : (dats m 0 c).after 3 t = blk3 m c t := by dsimp only [dats]
/-- The mixing mask stays in its window. -/
theorem after4 (c : Dev nD) (t : Fin cfg0.N) : (dats m 0 c).after 4 t = blk4 m c t := by dsimp only [dats]
/-- The result's window holds what the point left. -/
theorem after5 (c : Dev nD) (t : Fin cfg0.N) : (dats m 0 c).after 5 t = (left m c t.val t.isLt).out := by dsimp only [dats]

/-- The logits are in their window. -/
theorem before0 (c : Dev nD) (t : Fin cfg0.N) (d) : (dats m 0 c).before 0 t d = blk0 m c t := before0_0_of m (dats m 0 c) (A_eq m c 0) (after0 m c) t d
/-- The labels are in their window. -/
theorem before1 (c : Dev nD) (t : Fin cfg0.N) (d) : (dats m 0 c).before 1 t d = blk1 m c t := before0_1_of m (dats m 0 c) (A_eq m c 1) (after1 m c) t d
/-- The averaged features are in their window. -/
theorem before2 (c : Dev nD) (t : Fin cfg0.N) (d) : (dats m 0 c).before 2 t d = blk2 m c t := before0_2_of m (dats m 0 c) (A_eq m c 2) (after2 m c) t d
/-- The source features are in their window. -/
theorem before3 (c : Dev nD) (t : Fin cfg0.N) (d) : (dats m 0 c).before 3 t d = blk3 m c t := before0_3_of m (dats m 0 c) (A_eq m c 3) (after3 m c) t d
/-- The mixing mask is in its window. -/
theorem before4 (c : Dev nD) (t : Fin cfg0.N) (d) : (dats m 0 c).before 4 t d = blk4 m c t := before0_4_of m (dats m 0 c) (A_eq m c 4) (after4 m c) t d

/-! ## The body at each kind of point -/

/-- An input's window at its block, in the words of the pipeline. -/
theorem leaves_in (c : Dev nD) (t : Fin cfg0.N) :
    (dats m 0 c).leavesExact 0 t = owns (c : Thread nD τ) (bufs t).a2 fullShare (blk0 m c t)
    ∧ (dats m 0 c).leavesExact 1 t = owns (c : Thread nD τ) (bufs t).a3 fullShare (blk1 m c t)
    ∧ (dats m 0 c).leavesExact 2 t = owns (c : Thread nD τ) (bufs t).a4 fullShare (blk2 m c t)
    ∧ (dats m 0 c).leavesExact 3 t = owns (c : Thread nD τ) (bufs t).a5 fullShare (blk3 m c t)
    ∧ (dats m 0 c).leavesExact 4 t = owns (c : Thread nD τ) (bufs t).a6 fullShare (blk4 m c t) := by
  refine ⟨?_, ?_, ?_, ?_, ?_⟩ <;> unfold Dat.leavesExact
  · rw [show cfg0.idle 0 (grid0.coords t) = false from rfl, after0]; rfl
  · rw [show cfg0.idle 1 (grid0.coords t) = false from rfl, after1]; rfl
  · rw [show cfg0.idle 2 (grid0.coords t) = false from rfl, after2]; rfl
  · rw [show cfg0.idle 3 (grid0.coords t) = false from rfl, after3]; rfl
  · rw [show cfg0.idle 4 (grid0.coords t) = false from rfl, after4]; rfl

/-- What the body is called with at point `t`. -/
def called (c : Dev nD) (t : Fin cfg0.N) : sProp 𝕄 :=
  iprop((dats m 0 c).Φ t.castSucc ∗ (dats m 0 c).owesAt () t.castSucc
    ∗ (∃ d, owns (c : Thread nD τ) (bufs t).a2 fullShare ((dats m 0 c).before 0 t d))
    ∗ (∃ d, owns (c : Thread nD τ) (bufs t).a3 fullShare ((dats m 0 c).before 1 t d))
    ∗ (∃ d, owns (c : Thread nD τ) (bufs t).a4 fullShare ((dats m 0 c).before 2 t d))
    ∗ (∃ d, owns (c : Thread nD τ) (bufs t).a5 fullShare ((dats m 0 c).before 3 t d))
    ∗ (∃ d, owns (c : Thread nD τ) (bufs t).a6 fullShare ((dats m 0 c).before 4 t d))
    ∗ (∃ d, owns (c : Thread nD τ) (bufs t).a7 fullShare ((dats m 0 c).before 5 t d)))

/-- What it gives back. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The carried scratches with the invariant's facts about them, before point `t` if the point opens an entry. -/
theorem before_opening (c : Dev nD) (t : Fin cfg0.N) :
    (dats m 0 c).Φ t.castSucc ⊢ iprop((∃ d, owns (c : Thread nD τ) (bufs t).a8 fullShare d) ∗ (∃ d, owns (c : Thread nD τ) (bufs t).a9 fullShare d)
      ∗ (∃ d, owns (c : Thread nD τ) (bufs t).a10 fullShare d)
      ∗ (∃ a, ⌜∀ (hz : t.val ≠ 0), t.val - 1 ≠ 0 → a = (left m c (t.val - 1) (by omega)).sums⌝ ∗ owns (c : Thread nD τ) (bufs t).a11 fullShare a) ∗ (∃ r, prngReg c r)) := by
  rw [show (dats m 0 c).Φ t.castSucc = between m c t.val (Nat.le_of_lt t.isLt) from by dsimp only [dats]; exact Pipeline.Dat.Φ_castSucc (between m c) t]
  by_cases hz : t.val = 0
  · rw [show between m c t.val (Nat.le_of_lt t.isLt) = Pipeline.ΦA spec0 c from by obtain ⟨n, hn⟩ := t; dsimp only at hz; subst hz; rfl, unnamed_eq]
    iintro ⟨⟨HS0, HS1, HS2, ⟨%a, HS3⟩⟩, Hg⟩
    isplitl [HS0]; · iexact HS0
    isplitl [HS1]; · iexact HS1
    isplitl [HS2]; · iexact HS2
    isplitl [HS3]
    · iexists a; isplitr
      · ipureintro; exact fun h => absurd hz h
      iexact HS3
    iexact Hg
  · rw [between_before m c t hz]
    iintro ⟨⟨HS0, HS1, HS2, ⟨%a, %ha, HS3⟩⟩, Hg⟩
    isplitl [HS0]; · iexists _; iexact HS0
    isplitl [HS1]; · iexists _; iexact HS1
    isplitl [HS2]; · iexists _; iexact HS2
    isplitl [HS3]
    · iexists a; isplitr
      · ipureintro; exact fun _ => ha
      iexact HS3
    iexact Hg

/-- The body at an even point. -/
theorem sound_even (c : Dev nD) (t : Fin cfg0.N) (h : t.val % 2 = 0) :
    called m c t ⊢ wp frame (wpE (defs₀ (F := F)) Variants.none c none) Set.univ (run (grid0.coords t) (bufs t)) (fun _ => returned m c t) := by
  have hN : t.val < 4 := lt_of_lt_of_eq t.isLt (show cfg0.N = 4 from N_0)
  obtain ⟨e0, e1, e2, e3, e4⟩ := leaves_in m c t
  obtain ⟨l8, l9, l10, l11⟩ := left_even m c t h
  unfold called returned
  simp only [before0, before1, before2, before3, before4]
  rw [show (dats m 0 c).owesAt () t.succ = (dats m 0 c).owesAt () t.castSucc from rfl,
    show (dats m 0 c).Φ t.succ = between m c (t.val + 1) t.isLt from rfl, between_after m c t, e0, e1, e2, e3, e4]
  rw [Dat.leavesExact_idle (dats m 0 c) 5 t (out_idle t h) (out_unflushed t h), l8, l9, l10]
  refine .trans (BIClass.sep_mono (before_opening m c t) (Entails.refl _)) ?_
  iintro ⟨⟨HS0, HS1, HS2, ⟨%a, %ha, HS3⟩, Hg⟩, Ho, ⟨%d0, H0⟩, ⟨%d1, H1⟩, ⟨%d2, H2⟩, ⟨%d3, H3⟩, ⟨%d4, H4⟩, ⟨%d5, H5⟩⟩
  iapply (opening_run c (grid0.coords t) (bufs t) (blk0 m c t) (blk1 m c t) (blk2 m c t) (blk3 m c t) (blk4 m c t) a (opens_of h) (not_closes_of h) _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexists a; isplitr
      · ipureintro; exact fun hz => (ha hz (by omega)).trans (l11 hz).symm
      iexact HS3
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

/-- At an odd point the carried sums of the first entry's closing may be any: what is left does not depend on them. -/
theorem sums_unread (c : Dev nD) (t : Fin cfg0.N) (h : t.val % 2 = 1) (p : Left F) (a : Vec F S1x8 .f32) (ha : t.val - 1 ≠ 0 → a = p.sums) :
    closed7 c (grid0.coords t) (bufs t) (blk0 m c t) (blk1 m c t) (blk2 m c t) (blk3 m c t) (blk4 m c t) p.src p.ema p.planes a (not_opens_of h) (closes_of h) = (point m c t p).out
    ∧ closed8 c (grid0.coords t) (bufs t) (blk0 m c t) (blk1 m c t) (blk2 m c t) (blk3 m c t) (blk4 m c t) p.src p.ema p.planes a (not_opens_of h) (closes_of h) = (point m c t p).src
    ∧ closed9 c (grid0.coords t) (bufs t) (blk0 m c t) (blk1 m c t) (blk2 m c t) (blk3 m c t) (blk4 m c t) p.src p.ema p.planes a (not_opens_of h) (closes_of h) = (point m c t p).ema
    ∧ p.planes = (point m c t p).planes
    ∧ closed11 c (grid0.coords t) (bufs t) (blk0 m c t) (blk1 m c t) (blk2 m c t) (blk3 m c t) (blk4 m c t) p.src p.ema p.planes a (not_opens_of h) (closes_of h) = (point m c t p).sums := by
  have hN : t.val < 4 := lt_of_lt_of_eq t.isLt (show cfg0.N = 4 from N_0)
  rw [point_odd m c t p h]
  by_cases h1 : t.val - 1 = 0
  · have hi : (grid0.coords t 0).val = 0 := (coord0 t).trans (by omega)
    exact ⟨closed7_first c _ _ _ _ _ _ _ _ _ _ a p.sums _ _ hi, closed8_any c _ _ _ _ _ _ _ _ _ _ a p.sums _ _,
      closed9_any c _ _ _ _ _ _ _ _ _ _ a p.sums _ _, rfl, closed11_first c _ _ _ _ _ _ _ _ _ _ a p.sums _ _ hi⟩
  · rw [ha h1]; exact ⟨rfl, rfl, rfl, rfl, rfl⟩

/-- The body at an odd point. -/
theorem sound_odd (c : Dev nD) (t : Fin cfg0.N) (h : t.val % 2 = 1) :
    called m c t ⊢ wp frame (wpE (defs₀ (F := F)) Variants.none c none) Set.univ (run (grid0.coords t) (bufs t)) (fun _ => returned m c t) := by
  have hN : t.val < 4 := lt_of_lt_of_eq t.isLt (show cfg0.N = 4 from N_0)
  have hz : t.val ≠ 0 := by omega
  obtain ⟨e0, e1, e2, e3, e4⟩ := leaves_in m c t
  unfold called returned
  simp only [before0, before1, before2, before3, before4]
  rw [show (dats m 0 c).owesAt () t.succ = (dats m 0 c).owesAt () t.castSucc from rfl,
    show (dats m 0 c).Φ t.succ = between m c (t.val + 1) t.isLt from rfl, between_after m c t, e0, e1, e2, e3, e4,
    show (dats m 0 c).leavesExact 5 t = owns (c : Thread nD τ) (bufs t).a7 fullShare ((dats m 0 c).after 5 t) from by
      unfold Dat.leavesExact; rw [out_live t h]; rfl, after5,
    show (dats m 0 c).Φ t.castSucc = between m c t.val (Nat.le_of_lt t.isLt) from by dsimp only [dats]; exact Pipeline.Dat.Φ_castSucc (between m c) t,
    between_before m c t hz, left_pos m c t hz]
  generalize left m c (t.val - 1) _ = p
  iintro ⟨⟨⟨HS0, HS1, HS2, ⟨%a, %ha, HS3⟩⟩, Hg⟩, Ho, ⟨%d0, H0⟩, ⟨%d1, H1⟩, ⟨%d2, H2⟩, ⟨%d3, H3⟩, ⟨%d4, H4⟩, ⟨%d5, H5⟩⟩
  obtain ⟨k7, k8, k9, k10, k11⟩ := sums_unread m c t h p a ha
  rw [← k7, ← k8, ← k9, ← k10, ← k11]
  iapply (closing_run c (grid0.coords t) (bufs t) (blk0 m c t) (blk1 m c t) (blk2 m c t) (blk3 m c t) (blk4 m c t) p.src p.ema p.planes a (not_opens_of h) (closes_of h) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexists _; isplitr
      swap; · iexact HS3
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound (c : Dev nD) (t : Fin cfg0.N) :
    called m c t ⊢ wp frame (wpE (defs₀ (F := F)) Variants.none c none) Set.univ (bodyAt0 t) (fun _ => returned m c t) := by
  by_cases h : t.val % 2 = 0
  · exact sound_even m c t h
  · exact sound_odd m c t (by omega)

/-- The body keeps the launch's invariant. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound m c t) rfl .rfl fun _ => .rfl

/-! ## The run and the frame -/

/-- The invariant holds at the start. -/
theorem hin (c : Dev nD) : Pipeline.ΦA spec0 c ⊢ (dats m 0 c).Φ 0 := by
  rw [show (dats m 0 c).Φ 0 = Pipeline.ΦA spec0 c from rfl]

/-- After the last point the scratches' contents are forgotten. -/
theorem hout (c : Dev nD) : (dats m 0 c).Φ (Fin.last cfg0.N) ⊢ Pipeline.ΦA spec0 c := by
  rw [show (dats m 0 c).Φ (Fin.last cfg0.N) = between m c cfg0.N (Nat.le_refl _) from rfl,
    between_pos m c _ _ (by have : cfg0.N = 4 := N_0; omega), unnamed_eq]
  iintro ⟨⟨HS0, HS1, HS2, ⟨%a, %ha, HS3⟩⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- Every run of the program ends with the arrays at what the proof data says, and with every counter at zero. -/
theorem run_counted : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_arrays : θ_run defs (onTc (τ := τ) (main (F := F))) (s₀ m ρ) (Pipeline.FramePost cfgs (dats m) 0 (V m)) :=
  (θ_run defs _ _).mono (fun _ h => h.1) (run_counted m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_arrays m ρ)) ((θ_run defs _ _).mono (fun _ h => h.2) (run_counted m ρ))

end Cert.KernelIdeal.Body

end
-- ==== Proof.Rows.lean ====
module

public import Idealize.ShloMosaic.Lib.WritesUnit
public import Idealize.ShloMosaic.Lib.Pointwise
public import Idealize.ShloMosaic.Lib.Exec.Geometry

/-! Reading a buffer of planes at one position, after stores of whole planes and of planes without their last line. -/

@[expose] public section

namespace Cert.Rows

open Idealize.ShloMosaic

variable {sig : RefSig} {κ : Kind} {sp : Space} {e : EltTy} {Val : EltTy → Type} {n H W h : ℕ}

/-- The shape of `n` planes. -/
abbrev Planes (n H W : ℕ) : Shape := ⟨3, ![n, H, W]⟩

/-- After a store of plane `r`, that plane reads the stored one and the others what they read before. -/
theorem read_plane (v : View sig κ sp (Planes n H W) e) (f : v.ty.Contents Val) (r : ℕ)
    (inb : ∀ a, (![r, 0, 0] : Fin 3 → ℕ) a + (![1, H, W] : Fin 3 → ℕ) a ≤ (Planes n H W).size a)
    (w : (Rect.unit (s := Planes n H W) ![r, 0, 0] ![1, H, W] inb).shape.Idx → Val e) (L : List (View.Piece Val (Planes n H W) e))
    (k : Fin n) (y : Fin H) (x : Fin W) :
    v.read Val (v.writes Val f (⟨Rect.unit ![r, 0, 0] ![1, H, W] inb, w⟩ :: L)) (ix3 k y x)
      = if k.val = r then w (ix3 (n0 := 1) 0 y x) else v.read Val (v.writes Val f L) (ix3 k y x) := by
  split
  next hk =>
    refine View.read_writes_cons_unit_of_mem v f inb w L _ (ix3 (n0 := 1) 0 y x) rfl fun a => ?_
    fin_cases a
    · exact hk
    · exact (Nat.zero_add _).symm
    · exact (Nat.zero_add _).symm
  next hk =>
    refine View.read_writes_cons_unit_of_not_mem v f inb w L _ rfl (0 : Fin 3) ?_
    show k.val < r ∨ r + 1 ≤ k.val
    omega

/-- After a store of plane `r`'s first `h` lines, these read the stored ones and the rest what it read before. -/
theorem read_lines (v : View sig κ sp (Planes n H W) e) (f : v.ty.Contents Val) (r : ℕ)
    (inb : ∀ a, (![r, 0, 0] : Fin 3 → ℕ) a + (![1, h, W] : Fin 3 → ℕ) a ≤ (Planes n H W).size a)
    (w : (Rect.unit (s := Planes n H W) ![r, 0, 0] ![1, h, W] inb).shape.Idx → Val e) (L : List (View.Piece Val (Planes n H W) e))
    (k : Fin n) (y : Fin H) (x : Fin W) :
    v.read Val (v.writes Val f (⟨Rect.unit ![r, 0, 0] ![1, h, W] inb, w⟩ :: L)) (ix3 k y x)
      = if hy : k.val = r ∧ y.val < h then w (ix3 (n0 := 1) (n1 := h) 0 ⟨y.val, hy.2⟩ x) else v.read Val (v.writes Val f L) (ix3 k y x) := by
  split
  next hk =>
    refine View.read_writes_cons_unit_of_mem v f inb w L _ (ix3 (n0 := 1) (n1 := h) 0 ⟨y.val, hk.2⟩ x) rfl fun a => ?_
    fin_cases a
    · exact hk.1
    · exact (Nat.zero_add _).symm
    · exact (Nat.zero_add _).symm
  next hk =>
    by_cases h0 : k.val = r
    · refine View.read_writes_cons_unit_of_not_mem v f inb w L _ rfl (1 : Fin 3) ?_
      show y.val < 0 ∨ 0 + h ≤ y.val
      omega
    · refine View.read_writes_cons_unit_of_not_mem v f inb w L _ rfl (0 : Fin 3) ?_
      show k.val < r ∨ r + 1 ≤ k.val
      omega

/-- After a store of every plane, what is stored. -/
theorem read_all (v : View sig κ sp (Planes n H W) e) (f : v.ty.Contents Val)
    (inb : ∀ a, (![0, 0, 0] : Fin 3 → ℕ) a + (![n, H, W] : Fin 3 → ℕ) a ≤ (Planes n H W).size a)
    (w : (Rect.unit (s := Planes n H W) ![0, 0, 0] ![n, H, W] inb).shape.Idx → Val e) (L : List (View.Piece Val (Planes n H W) e))
    (k : Fin n) (y : Fin H) (x : Fin W) :
    v.read Val (v.writes Val f (⟨Rect.unit ![0, 0, 0] ![n, H, W] inb, w⟩ :: L)) (ix3 k y x) = w (ix3 k y x) := by
  refine View.read_writes_cons_unit_of_mem v f inb w L _ (ix3 k y x) rfl fun a => ?_
  fin_cases a <;> exact (Nat.zero_add _).symm

/-- A load of plane `r`, or of its first `h` lines, reads the buffer there. -/
theorem load_lines (v : View sig κ sp (Planes n H W) e) (f : v.ty.Contents Val) (r : ℕ) (hr : r < n) (hh : h ≤ H)
    (inb : ∀ a, (![r, 0, 0] : Fin 3 → ℕ) a + (![1, h, W] : Fin 3 → ℕ) a ≤ (Planes n H W).size a) (y : Fin h) (x : Fin W) :
    v.readAt Val (Rect.unit (s := Planes n H W) ![r, 0, 0] ![1, h, W] inb).toLoadRect f (ix3 (n0 := 1) (n1 := h) 0 y x)
      = v.read Val f (ix3 ⟨r, hr⟩ ⟨y.val, by omega⟩ x) := by
  rw [View.readAt_apply]
  congr 1
  funext a
  refine Fin.ext ?_
  fin_cases a
  · show r + 1 * 0 = r; omega
  · show 0 + 1 * y.val = y.val; omega
  · show 0 + 1 * x.val = x.val; omega

/-- The same load where the stores of the run so far cover what it reads. -/
theorem load_cov_lines [∀ e, Nonempty (Val e)] (v : View sig κ sp (Planes n H W) e) (L : List (View.Piece Val (Planes n H W) e)) (r : ℕ)
    (hr : r < n) (hh : h ≤ H)
    (inb : ∀ a, (![r, 0, 0] : Fin 3 → ℕ) a + (![1, h, W] : Fin 3 → ℕ) a ≤ (Planes n H W).size a) (y : Fin h) (x : Fin W) :
    v.readCov L (Rect.unit (s := Planes n H W) ![r, 0, 0] ![1, h, W] inb).toLoadRect (ix3 (n0 := 1) (n1 := h) 0 y x)
      = v.read Val (v.writes Val v.junk L) (ix3 ⟨r, hr⟩ ⟨y.val, by omega⟩ x) :=
  load_lines v (v.writes Val v.junk L) r hr hh inb y x

/-- A load of a whole buffer of rank four reads all of it. -/
theorem load_whole {n0 n1 n2 n3 : ℕ} (v : View sig κ sp ⟨4, ![n0, n1, n2, n3]⟩ e) (f : v.ty.Contents Val)
    (inb : ∀ a, (![0, 0, 0, 0] : Fin 4 → ℕ) a + (![n0, n1, n2, n3] : Fin 4 → ℕ) a ≤ (![n0, n1, n2, n3] : Fin 4 → ℕ) a) :
    v.readAt Val (Rect.unit (s := ⟨4, ![n0, n1, n2, n3]⟩) ![0, 0, 0, 0] ![n0, n1, n2, n3] inb).toLoadRect f = v.read Val f := by
  funext j
  rw [View.readAt_apply]
  congr 1
  funext a
  refine Fin.ext ?_
  show (![0, 0, 0, 0] : Fin 4 → ℕ) a + 1 * (j a).val = (j a).val
  fin_cases a <;> exact (Nat.zero_add _).trans (Nat.one_mul _)

end Cert.Rows
-- ==== Proof.Spec.lean ====
module

public import Idealize.ShloMosaic.Lib.Pointwise

/-! What the two programs compute, as functions of a position: the sums over channels of a feature map and its
neighbours. -/

@[expose] public section

noncomputable section

namespace Cert.Spec

open Idealize.ShloMosaic

/-- An image of extended reals. -/
abbrev Plane := Fin 96 → Fin 96 → EReal

/-- The image shifted by one to the left, zeros coming in. -/
def right (f : Plane) : Plane := fun y x => if h : x.val < 95 then f y ⟨1 + x.val, by omega⟩ else 0

/-- The five planes of sums over channels that a block of channels adds: of the squares, and of the products with the
    neighbours to the right, below to the left (one column to the right of where it belongs), below, and below to the right. -/
def chan {n : ℕ} (r : Fin 5) (g : Fin n → Plane) : Plane := fun y x =>
  match r with
  | 0 => ∑ k, g k y x * g k y x
  | 1 => ∑ k, g k y x * right (g k) y x
  | 2 => if h : y.val < 95 then ∑ k, g k ⟨1 + y.val, by omega⟩ x * right (g k) y x else 0
  | 3 => if h : y.val < 95 then ∑ k, g k y x * g k ⟨1 + y.val, by omega⟩ x else 0
  | 4 => if h : y.val < 95 then ∑ k, g k y x * right (g k) ⟨1 + y.val, by omega⟩ x else 0

/-- The value at tap `k` of the three by three window around `(y, x)`: `z` where the window leaves the plane. -/
def tap {α : Type} (z : α) (f : Fin 96 → Fin 96 → α) (k : Fin 9) (y x : Fin 96) : α :=
  if h : (1 ≤ y.val + k.val / 3 ∧ y.val + k.val / 3 - 1 < 96) ∧ 1 ≤ x.val + k.val % 3 ∧ x.val + k.val % 3 - 1 < 96 then
    f ⟨y.val + k.val / 3 - 1, h.1.2⟩ ⟨x.val + k.val % 3 - 1, h.2.2⟩
  else z

/-- A value is the one at a tap when it is so inside the plane and is the fill outside. -/
theorem eq_tap {α : Type} {z : α} {f : Fin 96 → Fin 96 → α} {k : Fin 9} {y x : Fin 96} {w : α}
    (hin : ∀ u v : Fin 96, u.val + 1 = y.val + k.val / 3 → v.val + 1 = x.val + k.val % 3 → w = f u v)
    (hout : y.val + k.val / 3 = 0 ∨ y.val + k.val / 3 = 97 ∨ x.val + k.val % 3 = 0 ∨ x.val + k.val % 3 = 97 → w = z) :
    w = tap z f k y x := by
  unfold tap
  split
  · next h => exact hin _ _ (by dsimp only; omega) (by dsimp only; omega)
  · next h => exact hout (by omega)

/-- The smallest nrm divided by. -/
def eps : EReal := Ideal.ofBits FTy.f32 841731191#32

/-- The clamped nrm of a vector of features. -/
def nrm {n : ℕ} (v : Fin n → EReal) : EReal := max (Ideal.sqrt (∑ c, v c * v c)) eps

/-- The cosine similarity of a pixel's features and the features at tap `k`. -/
def sim {n : ℕ} (g : Fin n → Plane) (k : Fin 9) (y x : Fin 96) : EReal :=
  Ideal.div (∑ c, tap 0 (g c) k y x * g c y x) (nrm (fun c => tap 0 (g c) k y x) * nrm (fun c => g c y x))

/-- Minus infinity, where a maximum starts. -/
def bottom : EReal := Ideal.ofBits FTy.f32 4286578688#32

/-- The exponential of a logit less the largest one. -/
def expo (l : Fin 19 → EReal) (c : Fin 19) : EReal := Ideal.exp (l c - max bottom (Finset.fold max bottom l Finset.univ))

/-- The softmax of the logits. -/
def prob (l : Fin 19 → EReal) (c : Fin 19) : EReal := Ideal.div (expo l c) (∑ c', expo l c')

/-- The probability that a pixel and its tap `k` have the same class. -/
def cross (l : Fin 19 → Plane) (k : Fin 9) (y x : Fin 96) : EReal :=
  ∑ c, prob (fun c => l c y x) c * prob (fun c => tap 0 (l c) k y x) c

/-- Whether the tap `k` has the label of the pixel (0 beyond the border). -/
def same (t : Fin 96 → Fin 96 → BitVec 32) (k : Fin 9) (y x : Fin 96) : Prop := tap 0#32 t k y x = t y x

instance (t : Fin 96 → Fin 96 → BitVec 32) (k : Fin 9) (y x : Fin 96) : Decidable (same t k y x) :=
  inferInstanceAs (Decidable (tap 0#32 t k y x = t y x))

/-- One where a proposition holds, else zero. -/
def ind (p : Prop) [Decidable p] : EReal := if p then 1 else 0

/-- The threshold of the mixing mask, one half. -/
def half : EReal := Ideal.ofBits FTy.f32 1056964608#32

/-- The weight of a pixel with a label and a tap of the same label. -/
def posW (t : Fin 96 → Fin 96 → BitVec 32) (k : Fin 9) (y x : Fin 96) : EReal := ind (same t k y x ∧ t y x ≠ 255#32)

/-- The weight of a pixel with a label and a tap of another label. -/
def negW (t : Fin 96 → Fin 96 → BitVec 32) (k : Fin 9) (y x : Fin 96) : EReal := ind (¬ same t k y x ∧ t y x ≠ 255#32)

/-- The weight of a pixel of the target image. -/
def mask (m : Plane) (y x : Fin 96) : EReal := ind (half < 1 - m y x)

end Cert.Spec

end
-- ==== Proof.Chunks.lean ====
module

public import proofs.«01_k».proof.Proof.KernelIdealRuns
import all proofs.«01_k».proof.Proof.KernelIdealRuns
public import proofs.«01_k».proof.Proof.Rows
public import proofs.«01_k».proof.Proof.Spec
public import Idealize.ShloMosaic.Lib.VecWindow

/-! What the two kinds of grid points leave in the sums over channels: the first block's sums, and these plus the
second block's. -/

@[expose] public section

set_option maxRecDepth 16384

noncomputable section

namespace Cert.KernelIdeal.Body

open Cert.KernelIdeal Cert.KernelIdeal.Gen
open Idealize.ShloMosaic
open Cert.Rows Cert.Spec

variable (c : Dev nD) (i : grid0.Coords) (B : Bufs)
    (x0 : Vec Ideal S1x19x96x96 .f32) (x1 : Vec Ideal S1x1x96x96 .i32) (x2 : Vec Ideal S1x64x96x96 .f32) (x3 : Vec Ideal S1x64x96x96 .f32) (x4 : Vec Ideal S1x1x96x96 .f32)

/-- A block of channels, channel by channel. -/
abbrev feats (v : Vec Ideal S1x64x96x96 .f32) : Fin 64 → Plane := fun k y x => v (ix4 0 k y x)

/-- The opening point leaves the first block's sums over the source features' channels. -/
theorem opened8_apply (hc0 : Opens i) (hc1 : ¬Closes i) (r : Fin 5) (y x : Fin 96) :
    opened8 c i B x0 x1 x2 x3 x4 hc0 hc1 (ix3 r y x) = chan r (feats x3) y x := by
  unfold opened8 opening
  dsimp only [opening.sl.HS0_5, opening.sl.HS0_4, opening.sl.HS0_3, opening.sl.HS0_2, opening.sl.HS0_1]
  simp only [read_lines, read_plane, read_all, opening.sl.r_6, opening.sl.r_7, opening.sl.r_8, opening.sl.r_9, load_whole, B.h5.read_unread]
  have hz (k : Fin 5) (y' x' : Fin 96) : opening.sl.v111 (F := Ideal) (ix3 k y' x') = 0 := by
    unfold opening.sl.v111 opening.sl.v108 opening.sl.cst_76; pointwise
  fin_cases r <;> dsimp only [chan, right]
  all_goals simp only [Fin.reduceFinMk, Fin.isValue, Nat.reduceEqDiff, false_and, true_and, dite_false, dite_true, reduceDIte, if_true, Fin.val_zero, Fin.val_one, Fin.coe_ofNat_eq_mod, Nat.reduceMod, OfNat.ofNat_ne_zero, OfNat.ofNat_ne_one, y.isLt]
  all_goals unfold_payloads
  all_goals pointwise
  all_goals simp only [opening.sl.v8, opening.sl.v16, opening.sl.v24, opening.sl.v34, opening.sl.v44]
  all_goals try split
  all_goals first | exact hz _ _ _ | rw [load_cov_lines _ _ _ (by decide) (by decide)]
  all_goals try dsimp only [opening.sl.HS0_5, opening.sl.HS0_4, opening.sl.HS0_3, opening.sl.HS0_2, opening.sl.HS0_1]
  all_goals simp only [read_lines, read_plane, read_all, Fin.reduceFinMk, Fin.isValue, Nat.reduceEqDiff, false_and, dite_false, Fin.val_zero, Fin.val_one, Fin.coe_ofNat_eq_mod, Nat.reduceMod, OfNat.ofNat_ne_zero, OfNat.ofNat_ne_one, hz, zero_add]

/-- The opening point leaves the first block's sums over the averaged features' channels. -/
theorem opened9_apply (hc0 : Opens i) (hc1 : ¬Closes i) (r : Fin 5) (y x : Fin 96) :
    opened9 c i B x0 x1 x2 x3 x4 hc0 hc1 (ix3 r y x) = chan r (feats x2) y x := by
  unfold opened9 opening
  dsimp only [opening.sl.HS1_5, opening.sl.HS1_4, opening.sl.HS1_3, opening.sl.HS1_2, opening.sl.HS0_1]
  simp only [read_lines, read_all, opening.sl.r_10, opening.sl.r_11, opening.sl.r_12, opening.sl.r_13, opening.sl.r_14, load_whole, B.h4.read_unread]
  have hz (k : Fin 5) (y' x' : Fin 96) : opening.sl.v111 (F := Ideal) (ix3 k y' x') = 0 := by
    unfold opening.sl.v111 opening.sl.v108 opening.sl.cst_76; pointwise
  fin_cases r <;> dsimp only [chan, right]
  all_goals simp only [Fin.reduceFinMk, Fin.isValue, Nat.reduceEqDiff, false_and, true_and, dite_false, dite_true, Fin.val_zero, Fin.val_one, Fin.coe_ofNat_eq_mod, Nat.reduceMod, OfNat.ofNat_ne_zero, OfNat.ofNat_ne_one, y.isLt]
  all_goals unfold_payloads
  all_goals pointwise
  all_goals simp only [opening.sl.v59, opening.sl.v67, opening.sl.v75, opening.sl.v85, opening.sl.v95]
  all_goals try split
  all_goals first | exact hz _ _ _ | rw [load_cov_lines _ _ _ (by decide) (by decide)]
  all_goals try dsimp only [opening.sl.HS1_5, opening.sl.HS1_4, opening.sl.HS1_3, opening.sl.HS1_2, opening.sl.HS0_1]
  all_goals simp only [read_lines, read_all, Fin.reduceFinMk, Fin.isValue, Nat.reduceEqDiff, false_and, dite_false, Fin.val_zero, Fin.val_one, Fin.coe_ofNat_eq_mod, Nat.reduceMod, OfNat.ofNat_ne_zero, OfNat.ofNat_ne_one, hz, zero_add]

variable (s8 : Vec Ideal S5x96x96 .f32) (s9 : Vec Ideal S5x96x96 .f32) (s10 : Vec Ideal S9x96x96 .f32) (a : Vec Ideal S1x8 .f32)

/-- After the closing point's stores the source features' sums are the ones found plus the second block's. -/
theorem closing_rows8 (f : B.a8.view.ty.Contents (Elt Ideal)) (r : Fin 5) (hf : 2 ≤ r.val → B.a8.view.read (Elt Ideal) f = s8) (y x : Fin 96) :
    B.a8.view.read (Elt Ideal) (B.a8.view.writes (Elt Ideal) f (closing.sl.H6_5 c B x3 s8)) (ix3 r y x)
      = s8 (ix3 r y x) + chan r (feats x3) y x := by
  dsimp only [closing.sl.H6_5]
  simp only [read_lines, closing.sl.r, closing.sl.r_1, closing.sl.r_2, closing.sl.r_3, load_whole, B.h5.read_unread, View.writes_nil]
  fin_cases r <;> dsimp only [chan, right]
  all_goals simp only [Fin.reduceFinMk, Fin.isValue, Nat.reduceEqDiff, false_and, true_and, dite_false, dite_true, Fin.val_zero, Fin.val_one, Fin.coe_ofNat_eq_mod, Nat.reduceMod, OfNat.ofNat_ne_zero, OfNat.ofNat_ne_one, y.isLt]
  all_goals unfold_payloads
  all_goals pointwise
  all_goals try simp only [closing.sl.v16, closing.sl.v24, closing.sl.v34, closing.sl.v44]
  all_goals by_cases hy : y.val < 95
  all_goals try simp only [hy, dite_true, dite_false]
  all_goals first | (rw [hf (by decide), add_zero]) | rw [load_lines _ _ _ (by decide) (by decide), B.h8.read_unread]
  all_goals rfl

/-- After the closing point's stores the averaged features' sums are the ones found plus the second block's. -/
theorem closing_rows9 (f : B.a9.view.ty.Contents (Elt Ideal)) (r : Fin 5) (hf : 2 ≤ r.val → B.a9.view.read (Elt Ideal) f = s9) (y x : Fin 96) :
    B.a9.view.read (Elt Ideal) (B.a9.view.writes (Elt Ideal) f (closing.sl.H7_5 c B x2 s9)) (ix3 r y x)
      = s9 (ix3 r y x) + chan r (feats x2) y x := by
  dsimp only [closing.sl.H7_5]
  simp only [read_lines, closing.sl.r_4, closing.sl.r_5, closing.sl.r_6, closing.sl.r_7, closing.sl.r_8, load_whole, B.h4.read_unread, View.writes_nil]
  fin_cases r <;> dsimp only [chan, right]
  all_goals simp only [Fin.reduceFinMk, Fin.isValue, Nat.reduceEqDiff, false_and, true_and, dite_false, dite_true, Fin.val_zero, Fin.val_one, Fin.coe_ofNat_eq_mod, Nat.reduceMod, OfNat.ofNat_ne_zero, OfNat.ofNat_ne_one, y.isLt]
  all_goals unfold_payloads
  all_goals pointwise
  all_goals try simp only [closing.sl.v67, closing.sl.v75, closing.sl.v85, closing.sl.v95]
  all_goals by_cases hy : y.val < 95
  all_goals try simp only [hy, dite_true, dite_false]
  all_goals first | (rw [hf (by decide), add_zero]) | rw [load_lines _ _ _ (by decide) (by decide), B.h9.read_unread]
  all_goals rfl

end Cert.KernelIdeal.Body

end
-- ==== Proof.SimSpec.lean ====
module

public import proofs.«01_k».proof.Proof.Spec
public import Idealize.ShloMosaic.Lib.IdealHost

@[expose] public section

noncomputable section

/-! A similarity written with reciprocals of the clamped norms, inside the image and at its border. -/

namespace Cert.Spec

open Idealize.ShloMosaic

/-- The clamp is positive. -/
theorem eps_pos : 0 < eps := by
  unfold eps
  simp [Ideal.ofBits, Ideal.ieee]
  exact EReal.mul_pos (by exact_mod_cast (by norm_num : (0 : ℝ) < 11258999)) (EReal.coe_pos.2 (by positivity))

/-- A clamped norm is positive. -/
theorem nrm_pos {n : ℕ} (v : Fin n → EReal) : 0 < nrm v := lt_of_lt_of_le eps_pos (le_max_right _ _)

/-- A product with two reciprocals is one quotient. -/
theorem mul_recips {a b : EReal} (ha : 0 < a) (hb : 0 < b) (d : EReal) :
    d * (Ideal.div 1 a * Ideal.div 1 b) = Ideal.div d (a * b) := by
  unfold Ideal.div
  rw [if_neg ha.ne', if_neg hb.ne', if_neg (mul_ne_zero ha.ne' hb.ne'), one_mul, one_mul, EReal.mul_inv]

/-- A tap inside the image. -/
theorem tap_in {α : Type} (z : α) (f : Fin 96 → Fin 96 → α) {k : Fin 9} {y x u v : Fin 96}
    (hu : u.val + 1 = y.val + k.val / 3) (hv : v.val + 1 = x.val + k.val % 3) : tap z f k y x = f u v := by
  unfold tap
  rw [dif_pos (by have := u.isLt; have := v.isLt; omega)]
  exact congrArg₂ f (Fin.ext (by dsimp only; omega)) (Fin.ext (by dsimp only; omega))

/-- A tap outside the image. -/
theorem tap_out {α : Type} (z : α) (f : Fin 96 → Fin 96 → α) {k : Fin 9} {y x : Fin 96}
    (h : y.val + k.val / 3 = 0 ∨ y.val + k.val / 3 = 97 ∨ x.val + k.val % 3 = 0 ∨ x.val + k.val % 3 = 97) : tap z f k y x = z := by
  unfold tap
  rw [dif_neg (by omega)]

variable {n : ℕ} (g : Fin n → Plane) {k : Fin 9} {y x : Fin 96}

/-- The similarity with a tap inside the image. -/
theorem sim_in (u v : Fin 96) (hu : u.val + 1 = y.val + k.val / 3) (hv : v.val + 1 = x.val + k.val % 3) :
    sim g k y x = (∑ c, g c u v * g c y x) * (Ideal.div 1 (nrm fun c => g c u v) * Ideal.div 1 (nrm fun c => g c y x)) := by
  rw [mul_recips (nrm_pos _) (nrm_pos _)]
  have e : ∀ c, tap 0 (g c) k y x = g c u v := fun c => tap_in 0 _ hu hv
  simp only [sim, e]

/-- The similarity with a tap outside the image is zero. -/
theorem sim_out (h : y.val + k.val / 3 = 0 ∨ y.val + k.val / 3 = 97 ∨ x.val + k.val % 3 = 0 ∨ x.val + k.val % 3 = 97) :
    sim g k y x = 0 := by
  have e : ∀ c, tap 0 (g c) k y x = 0 := fun c => tap_out 0 _ h
  simp only [sim, e, zero_mul, Finset.sum_const_zero]
  exact Ideal.zero_div (mul_ne_zero (nrm_pos _).ne' (nrm_pos _).ne')

end Cert.Spec

end
-- ==== Proof.KernelSims.lean ====
module

public import proofs.«01_k».proof.Proof.Gen.KernelIdeal.Skeleton
public import proofs.«01_k».proof.Proof.SimSpec
public import Idealize.ShloMosaic.Lib.Pointwise

@[expose] public section

set_option maxRecDepth 16384

noncomputable section

/-! The closing point's nine similarity planes, from the five planes of sums over channels. -/

namespace Cert.KernelIdeal.Body

open Cert.KernelIdeal Cert.KernelIdeal.Gen Idealize.ShloMosaic Cert.Spec

/-- The fill of a shifted reciprocal. -/
abbrev big : EReal := FloatOps.ofBits (F := Ideal) FTy.f32 1287568416#32

section
variable {m : ℕ} (g : Fin m → Plane) (n d1 d2 d3 d4 : Vec Ideal S1x96x96 .f32)
  (hn : ∀ y x, n (ix3 0 y x) = chan 0 g y x) (h1 : ∀ y x, d1 (ix3 0 y x) = chan 1 g y x)
  (h2 : ∀ y x, d2 (ix3 0 y x) = chan 2 g y x) (h3 : ∀ y x, d3 (ix3 0 y x) = chan 3 g y x)
  (h4 : ∀ y x, d4 (ix3 0 y x) = chan 4 g y x) (y x : Fin 96)

include hn in
/-- The similarities with tap 4. -/
theorem sim4 : k0_pay30 n (ix2 y x) = sim g 4 y x := by
  unfold_payloads
  pointwise
  rw [sim_in g y x rfl rfl, hn]
  rfl

include hn h1 in
/-- The similarities with tap 5. -/
theorem sim5 : k0_pay34 n d1 (ix2 y x) = sim g 5 y x := by
  unfold_payloads
  pointwise
  by_cases hx : x.val < 95
  · rw [sim_in g y ⟨1 + x.val, by omega⟩ rfl (by simp; omega)]
    simp only [hn, h1, chan, right, hx, dite_true]
    refine congrArg₂ (· * ·) (Finset.sum_congr rfl fun c _ => mul_comm _ _) rfl
  · rw [sim_out g (by right; right; right; simp; omega)]
    simp only [hn, h1, chan, right, hx, dite_false, mul_zero, zero_mul, Finset.sum_const_zero]

include hn h2 in
/-- The similarities with tap 6. -/
theorem sim6 : k0_pay36 (k0_pay29 n) (k0_pay31 d2) (k0_pay35 n) big (ix2 y x) = sim g 6 y x := by
  unfold_payloads
  pointwise
  by_cases hx : x.val < 1
  · rw [sim_out g (by right; right; left; simp; omega)]
    simp only [hx, dite_true, zero_mul]
  · have hv (v : Fin 95) : 1 + v.val < 96 := by omega
    obtain ⟨v, rfl⟩ : ∃ v : Fin 95, x = ⟨1 + v.val, hv v⟩ := ⟨⟨x.val - 1, by omega⟩, Fin.ext (by simp; omega)⟩
    by_cases hy : y.val < 95
    · rw [sim_in g ⟨1 + y.val, by omega⟩ ⟨v.val, by omega⟩ (by simp; omega) (by simp; omega)]
      simp only [hn, h2, chan, right, hx, hy, dite_true, dite_false, Nat.add_sub_cancel_left, v.isLt]
      rfl
    · rw [sim_out g (by right; left; simp; omega)]
      simp only [hn, h2, chan, right, hx, hy, dite_true, dite_false, Nat.add_sub_cancel_left, zero_mul]

include hn h3 in
/-- The similarities with tap 7. -/
theorem sim7 : k0_pay37 (k0_pay29 n) (k0_pay32 d3) (ix2 y x) = sim g 7 y x := by
  unfold_payloads
  pointwise
  by_cases hy : y.val < 95
  · rw [sim_in g ⟨1 + y.val, by omega⟩ x (by simp; omega) (by simp)]
    simp only [hn, h3, chan, right, hy, dite_true]
    refine congrArg₂ (· * ·) (Finset.sum_congr rfl fun c _ => mul_comm _ _) rfl
  · rw [sim_out g (by right; left; simp; omega)]
    simp only [hn, h3, chan, right, hy, dite_false, mul_zero, zero_mul, Finset.sum_const_zero]

include hn h4 in
/-- The similarities with tap 8. -/
theorem sim8 : k0_pay38 (k0_pay29 n) (k0_pay33 d4) (ix2 y x) = sim g 8 y x := by
  unfold_payloads
  pointwise
  by_cases hy : y.val < 95
  · by_cases hx : x.val < 95
    · rw [sim_in g ⟨1 + y.val, by omega⟩ ⟨1 + x.val, by omega⟩ (by simp; omega) (by simp; omega)]
      simp only [hn, h4, chan, right, hy, hx, dite_true]
      refine congrArg₂ (· * ·) (Finset.sum_congr rfl fun c _ => mul_comm _ _) rfl
    · rw [sim_out g (by right; right; right; simp; omega)]
      simp only [hn, h4, chan, right, hy, hx, dite_true, dite_false, mul_zero, zero_mul, Finset.sum_const_zero]
  · rw [sim_out g (by right; left; simp; omega)]
    simp only [hn, h4, chan, right, hy, dite_false, mul_zero, zero_mul, Finset.sum_const_zero]

/-- The similarity is the same from either side. -/
theorem sim_swap {k k' : Fin 9} {y x u v : Fin 96} (hu : u.val + 1 = y.val + k.val / 3) (hv : v.val + 1 = x.val + k.val % 3)
    (hy : y.val + 1 = u.val + k'.val / 3) (hx : x.val + 1 = v.val + k'.val % 3) : sim g k' u v = sim g k y x := by
  rw [sim_in g u v hu hv, sim_in g y x hy hx]
  exact congrArg₂ (· * ·) (Finset.sum_congr rfl fun c _ => mul_comm _ _) (mul_comm _ _)

/-- A plane shifted down by one row, zeros coming in. -/
theorem pay40_apply (a b : FVec Ideal S96x96 .f32) :
    k0_pay40 a b (ix2 y x) = if h : y.val < 1 then 0 else k0_pay37 a b (ix2 ⟨y.val - 1, by omega⟩ x) := by
  unfold_payloads
  pointwise

/-- A plane shifted right by one column, zeros coming in. -/
theorem pay39_apply (a : FVec Ideal S96x96 .f32) :
    k0_pay39 a (ix2 y x) = if h : x.val < 1 then 0 else a (ix2 y ⟨x.val - 1, by omega⟩) := by
  unfold_payloads
  pointwise

/-- A plane shifted down by one row and right by one column, zeros coming in. -/
theorem pay41_apply (a b : FVec Ideal S96x96 .f32) :
    k0_pay41 a b (ix2 y x) = if h : x.val < 1 then 0 else if h : y.val < 1 then 0
      else k0_pay38 a b (ix2 ⟨y.val - 1, by omega⟩ ⟨x.val - 1, by omega⟩) := by
  unfold_payloads
  pointwise

/-- A plane shifted down by one row and left by one column, zeros coming in. -/
theorem pay42_apply (a b d : FVec Ideal S96x96 .f32) (z : Ideal .f32) :
    k0_pay42 a b d z (ix2 y x) = if h : x.val < 95 then if h' : y.val < 1 then 0
      else k0_pay36 a b d z (ix2 ⟨y.val - 1, by omega⟩ ⟨1 + x.val, by omega⟩) else 0 := by
  unfold_payloads
  pointwise

include hn h1 in
/-- The similarities with tap 3. -/
theorem sim3 : k0_pay39 (k0_pay34 n d1) (ix2 y x) = sim g 3 y x := by
  rw [pay39_apply]
  split
  · exact (sim_out g (by right; right; left; simp; omega)).symm
  · rw [sim5 g n d1 hn h1]
    exact sim_swap g (by simp) (by simp; omega) (by simp) (by simp; omega)

include hn h3 in
/-- The similarities with tap 1. -/
theorem sim1 : k0_pay40 (k0_pay29 n) (k0_pay32 d3) (ix2 y x) = sim g 1 y x := by
  rw [pay40_apply]
  split
  · exact (sim_out g (by left; simp; omega)).symm
  · rw [sim7 g n d3 hn h3]
    exact sim_swap g (by simp; omega) (by simp) (by simp; omega) (by simp)

include hn h4 in
/-- The similarities with tap 0. -/
theorem sim0 : k0_pay41 (k0_pay29 n) (k0_pay33 d4) (ix2 y x) = sim g 0 y x := by
  rw [pay41_apply]
  split
  · exact (sim_out g (by right; right; left; simp; omega)).symm
  · split
    · exact (sim_out g (by left; simp; omega)).symm
    · rw [sim8 g n d4 hn h4]
      exact sim_swap g (by simp; omega) (by simp; omega) (by simp; omega) (by simp; omega)

include hn h2 in
/-- The similarities with tap 2. -/
theorem sim2 : k0_pay42 (k0_pay29 n) (k0_pay31 d2) (k0_pay35 n) big (ix2 y x) = sim g 2 y x := by
  rw [pay42_apply]
  split
  · split
    · exact (sim_out g (by left; simp; omega)).symm
    · rw [sim6 g n d2 hn h2]
      exact sim_swap g (by simp; omega) (by simp; omega) (by simp; omega) (by simp; omega)
  · exact (sim_out g (by right; right; right; simp; omega)).symm

end

end Cert.KernelIdeal.Body

end
-- ==== Proof.KernelMasks.lean ====
module

public import proofs.«01_k».proof.Proof.Gen.KernelIdeal.Skeleton
public import proofs.«01_k».proof.Proof.SimSpec
public import Idealize.ShloMosaic.Lib.Pointwise
public import Idealize.ShloMosaic.Lib.WordCmp

@[expose] public section

set_option maxRecDepth 16384

noncomputable section

/-! The closing point's label masks and the four sums over the source image. -/

namespace Cert.Spec

open Idealize.ShloMosaic

/-- A sum over nine taps in order. -/
theorem sum9 {M : Type} [AddCommMonoid M] (f : Fin 9 → M) :
    ∑ k, f k = f 0 + f 1 + f 2 + f 3 + f 4 + f 5 + f 6 + f 7 + f 8 := by
  rw [Fin.sum_univ_castSucc, Fin.sum_univ_eight]
  rfl

/-- A truth value widened to a word and made a float. -/
theorem wide (p : Prop) [Decidable p] :
    (FloatOps.sitofp (F := Ideal) .f32 (BitVec.setWidth 32 (BitVec.ofBool (decide p))) : EReal) = ind p := by
  show ((((BitVec.setWidth 32 (BitVec.ofBool (decide p))).toInt : ℤ) : ℝ) : EReal) = _
  by_cases h : p <;> simp [h, ind]

/-- The weight of a labelled pixel. -/
def lab (t : Fin 96 → Fin 96 → BitVec 32) (y x : Fin 96) : EReal := ind (t y x ≠ 255#32)

/-- The kernel's weight of a labelled pixel. -/
theorem lab_eq (w : BitVec 32) :
    (FloatOps.sitofp (F := Ideal) .f32 (BitVec.setWidth 32 (IntOp.cmpi .ne w 255#32)) : EReal) = ind (w ≠ 255#32) := by
  rw [WordCmp.cmpi_ne_eq, wide]

/-- The kernel's weight of a labelled pixel and a tap of the same label. -/
theorem weight (t : Fin 96 → Fin 96 → BitVec 32) {k : Fin 9} {y x : Fin 96} {w : BitVec 32} (hw : w = tap 0#32 t k y x) :
    (Scalar.select (IntOp.cmpi .eq w (t y x))
      (FloatOps.sitofp (F := Ideal) .f32 (BitVec.setWidth 32 (IntOp.cmpi .ne (t y x) 255#32)) : EReal) 0) = posW t k y x := by
  rw [lab_eq, WordCmp.cmpi_eq_eq, hw]
  unfold posW ind same
  by_cases h : tap 0#32 t k y x = t y x <;> simp [Scalar.select, h]

end Cert.Spec

namespace Cert.KernelIdeal.Body

open Cert.KernelIdeal Cert.KernelIdeal.Gen Idealize.ShloMosaic Cert.Spec

section
variable (gt : Vec Ideal S1x1x96x96 .i32) (y x : Fin 96)

/-- The labels of a block. -/
abbrev tags : Fin 96 → Fin 96 → BitVec 32 := fun y x => gt (ix4 0 0 y x)

/-- The plane of labelled pixels. -/
theorem lab_apply : (k0_pay27 (F := Ideal) gt (ix2 y x) : EReal) = lab (tags gt) y x := by
  unfold_payloads
  pointwise
  exact lab_eq _

/-- The weight of the pairs of one label at tap 0. -/
theorem mask0 : (k0_pay47 (F := Ideal) (k0_pay27 gt) (k0_pay46 (k0_pay26 (F := Ideal) gt)) (ix2 y x) : EReal) = posW (tags gt) 0 y x := by
  unfold_payloads
  pointwise
  refine weight (tags gt) (eq_tap (fun u v hu hv => ?_) (fun h => ?_))
  all_goals simp only [Fin.isValue, Fin.val_zero, Nat.zero_div, Nat.zero_mod] at *
  all_goals repeat' split
  all_goals first | (exfalso; omega) | rfl | exact congrArg₂ (tags gt) (Fin.ext (by dsimp only; omega)) (Fin.ext (by dsimp only; omega))

/-- The weight of the pairs of one label at tap 1. -/
theorem mask1 : (k0_pay48 (F := Ideal) (k0_pay26 (F := Ideal) gt) (k0_pay27 gt) (ix2 y x) : EReal) = posW (tags gt) 1 y x := by
  unfold_payloads
  pointwise
  refine weight (tags gt) (eq_tap (fun u v hu hv => ?_) (fun h => ?_))
  all_goals simp only [Fin.isValue, Fin.val_one, Fin.coe_ofNat_eq_mod, Nat.reduceMod, Nat.reduceDiv] at *
  all_goals repeat' split
  all_goals first | (exfalso; omega) | rfl | exact congrArg₂ (tags gt) (Fin.ext (by first | omega | (dsimp only; try omega))) (Fin.ext (by first | omega | (dsimp only; try omega)))

/-- The weight of the pairs of one label at tap 2. -/
theorem mask2 : (k0_pay49 (F := Ideal) (k0_pay26 (F := Ideal) gt) (k0_pay27 gt) (ix2 y x) : EReal) = posW (tags gt) 2 y x := by
  unfold_payloads
  pointwise
  refine weight (tags gt) (eq_tap (fun u v hu hv => ?_) (fun h => ?_))
  all_goals simp only [Fin.isValue, Fin.val_one, Fin.coe_ofNat_eq_mod, Nat.reduceMod, Nat.reduceDiv] at *
  all_goals repeat' split
  all_goals first | (exfalso; omega) | rfl | exact congrArg₂ (tags gt) (Fin.ext (by first | omega | (dsimp only; try omega))) (Fin.ext (by first | omega | (dsimp only; try omega)))

/-- The weight of the pairs of one label at tap 3. -/
theorem mask3 : (k0_pay50 (F := Ideal) (k0_pay26 (F := Ideal) gt) (k0_pay27 gt) (ix2 y x) : EReal) = posW (tags gt) 3 y x := by
  unfold_payloads
  pointwise
  refine weight (tags gt) (eq_tap (fun u v hu hv => ?_) (fun h => ?_))
  all_goals simp only [Fin.isValue, Fin.val_one, Fin.coe_ofNat_eq_mod, Nat.reduceMod, Nat.reduceDiv] at *
  all_goals repeat' split
  all_goals first | (exfalso; omega) | rfl | exact congrArg₂ (tags gt) (Fin.ext (by first | omega | (dsimp only; try omega))) (Fin.ext (by first | omega | (dsimp only; try omega)))

/-- The weight of the pairs of one label at tap 4. -/
theorem mask4 : (k0_pay51 (F := Ideal) (k0_pay26 (F := Ideal) gt) (k0_pay27 gt) (ix2 y x) : EReal) = posW (tags gt) 4 y x := by
  unfold_payloads
  pointwise
  rw [lab_eq]
  have e : same (tags gt) 4 y x := tap_in _ _ rfl rfl
  unfold posW
  simp only [e, true_and]

/-- The weight of the pairs of one label at tap 5. -/
theorem mask5 : (k0_pay56 (F := Ideal) (k0_pay27 gt) (k0_pay55 (k0_pay26 (F := Ideal) gt)) (ix2 y x) : EReal) = posW (tags gt) 5 y x := by
  unfold_payloads
  pointwise
  refine weight (tags gt) (eq_tap (fun u v hu hv => ?_) (fun h => ?_))
  all_goals simp only [Fin.isValue, Fin.val_one, Fin.coe_ofNat_eq_mod, Nat.reduceMod, Nat.reduceDiv] at *
  all_goals repeat' split
  all_goals first | (exfalso; omega) | rfl | exact congrArg₂ (tags gt) (Fin.ext (by first | omega | (dsimp only; try omega))) (Fin.ext (by first | omega | (dsimp only; try omega)))

/-- The weight of the pairs of one label at tap 6. -/
theorem mask6 : (k0_pay57 (F := Ideal) (k0_pay26 (F := Ideal) gt) (k0_pay27 gt) (ix2 y x) : EReal) = posW (tags gt) 6 y x := by
  unfold_payloads
  pointwise
  refine weight (tags gt) (eq_tap (fun u v hu hv => ?_) (fun h => ?_))
  all_goals simp only [Fin.isValue, Fin.val_one, Fin.coe_ofNat_eq_mod, Nat.reduceMod, Nat.reduceDiv] at *
  all_goals repeat' split
  all_goals first | (exfalso; omega) | rfl | exact congrArg₂ (tags gt) (Fin.ext (by first | omega | (dsimp only; try omega))) (Fin.ext (by first | omega | (dsimp only; try omega)))

/-- The weight of the pairs of one label at tap 7. -/
theorem mask7 : (k0_pay58 (F := Ideal) (k0_pay26 (F := Ideal) gt) (k0_pay27 gt) (ix2 y x) : EReal) = posW (tags gt) 7 y x := by
  unfold_payloads
  pointwise
  refine weight (tags gt) (eq_tap (fun u v hu hv => ?_) (fun h => ?_))
  all_goals simp only [Fin.isValue, Fin.val_one, Fin.coe_ofNat_eq_mod, Nat.reduceMod, Nat.reduceDiv] at *
  all_goals repeat' split
  all_goals first | (exfalso; omega) | rfl | exact congrArg₂ (tags gt) (Fin.ext (by first | omega | (dsimp only; try omega))) (Fin.ext (by first | omega | (dsimp only; try omega)))

/-- The weight of the pairs of one label at tap 8. -/
theorem mask8 : (k0_pay59 (F := Ideal) (k0_pay26 (F := Ideal) gt) (k0_pay27 gt) (ix2 y x) : EReal) = posW (tags gt) 8 y x := by
  unfold_payloads
  pointwise
  refine weight (tags gt) (eq_tap (fun u v hu hv => ?_) (fun h => ?_))
  all_goals simp only [Fin.isValue, Fin.val_one, Fin.coe_ofNat_eq_mod, Nat.reduceMod, Nat.reduceDiv] at *
  all_goals repeat' split
  all_goals first | (exfalso; omega) | rfl | exact congrArg₂ (tags gt) (Fin.ext (by first | omega | (dsimp only; try omega))) (Fin.ext (by first | omega | (dsimp only; try omega)))

variable (s0 s1 s2 s3 s4 s5 s6 s7 s8 : FVec Ideal S96x96 .f32) (S : Fin 9 → Plane)
  (hS : ∀ y x, s0 (ix2 y x) = S 0 y x ∧ s1 (ix2 y x) = S 1 y x ∧ s2 (ix2 y x) = S 2 y x ∧ s3 (ix2 y x) = S 3 y x
    ∧ s4 (ix2 y x) = S 4 y x ∧ s5 (ix2 y x) = S 5 y x ∧ s6 (ix2 y x) = S 6 y x ∧ s7 (ix2 y x) = S 7 y x ∧ s8 (ix2 y x) = S 8 y x)

include hS in
/-- The sum of the similarities of the positive pairs. -/
theorem src_pos : (k0_pay61 (k0_pay26 (F := Ideal) gt) (k0_pay27 gt) s5 s6 s7 s8
      (k0_pay52 (k0_pay26 (F := Ideal) gt) (k0_pay27 gt) s4 s3 s1 s0 s2 k0_pay43 (k0_pay46 (k0_pay26 (F := Ideal) gt)))
      (k0_pay55 (k0_pay26 (F := Ideal) gt)) : EReal)
    = ∑ y, ∑ x, ∑ k, S k y x * posW (tags gt) k y x := by
  unfold k0_pay61 k0_pay52 k0_pay43
  pointwise
  refine Finset.sum_congr rfl fun y _ => Finset.sum_congr rfl fun x _ => ?_
  obtain ⟨e0, e1, e2, e3, e4, e5, e6, e7, e8⟩ := hS y x
  rw [sum9, mask0, mask1, mask2, mask3, mask4, mask5, mask6, mask7, mask8, e0, e1, e2, e3, e4, e5, e6, e7, e8]
  try rw [zero_add]

/-- The number of positive pairs, as the vector of one entry it is carried in. -/
theorem src_cnt_vec : (k0_pay62 (k0_pay26 (F := Ideal) gt) (k0_pay27 gt)
      (k0_pay53 (k0_pay26 (F := Ideal) gt) (k0_pay27 gt) k0_pay44 (k0_pay46 (k0_pay26 (F := Ideal) gt)))
      (k0_pay55 (k0_pay26 (F := Ideal) gt)) (ix3 0 0 0) : EReal)
    = ∑ y, ∑ x, ∑ k, posW (tags gt) k y x := by
  unfold k0_pay62 k0_pay53 k0_pay44
  pointwise
  refine Finset.sum_congr rfl fun y _ => Finset.sum_congr rfl fun x _ => ?_
  rw [sum9, mask0, mask1, mask2, mask3, mask4, mask5, mask6, mask7, mask8]
  try rw [zero_add]

include hS in
/-- The sum of the similarities of the negative pairs, as a difference. -/
theorem src_neg (a : Ideal .f32) : (k0_pay64 (k0_pay27 gt) (k0_pay60 s5 s6 s7 s8 (k0_pay54 s4 s3 s1 s0 s2 (k0_pay45 (F := Ideal)))) a : EReal)
    = ∑ y, ∑ x, (∑ k, S k y x) * lab (tags gt) y x - a := by
  unfold k0_pay64 k0_pay60 k0_pay54 k0_pay45
  pointwise
  refine congrArg (· - a) (Finset.sum_congr rfl fun y _ => Finset.sum_congr rfl fun x _ => ?_)
  obtain ⟨e0, e1, e2, e3, e4, e5, e6, e7, e8⟩ := hS y x
  rw [sum9, lab_apply, e0, e1, e2, e3, e4, e5, e6, e7, e8]
  try rw [zero_add]

/-- The number of negative pairs, as a difference. -/
theorem src_negcnt (a : FVec Ideal S1x1x1 .f32) : (k0_pay65 (k0_pay27 gt) a : EReal)
    = Ideal.ofBits FTy.f32 1091567616#32 * (∑ y, ∑ x, lab (tags gt) y x) - a (ix3 0 0 0) := by
  unfold k0_pay65 k0_pay63
  pointwise
  simp only [lab_apply]

/-- The one entry of the vector of one entry. -/
theorem pay63_apply (a : FVec Ideal S1x1x1 .f32) : (k0_pay63 a : EReal) = a (ix3 0 0 0) := by
  unfold k0_pay63
  pointwise

end

end Cert.KernelIdeal.Body

end
-- ==== Proof.RankSpec.lean ====
module

public import proofs.«01_k».proof.Proof.Spec

@[expose] public section

noncomputable section

/-! The place of a tap among the nine similarities of a pixel, and what is summed over the taken ones. -/

namespace Cert.Spec

open Idealize.ShloMosaic

/-- Tap `j` comes before tap `i`: it is more similar, or as similar and earlier. -/
def before (s : Fin 9 → EReal) (j i : Fin 9) : Prop := if j < i then s i ≤ s j else i < j ∧ s i < s j

instance (s : Fin 9 → EReal) (j i : Fin 9) : Decidable (before s j i) := by unfold before; infer_instance

/-- How many taps come before tap `i`. -/
def place (s : Fin 9 → EReal) (i : Fin 9) : ℕ := (Finset.univ.filter fun j => before s j i).card

/-- The place as an extended real. -/
def rank (s : Fin 9 → EReal) (i : Fin 9) : EReal := ((place s i : ℝ) : EReal)

/-- What one tap adds to the place of another. -/
def step (s : Fin 9 → EReal) (j i : Fin 9) : ℝ :=
  if j < i then 1 - (if s j < s i then 1 else 0) else if i < j then (if s i < s j then 1 else 0) else 0

/-- The place is the sum of what each tap adds. -/
theorem place_eq (s : Fin 9 → EReal) (i : Fin 9) : ((place s i : ℕ) : ℝ) = ∑ j, step s j i := by
  unfold place
  rw [Finset.card_filter, Nat.cast_sum]
  refine Finset.sum_congr rfl fun j _ => ?_
  unfold before step
  by_cases h : j < i
  · by_cases h' : s j < s i
    · simp [h, h']
    · simp [h, h', not_lt.1 h']
  · by_cases h' : i < j
    · simp [h, h']
    · simp [h, h']

/-- A tap is taken when fewer than five come before it. -/
theorem taken (s : Fin 9 → EReal) (i : Fin 9) : rank s i < Ideal.ofBits FTy.f32 1083179008#32 ↔ place s i < 5 := by
  have h : Ideal.ofBits FTy.f32 1083179008#32 = (((9 : ℝ) / 2 : ℝ) : EReal) := by
    simp [Ideal.ofBits, Ideal.ieee, -EReal.coe_mul]; norm_num
  rw [h]
  unfold rank
  rw [EReal.coe_lt_coe_iff]
  constructor
  · intro h
    by_contra h'
    have : (5 : ℝ) ≤ place s i := by exact_mod_cast not_lt.1 h'
    linarith
  · intro h
    have : (place s i : ℝ) ≤ 4 := by exact_mod_cast Nat.lt_succ_iff.1 h
    linarith

end Cert.Spec

end
-- ==== Proof.KernelRanks.lean ====
module

public import proofs.«01_k».proof.Proof.KernelMasks
public import proofs.«01_k».proof.Proof.RankSpec

@[expose] public section

set_option maxRecDepth 16384

noncomputable section

/-! The closing point's places of the nine taps, and its sums over the taken ones. -/

namespace Cert.Spec

open Idealize.ShloMosaic

/-- A truth value as a real made extended. -/
theorem ind_coe (p : Prop) [Decidable p] : ind p = (((if p then 1 else 0 : ℝ)) : EReal) := by
  unfold ind; split <;> simp

/-- One, as a real number. -/
theorem one_coe : (1 : EReal) = ((1 : ℝ) : EReal) := by norm_cast
/-- The word of 2. -/
theorem bits2 : Ideal.ofBits FTy.f32 1073741824#32 = ((2 : ℝ) : EReal) := by
  simp [Ideal.ofBits, Ideal.ieee, -EReal.coe_mul]; norm_num
/-- The word of 3. -/
theorem bits3 : Ideal.ofBits FTy.f32 1077936128#32 = ((3 : ℝ) : EReal) := by
  simp [Ideal.ofBits, Ideal.ieee, -EReal.coe_mul]; norm_num
/-- The word of 4. -/
theorem bits4 : Ideal.ofBits FTy.f32 1082130432#32 = ((4 : ℝ) : EReal) := by
  simp [Ideal.ofBits, Ideal.ieee, -EReal.coe_mul]; norm_num
/-- The word of 5. -/
theorem bits5 : Ideal.ofBits FTy.f32 1084227584#32 = ((5 : ℝ) : EReal) := by
  simp [Ideal.ofBits, Ideal.ieee, -EReal.coe_mul]; norm_num
/-- The word of 6. -/
theorem bits6 : Ideal.ofBits FTy.f32 1086324736#32 = ((6 : ℝ) : EReal) := by
  simp [Ideal.ofBits, Ideal.ieee, -EReal.coe_mul]; norm_num
/-- The word of 7. -/
theorem bits7 : Ideal.ofBits FTy.f32 1088421888#32 = ((7 : ℝ) : EReal) := by
  simp [Ideal.ofBits, Ideal.ieee, -EReal.coe_mul]; norm_num
/-- The word of 8. -/
theorem bits8 : Ideal.ofBits FTy.f32 1090519040#32 = ((8 : ℝ) : EReal) := by
  simp [Ideal.ofBits, Ideal.ieee, -EReal.coe_mul]; norm_num

end Cert.Spec

namespace Cert.KernelIdeal.Body

open Cert.KernelIdeal Cert.KernelIdeal.Gen Idealize.ShloMosaic Cert.Spec

section
variable (s0 s1 s2 s3 s4 s5 s6 s7 s8 : FVec Ideal S96x96 .f32) (s : Fin 9 → EReal) (y x : Fin 96)
  (e0 : s0 (ix2 y x) = s 0) (e1 : s1 (ix2 y x) = s 1) (e2 : s2 (ix2 y x) = s 2) (e3 : s3 (ix2 y x) = s 3)
  (e4 : s4 (ix2 y x) = s 4) (e5 : s5 (ix2 y x) = s 5) (e6 : s6 (ix2 y x) = s 6) (e7 : s7 (ix2 y x) = s 7) (e8 : s8 (ix2 y x) = s 8)

include e0 e1 e2 e3 e4 e5 e6 e7 e8

/-- The nine planes of places. -/
theorem ranks :
    k0_pay107 s4 s5 s6 s7 s8 s3 s1 s0 s2 (k0_pay91 (F := Ideal)) (ix2 y x) = rank s 0
    ∧ k0_pay118 s4 s5 s6 s7 s8 s1 (k0_pay110 s1 s0 s2 k0_pay92) (k0_pay112 s3 s1) (ix2 y x) = rank s 1
    ∧ k0_pay130 s4 s5 s6 s7 s8 s3 s2 (k0_pay111 s1 s0 s2 k0_pay93) (ix2 y x) = rank s 2
    ∧ k0_pay137 s5 s6 s7 s8 s3 (k0_pay120 s3 s2 (k0_pay97 s3 s0) (k0_pay112 s3 s1)) (k0_pay132 s4 s3) (ix2 y x) = rank s 3
    ∧ k0_pay142 s4 s5 s6 s7 s8 (k0_pay122 s4 s1 s2 (k0_pay99 s4 s0)) (k0_pay132 s4 s3) (ix2 y x) = rank s 4
    ∧ k0_pay148 s4 s5 s6 s7 s8 s3 (k0_pay124 s5 s1 s2 (k0_pay101 s5 s0)) (ix2 y x) = rank s 5
    ∧ k0_pay152 s6 s8 (k0_pay144 s4 s5 s6 s3 (k0_pay126 s6 s1 s2 (k0_pay103 s6 s0))) (k0_pay150 s6 s7) (ix2 y x) = rank s 6
    ∧ k0_pay154 s7 s8 (k0_pay146 s4 s5 s7 s3 (k0_pay128 s7 s1 s2 (k0_pay105 s7 s0))) (k0_pay150 s6 s7) (ix2 y x) = rank s 7
    ∧ k0_pay155 s6 s7 s8 (k0_pay149 s4 s5 s8 s3 (k0_pay131 s8 s1 s2 (k0_pay108 s8 s0))) (ix2 y x) = rank s 8 := by
  refine ⟨?_, ?_, ?_, ?_, ?_, ?_, ?_, ?_, ?_⟩
  all_goals unfold_payloads
  all_goals pointwise
  all_goals simp only [e0, e1, e2, e3, e4, e5, e6, e7, e8, wide, ind_coe, one_coe, bits2, bits3, bits4, bits5, bits6, bits7, bits8, ← EReal.coe_add, ← EReal.coe_sub]
  all_goals unfold rank
  all_goals refine congrArg _ ?_
  all_goals rw [place_eq, sum9]
  all_goals simp [step]
  all_goals try ring

end

section
variable (s0 s1 s2 s3 s4 s5 s6 s7 s8 c0 c1 c2 c3 c4 c5 c6 c7 c8 r0 r1 r2 r3 r4 r5 r6 r7 r8 : FVec Ideal S96x96 .f32)
  (s c : Fin 9 → EReal) (y x : Fin 96)
  (e0 : s0 (ix2 y x) = s 0) (e1 : s1 (ix2 y x) = s 1) (e2 : s2 (ix2 y x) = s 2) (e3 : s3 (ix2 y x) = s 3)
  (e4 : s4 (ix2 y x) = s 4) (e5 : s5 (ix2 y x) = s 5) (e6 : s6 (ix2 y x) = s 6) (e7 : s7 (ix2 y x) = s 7)
  (d0 : c0 (ix2 y x) = c 0) (d1 : c1 (ix2 y x) = c 1) (d2 : c2 (ix2 y x) = c 2) (d3 : c3 (ix2 y x) = c 3)
  (d4 : c4 (ix2 y x) = c 4) (d5 : c5 (ix2 y x) = c 5) (d6 : c6 (ix2 y x) = c 6) (d7 : c7 (ix2 y x) = c 7)
  (p0 : r0 (ix2 y x) = rank s 0) (p1 : r1 (ix2 y x) = rank s 1) (p2 : r2 (ix2 y x) = rank s 2) (p3 : r3 (ix2 y x) = rank s 3)
  (p4 : r4 (ix2 y x) = rank s 4) (p5 : r5 (ix2 y x) = rank s 5) (p6 : r6 (ix2 y x) = rank s 6) (p7 : r7 (ix2 y x) = rank s 7)

include e0 e1 e2 e3 e4 e5 e6 e7 d0 d1 d2 d3 d4 d5 d6 d7

include p0 p1 p2 p3 p4 p5 p6 p7 in
/-- The sum over the taken ones of the first eight taps. -/
theorem pos8 : k0_pay180 s5 s6 s7 c5 c6 c7 r5 r6 r7
      (k0_pay170 s4 s3 s2 c2 c3 c4 r2 r3 r4 (k0_pay160 s1 s0 c0 c1 r0 r1) k0_pay163) k0_pay173 (ix2 y x)
    = ∑ k : Fin 8, if place s k.castSucc < 5 then s k.castSucc * c k.castSucc else 0 := by
  unfold_payloads
  pointwise
  simp only [e0, e1, e2, e3, e4, e5, e6, e7, d0, d1, d2, d3, d4, d5, d6, d7, p0, p1, p2, p3, p4, p5, p6, p7, taken]
  rw [Fin.sum_univ_eight]
  rfl

/-- The sum over the first eight taps of the complements' products. -/
theorem all8 : k0_pay181 s5 s6 s7 c5 c6 c7 (k0_pay171 s4 s3 s2 c2 c3 c4 (k0_pay161 s1 s0 c0 c1)) (ix2 y x)
    = ∑ k : Fin 8, (1 - s k.castSucc) * (1 - c k.castSucc) := by
  unfold_payloads
  pointwise
  simp only [e0, e1, e2, e3, e4, e5, e6, e7, d0, d1, d2, d3, d4, d5, d6, d7]
  rw [Fin.sum_univ_eight]
  rfl

include p0 p1 p2 p3 p4 p5 p6 p7 in
/-- The sum over the taken ones of the first eight taps of the complements' products. -/
theorem neg8 : k0_pay182 s5 s6 s7 c5 c6 c7 r5 r6 r7
      (k0_pay172 s4 s3 s2 c2 c3 c4 r2 r3 r4 (k0_pay162 s1 s0 c0 c1 r0 r1) k0_pay163) k0_pay173 (ix2 y x)
    = ∑ k : Fin 8, if place s k.castSucc < 5 then (1 - s k.castSucc) * (1 - c k.castSucc) else 0 := by
  unfold_payloads
  pointwise
  simp only [e0, e1, e2, e3, e4, e5, e6, e7, d0, d1, d2, d3, d4, d5, d6, d7, p0, p1, p2, p3, p4, p5, p6, p7, taken]
  rw [Fin.sum_univ_eight]
  rfl

end

end Cert.KernelIdeal.Body

end
-- ==== Proof.KernelOut.lean ====
module

public import proofs.«01_k».proof.Proof.KernelRanks

@[expose] public section

set_option maxRecDepth 16384

noncomputable section

/-! The eight totals the closing point keeps, and the four quotients it writes. -/

namespace Cert.Spec

open Idealize.ShloMosaic

/-- A sum over nine taps, the last apart. -/
theorem add_last (f : Fin 9 → EReal) : (∑ k : Fin 8, f k.castSucc) + f 8 = ∑ k, f k := (Fin.sum_univ_castSucc (n := 8) f).symm

/-- The sum over the taken taps of the products. -/
def takenPos (S C : Fin 9 → Plane) (y x : Fin 96) : EReal :=
  ∑ k, if place (fun k => S k y x) k < 5 then S k y x * C k y x else 0

/-- The sum over all taps of the complements' products. -/
def allNeg (S C : Fin 9 → Plane) (y x : Fin 96) : EReal := ∑ k, (1 - S k y x) * (1 - C k y x)

/-- The sum over the taken taps of the complements' products. -/
def takenNeg (S C : Fin 9 → Plane) (y x : Fin 96) : EReal :=
  ∑ k, if place (fun k => S k y x) k < 5 then (1 - S k y x) * (1 - C k y x) else 0

end Cert.Spec

namespace Cert.KernelIdeal.Body

open Cert.KernelIdeal Cert.KernelIdeal.Gen Idealize.ShloMosaic Cert.Spec

section
variable (i : BitVec 32) (v0 v1 v2 v3 tc : Ideal .f32) (s8 c8 mt r8 pos nega negs : FVec Ideal S96x96 .f32) (a : Vec Ideal S1x8 .f32)
  (S C : Fin 9 → Plane)
  (es : ∀ y x, s8 (ix2 y x) = S 8 y x) (ec : ∀ y x, c8 (ix2 y x) = C 8 y x)
  (er : ∀ y x, r8 (ix2 y x) = rank (fun k => S k y x) 8)
  (ep : ∀ y x, pos (ix2 y x) = ∑ k : Fin 8, if place (fun k => S k y x) k.castSucc < 5 then S k.castSucc y x * C k.castSucc y x else 0)
  (ea : ∀ y x, nega (ix2 y x) = ∑ k : Fin 8, (1 - S k.castSucc y x) * (1 - C k.castSucc y x))
  (en : ∀ y x, negs (ix2 y x) = ∑ k : Fin 8, if place (fun k => S k y x) k.castSucc < 5 then (1 - S k.castSucc y x) * (1 - C k.castSucc y x) else 0)

/-- What one image adds to the eight totals. -/
def part : Fin 8 → EReal := fun j =>
  if j.val < 1 then v0 else if j.val - 1 < 1 then v1 else if j.val - 1 - 1 < 1 then v2 else if j.val - 1 - 1 - 1 < 1 then v3
  else if j.val - 1 - 1 - 1 - 1 < 1 then 0 - ∑ y, ∑ x, takenPos S C y x * mt (ix2 y x)
  else if j.val - 1 - 1 - 1 - 1 - 1 < 1 then 0 - ∑ y, ∑ x, (allNeg S C y x - takenNeg S C y x) * mt (ix2 y x)
  else if j.val - 1 - 1 - 1 - 1 - 1 - 1 < 1 then tc else 0

include es ec er ep ea en in
/-- The eight totals after one more image. -/
theorem totals (j : Fin 8) : k0_pay184 i v0 v1 v2 v3 s8 c8 mt tc r8 pos nega negs k0_pay183 a (ix2 0 j)
    = Scalar.select (Scalar.cmpi .eq i 0#32) (part v0 v1 v2 v3 tc mt S C j) (a (ix2 0 j) + part v0 v1 v2 v3 tc mt S C j) := by
  have h1 : ∀ y x, (∑ k : Fin 8, if place (fun k => S k y x) k.castSucc < 5 then S k.castSucc y x * C k.castSucc y x else 0)
      + (if place (fun k => S k y x) 8 < 5 then S 8 y x * C 8 y x else 0) = takenPos S C y x := fun y x => add_last (fun k => if place (fun k => S k y x) k < 5 then S k y x * C k y x else 0)
  have h2 : ∀ y x, (∑ k : Fin 8, (1 - S k.castSucc y x) * (1 - C k.castSucc y x))
      + (1 - S 8 y x) * (1 - C 8 y x) = allNeg S C y x := fun y x => add_last (fun k => (1 - S k y x) * (1 - C k y x))
  have h3 : ∀ y x, (∑ k : Fin 8, if place (fun k => S k y x) k.castSucc < 5 then (1 - S k.castSucc y x) * (1 - C k.castSucc y x) else 0)
      + (if place (fun k => S k y x) 8 < 5 then (1 - S 8 y x) * (1 - C 8 y x) else 0) = takenNeg S C y x := fun y x => add_last (fun k => if place (fun k => S k y x) k < 5 then (1 - S k y x) * (1 - C k y x) else 0)
  unfold k0_pay184 k0_pay183
  pointwise
  simp only [es, ec, er, ep, ea, en, taken, h1, h2, h3]
  unfold part
  rfl

/-- The first total alone. -/
theorem first : (k0_pay186 i v0 v1 v2 v3 s8 c8 mt tc r8 pos nega negs k0_pay183 a : EReal)
    = k0_pay184 i v0 v1 v2 v3 s8 c8 mt tc r8 pos nega negs k0_pay183 a (ix2 0 0) := by
  unfold k0_pay186
  pointwise

/-- The totals as they are put back. -/
theorem kept (j : Fin 8) : k0_pay185 i v0 v1 v2 v3 s8 c8 mt tc r8 pos nega negs k0_pay183 a (ix2 0 j)
    = k0_pay184 i v0 v1 v2 v3 s8 c8 mt tc r8 pos nega negs k0_pay183 a (ix2 0 j) := by
  unfold k0_pay185
  pointwise

/-- The four quotients of eight totals. -/
def quot (T : Fin 8 → EReal) (j : Fin 4) : EReal :=
  if j.val < 1 then 0 - Ideal.div (T 0) (max (T 1) 1)
  else if j.val - 1 < 1 then Ideal.div (T 2) (max (T 3) 1)
  else if j.val - 1 - 1 < 1 then Ideal.div (T 4) (max (Ideal.ofBits FTy.f32 1084227584#32 * T 6) 1)
  else Ideal.div (T 5) (max (Ideal.ofBits FTy.f32 1082130432#32 * T 6) 1)

/-- The four results of the eight totals. -/
theorem quotients (T : FVec Ideal S1x8 .f32) (j : Fin 4) : k0_pay3 T (T (ix2 0 0)) (ix2 0 j) = quot (fun l => T (ix2 0 l)) j := by
  unfold k0_pay3
  pointwise
  unfold quot
  rfl

end

end Cert.KernelIdeal.Body

end
-- ==== Proof.KernelPlanes.lean ====
module

public import proofs.«01_k».proof.Proof.KernelIdealRuns
import all proofs.«01_k».proof.Proof.KernelIdealRuns
public import proofs.«01_k».proof.Proof.Chunks
public import proofs.«01_k».proof.Proof.KernelSims
public import proofs.«01_k».proof.Proof.KernelOut

@[expose] public section

set_option maxRecDepth 16384

noncomputable section

/-! The planes the closing point works with, and the totals and results it leaves. -/

namespace Cert.Rows

open Idealize.ShloMosaic

variable {sig : RefSig} {κ : Kind} {sp : Space} {e : EltTy} {Val : EltTy → Type}

/-- After a store of a whole buffer of rank two it reads what was stored. -/
theorem read_flat {n0 n1 : ℕ} (v : View sig κ sp ⟨2, ![n0, n1]⟩ e) (f : v.ty.Contents Val)
    (inb : ∀ a, (![0, 0] : Fin 2 → ℕ) a + (![n0, n1] : Fin 2 → ℕ) a ≤ (![n0, n1] : Fin 2 → ℕ) a)
    (w : (Rect.unit (s := ⟨2, ![n0, n1]⟩) ![0, 0] ![n0, n1] inb).shape.Idx → Val e) (L : List (View.Piece Val ⟨2, ![n0, n1]⟩ e))
    (y : Fin n0) (x : Fin n1) :
    v.read Val (v.writes Val f (⟨Rect.unit ![0, 0] ![n0, n1] inb, w⟩ :: L)) (ix2 y x) = w (ix2 y x) := by
  refine View.read_writes_cons_unit_of_mem v f inb w L _ (ix2 y x) rfl fun a => ?_
  fin_cases a <;> exact (Nat.zero_add _).symm

/-- A load of a whole buffer of rank two reads all of it. -/
theorem load_flat {n0 n1 : ℕ} (v : View sig κ sp ⟨2, ![n0, n1]⟩ e) (f : v.ty.Contents Val)
    (inb : ∀ a, (![0, 0] : Fin 2 → ℕ) a + (![n0, n1] : Fin 2 → ℕ) a ≤ (![n0, n1] : Fin 2 → ℕ) a) :
    v.readAt Val (Rect.unit (s := ⟨2, ![n0, n1]⟩) ![0, 0] ![n0, n1] inb).toLoadRect f = v.read Val f := by
  funext j
  rw [View.readAt_apply]
  congr 1
  funext a
  refine Fin.ext ?_
  show (![0, 0] : Fin 2 → ℕ) a + 1 * (j a).val = (j a).val
  fin_cases a <;> simp

end Cert.Rows

namespace Cert.KernelIdeal.Body

open Cert.KernelIdeal Cert.KernelIdeal.Gen
open Idealize.ShloMosaic
open Cert.Rows Cert.Spec

variable (c : Dev nD) (i : grid0.Coords) (B : Bufs)
    (x0 : Vec Ideal S1x19x96x96 .f32) (x1 : Vec Ideal S1x1x96x96 .i32) (x2 : Vec Ideal S1x64x96x96 .f32) (x3 : Vec Ideal S1x64x96x96 .f32) (x4 : Vec Ideal S1x1x96x96 .f32)
    (s8 : Vec Ideal S5x96x96 .f32) (s9 : Vec Ideal S5x96x96 .f32) (s10 : Vec Ideal S9x96x96 .f32) (a : Vec Ideal S1x8 .f32)
    {m : ℕ} (gs ge : Fin m → Plane) (C : Fin 9 → Plane)
    (hs : ∀ r y x, s8 (ix3 r y x) + chan r (feats x3) y x = chan r gs y x)
    (he : ∀ r y x, s9 (ix3 r y x) + chan r (feats x2) y x = chan r ge y x)
    (hc : ∀ k y x, s10 (ix3 k y x) = C k y x)

include hs in
/-- The source features' five sums as the closing point loads them. -/
theorem rows_src :
    (∀ y x, closing.sl.v114 c B x3 s8 (ix3 0 y x) = chan 0 gs y x) ∧ (∀ y x, closing.sl.v123 c B x3 s8 (ix3 0 y x) = chan 1 gs y x)
    ∧ (∀ y x, closing.sl.v125 c B x3 s8 (ix3 0 y x) = chan 2 gs y x) ∧ (∀ y x, closing.sl.v130 c B x3 s8 (ix3 0 y x) = chan 3 gs y x)
    ∧ (∀ y x, closing.sl.v132 c B x3 s8 (ix3 0 y x) = chan 4 gs y x) := by
  refine ⟨fun y x => ?_, fun y x => ?_, fun y x => ?_, fun y x => ?_, fun y x => ?_⟩
  · unfold closing.sl.v114
    rw [load_cov_lines _ _ _ (by decide) (by decide), closing_rows8 c B x3 s8 _ ⟨0, _⟩ (fun h => absurd h (by decide))]
    exact hs _ _ _
  · unfold closing.sl.v123
    rw [load_cov_lines _ _ _ (by decide) (by decide), closing_rows8 c B x3 s8 _ ⟨1, _⟩ (fun h => absurd h (by decide))]
    exact hs _ _ _
  · unfold closing.sl.v125
    rw [load_lines _ _ _ (by decide) (by decide), closing_rows8 c B x3 s8 _ ⟨2, _⟩ (fun _ => B.h8.read_unread s8)]
    exact hs _ _ _
  · unfold closing.sl.v130
    rw [load_lines _ _ _ (by decide) (by decide), closing_rows8 c B x3 s8 _ ⟨3, _⟩ (fun _ => B.h8.read_unread s8)]
    exact hs _ _ _
  · unfold closing.sl.v132
    rw [load_lines _ _ _ (by decide) (by decide), closing_rows8 c B x3 s8 _ ⟨4, _⟩ (fun _ => B.h8.read_unread s8)]
    exact hs _ _ _

include he in
/-- The averaged features' five sums as the closing point loads them. -/
theorem rows_ema :
    (∀ y x, closing.sl.v300 c B x2 s9 (ix3 0 y x) = chan 0 ge y x) ∧ (∀ y x, closing.sl.v309 c B x2 s9 (ix3 0 y x) = chan 1 ge y x)
    ∧ (∀ y x, closing.sl.v311 c B x2 s9 (ix3 0 y x) = chan 2 ge y x) ∧ (∀ y x, closing.sl.v316 c B x2 s9 (ix3 0 y x) = chan 3 ge y x)
    ∧ (∀ y x, closing.sl.v318 c B x2 s9 (ix3 0 y x) = chan 4 ge y x) := by
  refine ⟨fun y x => ?_, fun y x => ?_, fun y x => ?_, fun y x => ?_, fun y x => ?_⟩
  · unfold closing.sl.v300
    rw [load_cov_lines _ _ _ (by decide) (by decide), closing_rows9 c B x2 s9 _ ⟨0, _⟩ (fun h => absurd h (by decide))]
    exact he _ _ _
  · unfold closing.sl.v309
    rw [load_cov_lines _ _ _ (by decide) (by decide), closing_rows9 c B x2 s9 _ ⟨1, _⟩ (fun h => absurd h (by decide))]
    exact he _ _ _
  · unfold closing.sl.v311
    rw [load_lines _ _ _ (by decide) (by decide), closing_rows9 c B x2 s9 _ ⟨2, _⟩ (fun _ => B.h9.read_unread s9)]
    exact he _ _ _
  · unfold closing.sl.v316
    rw [load_lines _ _ _ (by decide) (by decide), closing_rows9 c B x2 s9 _ ⟨3, _⟩ (fun _ => B.h9.read_unread s9)]
    exact he _ _ _
  · unfold closing.sl.v318
    rw [load_lines _ _ _ (by decide) (by decide), closing_rows9 c B x2 s9 _ ⟨4, _⟩ (fun _ => B.h9.read_unread s9)]
    exact he _ _ _

include hs in
/-- The nine planes of the source image's similarities. -/
theorem sims_src (y x : Fin 96) :
    closing.sl.r_23 c B x3 s8 (ix2 y x) = sim gs 0 y x ∧ closing.sl.r_22 c B x3 s8 (ix2 y x) = sim gs 1 y x
    ∧ closing.sl.r_24 c B x3 s8 (ix2 y x) = sim gs 2 y x ∧ closing.sl.r_21 c B x3 s8 (ix2 y x) = sim gs 3 y x
    ∧ closing.sl.r_12 c B x3 s8 (ix2 y x) = sim gs 4 y x ∧ closing.sl.r_16 c B x3 s8 (ix2 y x) = sim gs 5 y x
    ∧ closing.sl.r_18 c B x3 s8 (ix2 y x) = sim gs 6 y x ∧ closing.sl.r_19 c B x3 s8 (ix2 y x) = sim gs 7 y x
    ∧ closing.sl.r_20 c B x3 s8 (ix2 y x) = sim gs 8 y x := by
  obtain ⟨hn, h1, h2, h3, h4⟩ := rows_src c B x3 s8 gs hs
  exact ⟨sim0 gs _ _ hn h4 y x, sim1 gs _ _ hn h3 y x, sim2 gs _ _ hn h2 y x, sim3 gs _ _ hn h1 y x, sim4 gs _ hn y x,
    sim5 gs _ _ hn h1 y x, sim6 gs _ _ hn h2 y x, sim7 gs _ _ hn h3 y x, sim8 gs _ _ hn h4 y x⟩

include he in
/-- The nine planes of the averaged features' similarities. -/
theorem sims_ema (y x : Fin 96) :
    closing.sl.r_47 c B x2 s9 (ix2 y x) = sim ge 0 y x ∧ closing.sl.r_46 c B x2 s9 (ix2 y x) = sim ge 1 y x
    ∧ closing.sl.r_48 c B x2 s9 (ix2 y x) = sim ge 2 y x ∧ closing.sl.r_45 c B x2 s9 (ix2 y x) = sim ge 3 y x
    ∧ closing.sl.r_37 c B x2 s9 (ix2 y x) = sim ge 4 y x ∧ closing.sl.r_41 c B x2 s9 (ix2 y x) = sim ge 5 y x
    ∧ closing.sl.r_42 c B x2 s9 (ix2 y x) = sim ge 6 y x ∧ closing.sl.r_43 c B x2 s9 (ix2 y x) = sim ge 7 y x
    ∧ closing.sl.r_44 c B x2 s9 (ix2 y x) = sim ge 8 y x := by
  obtain ⟨hn, h1, h2, h3, h4⟩ := rows_ema c B x2 s9 ge he
  exact ⟨sim0 ge _ _ hn h4 y x, sim1 ge _ _ hn h3 y x, sim2 ge _ _ hn h2 y x, sim3 ge _ _ hn h1 y x, sim4 ge _ hn y x,
    sim5 ge _ _ hn h1 y x, sim6 ge _ _ hn h2 y x, sim7 ge _ _ hn h3 y x, sim8 ge _ _ hn h4 y x⟩

include he in
/-- The nine planes of places. -/
theorem ranks_ema (y x : Fin 96) :
    closing.sl.r_65 c B x2 s9 (ix2 y x) = rank (fun k => sim ge k y x) 0 ∧ closing.sl.r_70 c B x2 s9 (ix2 y x) = rank (fun k => sim ge k y x) 1
    ∧ closing.sl.r_76 c B x2 s9 (ix2 y x) = rank (fun k => sim ge k y x) 2 ∧ closing.sl.r_79 c B x2 s9 (ix2 y x) = rank (fun k => sim ge k y x) 3
    ∧ closing.sl.r_80 c B x2 s9 (ix2 y x) = rank (fun k => sim ge k y x) 4 ∧ closing.sl.r_83 c B x2 s9 (ix2 y x) = rank (fun k => sim ge k y x) 5
    ∧ closing.sl.r_86 c B x2 s9 (ix2 y x) = rank (fun k => sim ge k y x) 6 ∧ closing.sl.r_87 c B x2 s9 (ix2 y x) = rank (fun k => sim ge k y x) 7
    ∧ closing.sl.r_88 c B x2 s9 (ix2 y x) = rank (fun k => sim ge k y x) 8 := by
  obtain ⟨e0, e1, e2, e3, e4, e5, e6, e7, e8⟩ := sims_ema c B x2 s9 ge he y x
  exact ranks _ _ _ _ _ _ _ _ _ (fun k => sim ge k y x) y x e0 e1 e2 e3 e4 e5 e6 e7 e8

include hc in
/-- The nine planes of class agreement. -/
theorem planes_cross (y x : Fin 96) :
    closing.sl.r_49 c B s10 (ix2 y x) = C 0 y x ∧ closing.sl.r_50 c B s10 (ix2 y x) = C 1 y x
    ∧ closing.sl.r_51 c B s10 (ix2 y x) = C 2 y x ∧ closing.sl.r_52 c B s10 (ix2 y x) = C 3 y x
    ∧ closing.sl.r_53 c B s10 (ix2 y x) = C 4 y x ∧ closing.sl.r_54 c B s10 (ix2 y x) = C 5 y x
    ∧ closing.sl.r_55 c B s10 (ix2 y x) = C 6 y x ∧ closing.sl.r_56 c B s10 (ix2 y x) = C 7 y x
    ∧ closing.sl.r_57 c B s10 (ix2 y x) = C 8 y x := by
  refine ⟨?_, ?_, ?_, ?_, ?_, ?_, ?_, ?_, ?_⟩
  · unfold closing.sl.r_49 k0_pay80; pointwise; rw [load_lines _ _ _ (by decide) (by decide), B.h10.read_unread]; exact hc _ _ _
  · unfold closing.sl.r_50 k0_pay81; pointwise; rw [load_lines _ _ _ (by decide) (by decide), B.h10.read_unread]; exact hc _ _ _
  · unfold closing.sl.r_51 k0_pay82; pointwise; rw [load_lines _ _ _ (by decide) (by decide), B.h10.read_unread]; exact hc _ _ _
  · unfold closing.sl.r_52 k0_pay83; pointwise; rw [load_lines _ _ _ (by decide) (by decide), B.h10.read_unread]; exact hc _ _ _
  · unfold closing.sl.r_53 k0_pay84; pointwise; rw [load_lines _ _ _ (by decide) (by decide), B.h10.read_unread]; exact hc _ _ _
  · unfold closing.sl.r_54 k0_pay85; pointwise; rw [load_lines _ _ _ (by decide) (by decide), B.h10.read_unread]; exact hc _ _ _
  · unfold closing.sl.r_55 k0_pay86; pointwise; rw [load_lines _ _ _ (by decide) (by decide), B.h10.read_unread]; exact hc _ _ _
  · unfold closing.sl.r_56 k0_pay87; pointwise; rw [load_lines _ _ _ (by decide) (by decide), B.h10.read_unread]; exact hc _ _ _
  · unfold closing.sl.r_57 k0_pay88; pointwise; rw [load_lines _ _ _ (by decide) (by decide), B.h10.read_unread]; exact hc _ _ _

/-- The weights of the mixed image's pixels, from a block. -/
abbrev marks : Plane := fun y x => x4 (ix4 0 0 y x)

/-- The plane of those weights. -/
theorem plane_mask (y x : Fin 96) : closing.sl.r_58 c B x4 (ix2 y x) = mask (marks x4) y x := by
  unfold closing.sl.r_58
  rw [load_whole, B.h6.read_unread]
  unfold k0_pay89
  pointwise
  rw [wide]
  rfl

/-- Their sum. -/
theorem total_mask : (closing.sl.r_59 c B x4 : EReal) = ∑ y, ∑ x, mask (marks x4) y x := by
  unfold closing.sl.r_59
  rw [load_whole, B.h6.read_unread]
  unfold k0_pay90
  pointwise
  refine Finset.sum_congr rfl fun y _ => Finset.sum_congr rfl fun x _ => ?_
  have h := plane_mask c B x4 y x
  unfold closing.sl.r_58 at h
  rw [load_whole, B.h6.read_unread] at h
  exact h

/-- What an image adds to the eight totals, from its similarities, agreements, labels and weights. -/
def image (S E C : Fin 9 → Plane) (t : Fin 96 → Fin 96 → BitVec 32) (mm : Plane) : Fin 8 → EReal :=
  part (∑ y, ∑ x, ∑ k, S k y x * posW t k y x) (∑ y, ∑ x, ∑ k, posW t k y x)
    (∑ y, ∑ x, (∑ k, S k y x) * lab t y x - ∑ y, ∑ x, ∑ k, S k y x * posW t k y x)
    (Ideal.ofBits FTy.f32 1091567616#32 * (∑ y, ∑ x, lab t y x) - ∑ y, ∑ x, ∑ k, posW t k y x)
    (∑ y, ∑ x, mask mm y x) (fun j => mask mm (j 0) (j 1)) E C

/-- The totals after an image: its own alone at the first image, and added to the ones found at the others. -/
def after (b : BitVec 32) (P : Fin 8 → EReal) (a : Fin 8 → EReal) (j : Fin 8) : EReal :=
  Scalar.select (Scalar.cmpi .eq b 0#32) (P j) (a j + P j)

/-- The labels as they are loaded. -/
theorem load_tags : View.readAt (Elt Ideal) B.a3.view (Rect.unit ![0, 0, 0, 0] S1x1x96x96.size inb_S1x1x96x96_S1x1x96x96_0_0_0_0).toLoadRect (B.h3.unread x1) = x1 := by
  rw [load_whole, B.h3.read_unread]

include hs in
/-- The sum of the positive pairs' similarities over the source image. -/
theorem scalar_pos : (closing.sl.r_31 c B x1 x3 s8 : EReal) = ∑ y, ∑ x, ∑ k, sim gs k y x * posW (tags x1) k y x := by
  unfold closing.sl.r_31 closing.sl.r_26 closing.sl.r_29 closing.sl.r_25 closing.sl.r_9 closing.sl.r_10
  rw [load_tags]
  exact src_pos x1 _ _ _ _ _ _ _ _ _ (sim gs) (sims_src c B x3 s8 gs hs)

/-- The number of positive pairs, as carried. -/
theorem scalar_cnt_vec : (closing.sl.r_32 c B x1 (ix3 0 0 0) : EReal) = ∑ y, ∑ x, ∑ k, posW (tags x1) k y x := by
  unfold closing.sl.r_32 closing.sl.r_27 closing.sl.r_29 closing.sl.r_25 closing.sl.r_9 closing.sl.r_10
  rw [load_tags]
  exact src_cnt_vec x1

/-- The number of positive pairs. -/
theorem scalar_cnt : (closing.sl.r_33 c B x1 : EReal) = ∑ y, ∑ x, ∑ k, posW (tags x1) k y x := by
  unfold closing.sl.r_33
  rw [pay63_apply, scalar_cnt_vec]

include hs in
/-- The sum of the negative pairs' similarities. -/
theorem scalar_neg : (closing.sl.r_34 c B x1 x3 s8 : EReal)
    = ∑ y, ∑ x, (∑ k, sim gs k y x) * lab (tags x1) y x - ∑ y, ∑ x, ∑ k, sim gs k y x * posW (tags x1) k y x := by
  rw [← scalar_pos c B x1 x3 s8 gs hs]
  unfold closing.sl.r_34 closing.sl.r_30 closing.sl.r_28 closing.sl.r_10
  rw [load_tags]
  exact src_neg x1 _ _ _ _ _ _ _ _ _ (sim gs) (sims_src c B x3 s8 gs hs) _

/-- The number of negative pairs. -/
theorem scalar_negcnt : (closing.sl.r_35 c B x1 : EReal)
    = Ideal.ofBits FTy.f32 1091567616#32 * (∑ y, ∑ x, lab (tags x1) y x) - ∑ y, ∑ x, ∑ k, posW (tags x1) k y x := by
  rw [← scalar_cnt_vec c B x1]
  unfold closing.sl.r_35 closing.sl.r_10
  rw [load_tags]
  exact src_negcnt x1 _

include he hc in
/-- The three planes of sums over the first eight taps. -/
theorem planes8 (y x : Fin 96) :
    (closing.sl.r_95 c B x2 s9 s10 (ix2 y x) = ∑ k : Fin 8, if place (fun k => sim ge k y x) k.castSucc < 5 then sim ge k.castSucc y x * C k.castSucc y x else 0)
    ∧ (closing.sl.r_96 c B x2 s9 s10 (ix2 y x) = ∑ k : Fin 8, (1 - sim ge k.castSucc y x) * (1 - C k.castSucc y x))
    ∧ (closing.sl.r_97 c B x2 s9 s10 (ix2 y x) = ∑ k : Fin 8, if place (fun k => sim ge k y x) k.castSucc < 5 then (1 - sim ge k.castSucc y x) * (1 - C k.castSucc y x) else 0) := by
  obtain ⟨e0, e1, e2, e3, e4, e5, e6, e7, e8⟩ := sims_ema c B x2 s9 ge he y x
  obtain ⟨p0, p1, p2, p3, p4, p5, p6, p7, p8⟩ := ranks_ema c B x2 s9 ge he y x
  obtain ⟨d0, d1, d2, d3, d4, d5, d6, d7, d8⟩ := planes_cross c B s10 C hc y x
  exact ⟨pos8 _ _ _ _ _ _ _ _ _ _ _ _ _ _ _ _ _ _ _ _ _ _ _ _ (fun k => sim ge k y x) (fun k => C k y x) y x e0 e1 e2 e3 e4 e5 e6 e7 d0 d1 d2 d3 d4 d5 d6 d7 p0 p1 p2 p3 p4 p5 p6 p7,
    all8 _ _ _ _ _ _ _ _ _ _ _ _ _ _ _ _ (fun k => sim ge k y x) (fun k => C k y x) y x e0 e1 e2 e3 e4 e5 e6 e7 d0 d1 d2 d3 d4 d5 d6 d7,
    neg8 _ _ _ _ _ _ _ _ _ _ _ _ _ _ _ _ _ _ _ _ _ _ _ _ (fun k => sim ge k y x) (fun k => C k y x) y x e0 e1 e2 e3 e4 e5 e6 e7 d0 d1 d2 d3 d4 d5 d6 d7 p0 p1 p2 p3 p4 p5 p6 p7⟩

include hs he hc in
/-- The closing point's eight totals. -/
theorem totals_apply (j : Fin 8) : closing.sl.r_98 c i B x1 x2 x3 x4 s8 s9 s10 a (ix2 0 j)
    = after (BitVec.ofNat 32 (i 0).val) (image (sim gs) (sim ge) C (tags x1) (marks x4)) (fun j => a (ix2 0 j)) j := by
  unfold closing.sl.r_98
  rw [load_flat, B.h11.read_unread,
    totals _ _ _ _ _ _ _ _ _ _ _ _ _ _ (sim ge) C (fun y x => (sims_ema c B x2 s9 ge he y x).2.2.2.2.2.2.2.2)
      (fun y x => (planes_cross c B s10 C hc y x).2.2.2.2.2.2.2.2) (fun y x => (ranks_ema c B x2 s9 ge he y x).2.2.2.2.2.2.2.2)
      (fun y x => (planes8 c B x2 s9 s10 ge C he hc y x).1) (fun y x => (planes8 c B x2 s9 s10 ge C he hc y x).2.1)
      (fun y x => (planes8 c B x2 s9 s10 ge C he hc y x).2.2),
    scalar_pos c B x1 x3 s8 gs hs, scalar_cnt, scalar_neg c B x1 x3 s8 gs hs, scalar_negcnt, total_mask]
  unfold after image part
  simp only [plane_mask, ix2_0, ix2_1]

include hs he hc in
/-- The closing point leaves the eight totals in the carried sums -/
theorem closed11_apply (hc0 : ¬Opens i) (hc1 : Closes i) (j : Fin 8) : closed11 c i B x0 x1 x2 x3 x4 s8 s9 s10 a hc0 hc1 (ix2 0 j)
    = after (BitVec.ofNat 32 (i 0).val) (image (sim gs) (sim ge) C (tags x1) (marks x4)) (fun j => a (ix2 0 j)) j := by
  rw [← totals_apply c i B x1 x2 x3 x4 s8 s9 s10 a gs ge C hs he hc j]
  unfold closed11 closing
  dsimp only
  rw [read_flat, kept]
  rfl

include hs he hc in
/-- and their quotients in the result. -/
theorem closed7_apply (hc0 : ¬Opens i) (hc1 : Closes i) (j : Fin 4) : closed7 c i B x0 x1 x2 x3 x4 s8 s9 s10 a hc0 hc1 (ix2 0 j)
    = quot (after (BitVec.ofNat 32 (i 0).val) (image (sim gs) (sim ge) C (tags x1) (marks x4)) (fun j => a (ix2 0 j))) j := by
  have h : closing.sl.r_99 c i B x1 x2 x3 x4 s8 s9 s10 a = closing.sl.r_98 c i B x1 x2 x3 x4 s8 s9 s10 a (ix2 0 0) := first _ _ _ _ _ _ _ _ _ _ _ _ _ _
  unfold closed7 closing
  dsimp only
  rw [read_flat, h, quotients]
  exact congrArg (quot · j) (funext fun l => totals_apply c i B x1 x2 x3 x4 s8 s9 s10 a gs ge C hs he hc l)

end Cert.KernelIdeal.Body

end
-- ==== Proof.CrossSpec.lean ====
module

public import proofs.«01_k».proof.Proof.SimSpec
public import Idealize.ShloMosaic.Lib.IdealHost

@[expose] public section

noncomputable section

/-! The class agreement of a pixel and a tap: within the image, and beyond its border. -/

namespace Cert.Spec

open Idealize.ShloMosaic

variable (l : Fin 19 → Plane) {k : Fin 9} {y x u v : Fin 96}

/-- Within the image the agreement is the sum of the products of probabilities. -/
theorem cross_in (hu : u.val + 1 = y.val + k.val / 3) (hv : v.val + 1 = x.val + k.val % 3) :
    cross l k y x = ∑ c, prob (fun c => l c y x) c * prob (fun c => l c u v) c := by
  unfold cross
  refine Finset.sum_congr rfl fun c _ => ?_
  have h : (fun c => tap 0 (l c) k y x) = fun c => l c u v := funext fun c => tap_in 0 (l c) hu hv
  rw [h]

/-- The agreement does not depend on which of the two is the pixel. -/
theorem cross_swap {k' : Fin 9} (hu : u.val + 1 = y.val + k.val / 3) (hv : v.val + 1 = x.val + k.val % 3) (hk : k.val + k'.val = 8) :
    cross l k y x = cross l k' u v := by
  rw [cross_in l hu hv, cross_in l (k := k') (u := y) (v := x) (y := u) (x := v) (by omega) (by omega)]
  exact Finset.sum_congr rfl fun c _ => mul_comm _ _

/-- A sum of reals made extended is the sum of them made extended. -/
theorem coe_sums {ι : Type} [Fintype ι] (f : ι → ℝ) : ((∑ i, f i : ℝ) : EReal) = ∑ i, (f i : EReal) := by
  classical
  refine Finset.induction_on Finset.univ (by simp) fun i s hi h => ?_
  rw [Finset.sum_insert hi, Finset.sum_insert hi, EReal.coe_add, h]

/-- The largest of finitely many real logits is real. -/
theorem top_real (r : Fin 19 → ℝ) : ∃ M : ℝ, max bottom (Finset.fold max bottom (fun c => (r c : EReal)) Finset.univ) = (M : EReal) := by
  have hb : bottom = ⊥ := by unfold bottom; simp [Ideal.ofBits, Ideal.ieee]
  rw [hb, max_eq_right bot_le]
  have h1 : (Finset.fold max ⊥ (fun c => (r c : EReal)) Finset.univ) ≠ ⊤ := by
    refine ne_of_lt ?_
    rw [Finset.fold_max_lt]
    exact ⟨bot_lt_top, fun c _ => EReal.coe_lt_top _⟩
  have h2 : (Finset.fold max ⊥ (fun c => (r c : EReal)) Finset.univ) ≠ ⊥ := by
    refine ne_of_gt ?_
    rw [Finset.lt_fold_max]
    exact Or.inr ⟨0, Finset.mem_univ _, EReal.bot_lt_coe _⟩
  exact ⟨_, (EReal.coe_toReal h1 h2).symm⟩

/-- The probabilities of real logits are positive reals that add up to one. -/
theorem prob_real (r : Fin 19 → ℝ) : ∃ q : Fin 19 → ℝ, (∀ c, prob (fun c => (r c : EReal)) c = (q c : EReal)) ∧ ∑ c, q c = 1 := by
  obtain ⟨M, hM⟩ := top_real r
  have he : ∀ c, expo (fun c => (r c : EReal)) c = ((Real.exp (r c - M) : ℝ) : EReal) := by
    intro c
    unfold expo
    rw [hM, ← EReal.coe_sub]
    rfl
  have hs : (∑ c, expo (fun c => (r c : EReal)) c) = ((∑ c, Real.exp (r c - M) : ℝ) : EReal) := by
    simp only [he]; exact (coe_sums _).symm
  have hp : 0 < ∑ c, Real.exp (r c - M) := Finset.sum_pos (fun c _ => Real.exp_pos _) Finset.univ_nonempty
  refine ⟨fun c => Real.exp (r c - M) / ∑ c', Real.exp (r c' - M), fun c => ?_, ?_⟩
  · unfold prob
    rw [hs, he]
    rw [Ideal.div_coe hp.ne', ← EReal.coe_mul, mul_one_div]
  · rw [← Finset.sum_div, div_self hp.ne']

/-- The probabilities of equal logits. -/
theorem prob_zero (c : Fin 19) : prob (fun _ => 0) c = ((19⁻¹ : ℝ) : EReal) := by
  have hz : (fun _ : Fin 19 => (0 : EReal)) = fun c => (((fun _ => 0 : Fin 19 → ℝ) c : ℝ) : EReal) := by funext; simp
  obtain ⟨q, hq, h1⟩ := prob_real (fun _ => 0)
  have hc : ∀ c, prob (fun _ => 0) c = (q c : EReal) := by rw [hz]; exact hq
  have hall : ∀ c', q c' = q c := by
    intro c'
    have : prob (fun _ => 0) c' = prob (fun _ => 0) c := rfl
    rw [hc, hc] at this
    exact_mod_cast this
  rw [hc]
  simp only [hall, Finset.sum_const, Finset.card_univ, Fintype.card_fin, nsmul_eq_mul] at h1
  congr 1
  field_simp
  push_cast at h1
  linarith

/-- Beyond the border the agreement is one nineteenth, the pixel's logits being real. -/
theorem cross_out (hl : ∀ c y x, ∃ r : ℝ, l c y x = (r : EReal))
    (h : ∀ u v : Fin 96, u.val + 1 = y.val + k.val / 3 → v.val + 1 = x.val + k.val % 3 → False) :
    cross l k y x = ((19⁻¹ : ℝ) : EReal) := by
  choose r hr using fun c => hl c y x
  obtain ⟨q, hq, h1⟩ := prob_real r
  unfold cross
  have ht : (fun c => tap 0 (l c) k y x) = fun _ => 0 := funext fun c => by
    unfold tap
    exact dif_neg fun hh => h ⟨y.val + k.val / 3 - 1, by omega⟩ ⟨x.val + k.val % 3 - 1, by omega⟩ (by dsimp only; omega) (by dsimp only; omega)
  simp only [ht, prob_zero, hr, hq, ← EReal.coe_mul]
  rw [← coe_sums, ← Finset.sum_mul, h1, one_mul]

/-- The agreement is real, the logits being real. -/
theorem cross_real (hl : ∀ c y x, ∃ r : ℝ, l c y x = (r : EReal)) : ∃ r : ℝ, cross l k y x = (r : EReal) := by
  have hp (y x : Fin 96) : ∃ q : Fin 19 → ℝ, ∀ c, prob (fun c => l c y x) c = (q c : EReal) := by
    choose r hr using fun c => hl c y x
    obtain ⟨q, hq, -⟩ := prob_real r
    simp only [hr]
    exact ⟨q, hq⟩
  by_cases h : ∃ u v : Fin 96, u.val + 1 = y.val + k.val / 3 ∧ v.val + 1 = x.val + k.val % 3
  · obtain ⟨u, v, hu, hv⟩ := h
    obtain ⟨q, hq⟩ := hp y x
    obtain ⟨q', hq'⟩ := hp u v
    rw [cross_in l hu hv]
    simp only [hq, hq', ← EReal.coe_mul]
    rw [← coe_sums]
    exact ⟨_, rfl⟩
  · exact ⟨_, cross_out l hl fun u v hu hv => h ⟨u, v, hu, hv⟩⟩

end Cert.Spec

end
-- ==== Proof.Maxima.lean ====
module
public import Idealize.ShloMosaic.Lib.Pointwise

@[expose] public section

noncomputable section

/-! A maximum over one axis, read at one entry, for shapes of any size. -/

namespace Cert.Maxima

open Idealize.ShloMosaic

variable {n0 n1 n2 n3 n4 : ℕ} {u : Shape}

/-- A maximum over the second of four axes is the fold of `max` along it. -/
theorem host4 (v : FVec Ideal (⟨4, ![n0, n1, n2, n3]⟩ : Shape) .f32) (z : FVec Ideal u .f32)
    (h : (⟨4, ![n0, n1, n2, n3]⟩ : Shape).ReducesTo [1] ⟨3, ![n0, n2, n3]⟩) (hu : 0 < u.numel) :
    (Host.reduce FloatOps.maximumf v z h hu : FVec Ideal (⟨3, ![n0, n2, n3]⟩ : Shape) .f32)
      = fun j => Finset.fold max (z (Shape.Idx.first hu)) (fun c : Fin n1 => v (ix4 (j 0) c (j 1) (j 2))) Finset.univ := by
  funext j
  pointwise

/-- A maximum over the second of five axes is the fold of `max` along it. -/
theorem host5 (v : FVec Ideal (⟨5, ![n0, n1, n2, n3, n4]⟩ : Shape) .f32) (z : FVec Ideal u .f32)
    (h : (⟨5, ![n0, n1, n2, n3, n4]⟩ : Shape).ReducesTo [1] ⟨4, ![n0, n2, n3, n4]⟩) (hu : 0 < u.numel) :
    (Host.reduce FloatOps.maximumf v z h hu : FVec Ideal (⟨4, ![n0, n2, n3, n4]⟩ : Shape) .f32)
      = fun j => Finset.fold max (z (Shape.Idx.first hu)) (fun c : Fin n1 => v (ix5 (j 0) c (j 1) (j 2) (j 3))) Finset.univ := by
  funext j
  pointwise

/-- A maximum over the first of three axes is the fold of `max` along it. -/
theorem multi3 (v : FVec Ideal (⟨3, ![n0, n1, n2]⟩ : Shape) .f32) (a : BitVec 32)
    (h : (⟨3, ![n0, n1, n2]⟩ : Shape).Reduces [0] ⟨2, ![n1, n2]⟩) (hφ : FKind.Formats .f32) (ha : a = FKind.maximumf.neutral .f32 hφ) :
    (multiReduction .maximumf [0] ⟨2, ![n1, n2]⟩ v a h hφ ha : FVec Ideal (⟨2, ![n1, n2]⟩ : Shape) .f32)
      = fun j => Finset.fold max (FloatOps.ofBits .f32 a) (fun c : Fin n0 => v (ix3 c (j 0) (j 1))) Finset.univ := by
  funext j
  pointwise

end Cert.Maxima

end
-- ==== Proof.KernelCross.lean ====
module

public import proofs.«01_k».proof.Proof.KernelIdealRuns
import all proofs.«01_k».proof.Proof.KernelIdealRuns
public import proofs.«01_k».proof.Proof.Rows
public import proofs.«01_k».proof.Proof.CrossSpec
public import proofs.«01_k».proof.Proof.Maxima
public import Idealize.ShloMosaic.Lib.VecWindow
public import Idealize.ShloMosaic.Lib.WordCmp
public import Idealize.ShloMosaic.Lib.Pointwise

@[expose] public section

set_option maxRecDepth 16384

noncomputable section

/-! What the opening point leaves in the nine planes of class agreement. -/

namespace Cert.KernelIdeal.Body

open Cert.KernelIdeal Cert.KernelIdeal.Gen
open Idealize.ShloMosaic
open Cert.Rows Cert.Spec

variable (c : Dev nD) (i : grid0.Coords) (B : Bufs)
    (x0 : Vec Ideal S1x19x96x96 .f32) (x1 : Vec Ideal S1x1x96x96 .i32) (x2 : Vec Ideal S1x64x96x96 .f32) (x3 : Vec Ideal S1x64x96x96 .f32) (x4 : Vec Ideal S1x1x96x96 .f32)

/-- The block of logits, class by class. -/
abbrev lgts : Fin 19 → Plane := fun k y x => x0 (ix4 0 k y x)

/-- The block of logits as it is loaded. -/
theorem scores (k : Fin 19) (y x : Fin 96) : (opening.sl.v116 c B x0 (ix3 k y x) : EReal) = x0 (ix4 0 k y x) := by
  unfold opening.sl.v116
  pointwise
  rw [load_whole, B.h2.read_unread]

/-- The test for the last row or column. -/
theorem lt95 (x : Fin 96) : IntOp.cmpi .slt (BitVec.ofNat 32 x.val) 95#32 = BitVec.ofBool (decide (x.val < 95)) := by
  revert x; decide

/-- The test for the first row or column. -/
theorem ge1 (x : Fin 96) : IntOp.cmpi .sge (BitVec.ofNat 32 x.val) 1#32 = BitVec.ofBool (decide (1 ≤ x.val)) := by
  revert x; decide

/-- A choice by one test. -/
theorem pick (p : Prop) [Decidable p] (a b : EReal) : Scalar.select (IntOp.andi (1#1) (BitVec.ofBool (decide p))) a b = if p then a else b := by
  by_cases h : p <;> simp [h, Scalar.select, IntOp.andi]

/-- A choice by two tests. -/
theorem pick2 (p q : Prop) [Decidable p] [Decidable q] (a b : EReal) :
    Scalar.select (IntOp.andi (IntOp.andi (1#1) (BitVec.ofBool (decide p))) (BitVec.ofBool (decide q))) a b = if p ∧ q then a else b := by
  by_cases h : p <;> by_cases h' : q <;> simp [h, h', Scalar.select, IntOp.andi]

/-- The largest logit of each pixel. -/
theorem tops : (opening.sl.v117 c B x0 : FVec Ideal S96x96 .f32) = fun j => Finset.fold max bottom (fun k => (opening.sl.v116 c B x0 (ix3 k (j 0) (j 1)) : EReal)) Finset.univ :=
  Cert.Maxima.multi3 _ _ _ _ _

/-- The probabilities. -/
theorem shares (k : Fin 19) (y x : Fin 96) : (opening.sl.v125 c B x0 (ix3 k y x) : EReal) = prob (fun k => x0 (ix4 0 k y x)) k := by
  simp only [opening.sl.v125, opening.sl.v124, opening.sl.v123, opening.sl.v122, opening.sl.v121, opening.sl.v120, opening.sl.v119, opening.sl.v118]
  pointwise
  rw [tops]
  simp only [ix2_0, ix2_1, scores]
  have hb (l : Fin 19 → EReal) : max bottom (Finset.fold max bottom l Finset.univ) = Finset.fold max bottom l Finset.univ :=
    max_eq_right (Finset.le_fold_max _ |>.2 (Or.inl le_rfl))
  unfold prob expo
  simp only [hb]

/-- The named constant. -/
abbrev ninth : EReal := ((19⁻¹ : ℝ) : EReal)

/-- The named constant, as the payloads hold it. -/
theorem kappa : (Named.named (F := Ideal) (φ := .f32) κ "u" 1029149750#32 : EReal) = ninth := rfl

variable (hl : ∀ k y x, ∃ r : ℝ, lgts x0 k y x = (r : EReal))

include hl

/-- The agreement with the pixel on the right. -/
theorem raw5 (y x : Fin 96) : (opening.sl.r c B x0 (ix2 y x) : EReal) = cross (lgts x0) 5 y x := by
  simp only [opening.sl.r, opening.sl.v137, opening.sl.v136, opening.sl.v135, opening.sl.v134, opening.sl.v133, opening.sl.v127, k0_pay13]
  pointwise
  rw [lt95, pick, kappa]
  by_cases h : x.val < 95
  · simp only [if_pos h, dif_pos h, shares]
    rw [cross_in (lgts x0) (u := y) (v := ⟨1 + x.val, by omega⟩) rfl (by show 1 + x.val + 1 = x.val + 2; omega)]
  · rw [if_neg h]
    exact (cross_out _ hl fun u v hu hv => by simp only [Fin.isValue, Fin.coe_ofNat_eq_mod, Nat.reduceMod, Nat.reduceDiv] at *; omega).symm

/-- The agreement with the pixel below on the left. -/
theorem raw6 (y x : Fin 96) : (opening.sl.r_1 c B x0 (ix2 y x) : EReal) = cross (lgts x0) 6 y x := by
  simp only [opening.sl.r_1, opening.sl.v142, opening.sl.v141, opening.sl.v140, opening.sl.v139, opening.sl.v132, opening.sl.v131, opening.sl.v130, opening.sl.v133, opening.sl.v126, opening.sl.v127, k0_pay14]
  pointwise
  rw [lt95, ge1, pick2, kappa]
  by_cases h : y.val < 95 ∧ 1 ≤ x.val
  · have h' : ¬ x.val < 1 := by omega
    simp only [if_pos h, dif_pos h.1, dif_neg h', shares]
    rw [cross_in (lgts x0) (u := ⟨1 + y.val, by omega⟩) (v := ⟨x.val - 1, by omega⟩) (by show 1 + y.val + 1 = y.val + 2; omega) (by show x.val - 1 + 1 = x.val; omega)]
  · rw [if_neg h]
    exact (cross_out _ hl fun u v hu hv => by simp only [Fin.isValue, Fin.coe_ofNat_eq_mod, Nat.reduceMod, Nat.reduceDiv] at *; omega).symm

/-- The agreement with the pixel below. -/
theorem raw7 (y x : Fin 96) : (opening.sl.r_2 c B x0 (ix2 y x) : EReal) = cross (lgts x0) 7 y x := by
  simp only [opening.sl.r_2, opening.sl.v144, opening.sl.v143, opening.sl.v132, opening.sl.v131, opening.sl.v130, opening.sl.v126, k0_pay15]
  pointwise
  rw [lt95, pick, kappa]
  by_cases h : y.val < 95
  · simp only [if_pos h, dif_pos h, shares]
    rw [cross_in (lgts x0) (u := ⟨1 + y.val, by omega⟩) (v := x) (by show 1 + y.val + 1 = y.val + 2; omega) rfl]
  · rw [if_neg h]
    exact (cross_out _ hl fun u v hu hv => by simp only [Fin.isValue, Fin.coe_ofNat_eq_mod, Nat.reduceMod, Nat.reduceDiv] at *; omega).symm

/-- The agreement with the pixel below on the right. -/
theorem raw8 (y x : Fin 96) : (opening.sl.r_3 c B x0 (ix2 y x) : EReal) = cross (lgts x0) 8 y x := by
  simp only [opening.sl.r_3, opening.sl.v132, opening.sl.v131, opening.sl.v130, opening.sl.v126, opening.sl.v127, k0_pay16]
  pointwise
  rw [lt95, lt95, pick2, kappa]
  by_cases h : y.val < 95 ∧ x.val < 95
  · simp only [if_pos h, dif_pos h.1, dif_pos h.2, shares]
    rw [cross_in (lgts x0) (u := ⟨1 + y.val, by omega⟩) (v := ⟨1 + x.val, by omega⟩) (by show 1 + y.val + 1 = y.val + 2; omega) (by show 1 + x.val + 1 = x.val + 2; omega)]
  · rw [if_neg h]
    exact (cross_out _ hl fun u v hu hv => by simp only [Fin.isValue, Fin.coe_ofNat_eq_mod, Nat.reduceMod, Nat.reduceDiv] at *; omega).symm

omit hl in
/-- The agreement of a pixel with itself. -/
theorem raw4 (y x : Fin 96) : (opening.sl.v129 c B x0 (ix2 y x) : EReal) = cross (lgts x0) 4 y x := by
  simp only [opening.sl.v129, opening.sl.v128]
  pointwise
  simp only [shares]
  rw [cross_in (lgts x0) (u := y) (v := x) rfl rfl]

/-- The opening point leaves the agreements in the nine planes. -/
theorem opened10_apply (hc0 : Opens i) (hc1 : ¬Closes i) (r : Fin 9) (y x : Fin 96) :
    opened10 c i B x0 x1 x2 x3 x4 hc0 hc1 (ix3 r y x) = cross (lgts x0) r y x := by
  unfold opened10 opening
  dsimp only
  simp only [read_plane]
  fin_cases r
  all_goals simp only [Fin.reduceFinMk, Fin.isValue, Nat.reduceEqDiff, false_and, true_and, dite_false, dite_true, reduceDIte, if_true, Fin.val_zero, Fin.val_one, Fin.coe_ofNat_eq_mod, Nat.reduceMod, OfNat.ofNat_ne_zero, OfNat.ofNat_ne_one]
  all_goals unfold_payloads
  all_goals try simp only [opening.sl.r_4, opening.sl.r_5, k0_pay17, k0_pay18]
  all_goals pointwise
  · by_cases hx : x.val < 1
    · rw [dif_pos hx]
      exact (cross_out _ hl fun u v hu hv => by simp only [Fin.isValue, Fin.val_zero, Fin.val_one, Fin.coe_ofNat_eq_mod, Nat.reduceMod, Nat.reduceDiv] at *; omega).symm
    · rw [dif_neg hx]
      by_cases hy : y.val < 1
      · rw [dif_pos hy]
        exact (cross_out _ hl fun u v hu hv => by simp only [Fin.isValue, Fin.val_zero, Fin.val_one, Fin.coe_ofNat_eq_mod, Nat.reduceMod, Nat.reduceDiv] at *; omega).symm
      · rw [dif_neg hy, raw8 c B x0 hl, cross_swap (lgts x0) (k := 0) (k' := 8) (u := ⟨y.val - 1, by omega⟩) (v := ⟨x.val - 1, by omega⟩)
          (by show y.val - 1 + 1 = y.val; omega) (by show x.val - 1 + 1 = x.val; omega) rfl]
  · by_cases hy : y.val < 1
    · rw [dif_pos hy]
      exact (cross_out _ hl fun u v hu hv => by simp only [Fin.isValue, Fin.val_zero, Fin.val_one, Fin.coe_ofNat_eq_mod, Nat.reduceMod, Nat.reduceDiv] at *; omega).symm
    · rw [dif_neg hy]
      change opening.sl.r_2 c B x0 (ix2 ⟨y.val - 1, by omega⟩ x) = _
      rw [raw7 c B x0 hl, cross_swap (lgts x0) (k := 1) (k' := 7) (u := ⟨y.val - 1, by omega⟩) (v := x)
          (by show y.val - 1 + 1 = y.val; omega) rfl rfl]
  · by_cases hx : x.val < 95
    · rw [dif_pos hx]
      by_cases hy : y.val < 1
      · rw [dif_pos hy]
        exact (cross_out _ hl fun u v hu hv => by simp only [Fin.isValue, Fin.val_zero, Fin.val_one, Fin.coe_ofNat_eq_mod, Nat.reduceMod, Nat.reduceDiv] at *; omega).symm
      · rw [dif_neg hy, raw6 c B x0 hl, cross_swap (lgts x0) (k := 2) (k' := 6) (u := ⟨y.val - 1, by omega⟩) (v := ⟨1 + x.val, by omega⟩)
          (by show y.val - 1 + 1 = y.val; omega) (by show 1 + x.val + 1 = x.val + 2; omega) rfl]
    · rw [dif_neg hx]
      exact (cross_out _ hl fun u v hu hv => by simp only [Fin.isValue, Fin.val_zero, Fin.val_one, Fin.coe_ofNat_eq_mod, Nat.reduceMod, Nat.reduceDiv] at *; omega).symm
  · by_cases hx : x.val < 1
    · rw [dif_pos hx]
      exact (cross_out _ hl fun u v hu hv => by simp only [Fin.isValue, Fin.val_zero, Fin.val_one, Fin.coe_ofNat_eq_mod, Nat.reduceMod, Nat.reduceDiv] at *; omega).symm
    · rw [dif_neg hx]
      change opening.sl.r c B x0 (ix2 y ⟨x.val - 1, by omega⟩) = _
      rw [raw5 c B x0 hl, cross_swap (lgts x0) (k := 3) (k' := 5) (u := y) (v := ⟨x.val - 1, by omega⟩)
          rfl (by show x.val - 1 + 1 = x.val; omega) rfl]
  · exact raw4 c B x0 y x
  · exact raw5 c B x0 hl y x
  · exact raw6 c B x0 hl y x
  · exact raw7 c B x0 hl y x
  · exact raw8 c B x0 hl y x

end Cert.KernelIdeal.Body
end
-- ==== Proof.KernelArrays.lean ====
module

public import proofs.«01_k».proof.Proof.KernelIdealFrame
public import proofs.«01_k».proof.Proof.KernelPlanes
public import proofs.«01_k».proof.Proof.KernelCross
public import proofs.«01_k».proof.Proof.Chunks

@[expose] public section

set_option maxRecDepth 16384

noncomputable section

/-! The array the kernel leaves: the quotients of the totals over both images. -/

namespace Cert.Spec

/-- The sums over two blocks of channels are the sums over all of them. -/
theorem chan_blocks (g : Fin 128 → Plane) (r : Fin 5) (y x : Fin 96) :
    chan r (fun k : Fin 64 => g (Fin.castAdd 64 k)) y x + chan r (fun k : Fin 64 => g (Fin.natAdd 64 k)) y x = chan r g y x := by
  have e (f : Fin 128 → EReal) : ∑ k : Fin 64, f (Fin.castAdd 64 k) + ∑ k : Fin 64, f (Fin.natAdd 64 k) = ∑ k, f k := (Fin.sum_univ_add (a := 64) (b := 64) f).symm
  match r with
  | 0 => exact e fun k => g k y x * g k y x
  | 1 => exact e fun k => g k y x * right (g k) y x
  | 2 =>
    unfold chan
    dsimp only
    split
    · next h => exact e fun k => g k ⟨1 + y.val, by omega⟩ x * right (g k) y x
    · exact add_zero 0
  | 3 =>
    unfold chan
    dsimp only
    split
    · next h => exact e fun k => g k y x * g k ⟨1 + y.val, by omega⟩ x
    · exact add_zero 0
  | 4 =>
    unfold chan
    dsimp only
    split
    · next h => exact e fun k => g k y x * right (g k) ⟨1 + y.val, by omega⟩ x
    · exact add_zero 0

end Cert.Spec

namespace Cert.KernelIdeal.Body

open Cert.KernelIdeal Cert.KernelIdeal.Gen Idealize.ShloMosaic Cert.Spec
open Idealize.ShloMosaic.Pipeline (Dat)

variable (m : (ℓ : Loc nD τ sig) → Buf (Elt Ideal) ℓ) (c : Dev nD)

/-- Where the blocks lie: the image is half the point, the channels its parity. -/
theorem places : ∀ t : Fin cfg0.N, win0_0.index t = ![t.val / 2, 0, 0, 0] ∧ win0_1.index t = ![t.val / 2, 0, 0, 0]
    ∧ win0_2.index t = ![t.val / 2, t.val % 2, 0, 0] ∧ win0_3.index t = ![t.val / 2, t.val % 2, 0, 0]
    ∧ win0_4.index t = ![t.val / 2, 0, 0, 0] ∧ win0_5.index t = ![0, 0] :=
  (by decide +kernel : ∀ t : Fin grid0.N, _)

/-- The image of a point. -/
abbrev img (t : Fin cfg0.N) : Fin 2 := ⟨t.val / 2, by have := lt_of_lt_of_eq t.isLt (show cfg0.N = 4 from N_0); omega⟩

/-- The arguments the kernel stages. -/
abbrev arr0 : S2x19x96x96.Idx → EReal := V m c main_arg0
/-- The labels. -/
abbrev arr1 : S2x1x96x96.Idx → BitVec 32 := V m c main_arg1
/-- The averaged model's features. -/
abbrev arr2 : S2x128x96x96.Idx → EReal := V m c main_arg2
/-- The source features. -/
abbrev arr3 : S2x128x96x96.Idx → EReal := V m c main_arg3
/-- The mixing masks. -/
abbrev arr5 : S2x1x96x96.Idx → EReal := V m c main_arg5

/-- A channel of a block among all of them. -/
abbrev channel (t : Fin cfg0.N) (k : Fin 64) : Fin 128 := ⟨t.val % 2 * 64 + k.val, by have := k.isLt; omega⟩

/-- A point's logits are its image's. -/
theorem blk0_apply (t : Fin cfg0.N) (k : Fin 19) (y x : Fin 96) : blk0 m c t (ix4 0 k y x) = arr0 m c (ix4 (img t) k y x) := by
  refine congrArg (arr0 m c) ?_
  obtain ⟨e, -⟩ := places t
  funext a
  refine Fin.ext ?_
  match a with
  | ⟨0, _⟩ => show win0_0.index t 0 * 1 + 1 * 0 = t.val / 2; rw [e]; show t.val / 2 * 1 + 1 * 0 = _; omega
  | ⟨1, _⟩ => show win0_0.index t 1 * 19 + 1 * k.val = k.val; rw [e]; show 0 * 19 + 1 * k.val = _; omega
  | ⟨2, _⟩ => show win0_0.index t 2 * 96 + 1 * y.val = y.val; rw [e]; show 0 * 96 + 1 * y.val = _; omega
  | ⟨3, _⟩ => show win0_0.index t 3 * 96 + 1 * x.val = x.val; rw [e]; show 0 * 96 + 1 * x.val = _; omega

/-- A point's labels are its image's. -/
theorem blk1_apply (t : Fin cfg0.N) (y x : Fin 96) : blk1 m c t (ix4 0 0 y x) = arr1 m c (ix4 (img t) 0 y x) := by
  refine congrArg (arr1 m c) ?_
  obtain ⟨-, e, -⟩ := places t
  funext a
  refine Fin.ext ?_
  match a with
  | ⟨0, _⟩ => show win0_1.index t 0 * 1 + 1 * 0 = t.val / 2; rw [e]; show t.val / 2 * 1 + 1 * 0 = _; omega
  | ⟨1, _⟩ => show win0_1.index t 1 * 1 + 1 * 0 = 0; rw [e]; show 0 * 1 + 1 * 0 = _; omega
  | ⟨2, _⟩ => show win0_1.index t 2 * 96 + 1 * y.val = y.val; rw [e]; show 0 * 96 + 1 * y.val = _; omega
  | ⟨3, _⟩ => show win0_1.index t 3 * 96 + 1 * x.val = x.val; rw [e]; show 0 * 96 + 1 * x.val = _; omega

/-- A point's averaged features are half of its image's. -/
theorem blk2_apply (t : Fin cfg0.N) (k : Fin 64) (y x : Fin 96) : blk2 m c t (ix4 0 k y x) = arr2 m c (ix4 (img t) (channel t k) y x) := by
  refine congrArg (arr2 m c) ?_
  obtain ⟨-, -, e, -⟩ := places t
  funext a
  refine Fin.ext ?_
  match a with
  | ⟨0, _⟩ => show win0_2.index t 0 * 1 + 1 * 0 = t.val / 2; rw [e]; show t.val / 2 * 1 + 1 * 0 = _; omega
  | ⟨1, _⟩ => show win0_2.index t 1 * 64 + 1 * k.val = t.val % 2 * 64 + k.val; rw [e]; show t.val % 2 * 64 + 1 * k.val = _; omega
  | ⟨2, _⟩ => show win0_2.index t 2 * 96 + 1 * y.val = y.val; rw [e]; show 0 * 96 + 1 * y.val = _; omega
  | ⟨3, _⟩ => show win0_2.index t 3 * 96 + 1 * x.val = x.val; rw [e]; show 0 * 96 + 1 * x.val = _; omega

/-- A point's source features are half of its image's. -/
theorem blk3_apply (t : Fin cfg0.N) (k : Fin 64) (y x : Fin 96) : blk3 m c t (ix4 0 k y x) = arr3 m c (ix4 (img t) (channel t k) y x) := by
  refine congrArg (arr3 m c) ?_
  obtain ⟨-, -, -, e, -⟩ := places t
  funext a
  refine Fin.ext ?_
  match a with
  | ⟨0, _⟩ => show win0_3.index t 0 * 1 + 1 * 0 = t.val / 2; rw [e]; show t.val / 2 * 1 + 1 * 0 = _; omega
  | ⟨1, _⟩ => show win0_3.index t 1 * 64 + 1 * k.val = t.val % 2 * 64 + k.val; rw [e]; show t.val % 2 * 64 + 1 * k.val = _; omega
  | ⟨2, _⟩ => show win0_3.index t 2 * 96 + 1 * y.val = y.val; rw [e]; show 0 * 96 + 1 * y.val = _; omega
  | ⟨3, _⟩ => show win0_3.index t 3 * 96 + 1 * x.val = x.val; rw [e]; show 0 * 96 + 1 * x.val = _; omega

/-- A point's mixing mask is its image's. -/
theorem blk4_apply (t : Fin cfg0.N) (y x : Fin 96) : blk4 m c t (ix4 0 0 y x) = arr5 m c (ix4 (img t) 0 y x) := by
  refine congrArg (arr5 m c) ?_
  obtain ⟨-, -, -, -, e, -⟩ := places t
  funext a
  refine Fin.ext ?_
  match a with
  | ⟨0, _⟩ => show win0_4.index t 0 * 1 + 1 * 0 = t.val / 2; rw [e]; show t.val / 2 * 1 + 1 * 0 = _; omega
  | ⟨1, _⟩ => show win0_4.index t 1 * 1 + 1 * 0 = 0; rw [e]; show 0 * 1 + 1 * 0 = _; omega
  | ⟨2, _⟩ => show win0_4.index t 2 * 96 + 1 * y.val = y.val; rw [e]; show 0 * 96 + 1 * y.val = _; omega
  | ⟨3, _⟩ => show win0_4.index t 3 * 96 + 1 * x.val = x.val; rw [e]; show 0 * 96 + 1 * x.val = _; omega

/-- The image's planes in the arguments. -/
abbrev lgtsOf (b : Fin 2) : Fin 19 → Plane := fun k y x => arr0 m c (ix4 b k y x)
/-- An image's labels. -/
abbrev tagsOf (b : Fin 2) : Fin 96 → Fin 96 → BitVec 32 := fun y x => arr1 m c (ix4 b 0 y x)
/-- An image's averaged features. -/
abbrev emaOf (b : Fin 2) : Fin 128 → Plane := fun k y x => arr2 m c (ix4 b k y x)
/-- An image's source features. -/
abbrev srcOf (b : Fin 2) : Fin 128 → Plane := fun k y x => arr3 m c (ix4 b k y x)
/-- An image's mixing mask. -/
abbrev marksOf (b : Fin 2) : Plane := fun y x => arr5 m c (ix4 b 0 y x)

/-- The lanes of an image. -/
abbrev imageOf (b : Fin 2) : Fin 8 → EReal := image (sim (srcOf m c b)) (sim (emaOf m c b)) (cross (lgtsOf m c b)) (tagsOf m c b) (marksOf m c b)

/-- The blocks of channels at the two points of an image. -/
theorem halves (t t' : Fin cfg0.N) (ht : t.val % 2 = 0) (ht' : t'.val = t.val + 1) (r : Fin 5) (y x : Fin 96) :
    chan r (feats (blk3 m c t)) y x + chan r (feats (blk3 m c t')) y x = chan r (srcOf m c (img t')) y x
    ∧ chan r (feats (blk2 m c t)) y x + chan r (feats (blk2 m c t')) y x = chan r (emaOf m c (img t')) y x := by
  have ei : img t = img t' := Fin.ext (by show t.val / 2 = t'.val / 2; omega)
  have e0 (k : Fin 64) : channel t k = Fin.castAdd 64 k := Fin.ext (by show t.val % 2 * 64 + k.val = k.val; omega)
  have e1 (k : Fin 64) : channel t' k = Fin.natAdd 64 k := Fin.ext (by show t'.val % 2 * 64 + k.val = 64 + k.val; omega)
  constructor
  · rw [← chan_blocks]
    have h0 : feats (blk3 m c t) = fun k => srcOf m c (img t') (Fin.castAdd 64 k) := by
      funext k y x; exact (blk3_apply m c t k y x).trans (by rw [e0, ei])
    have h1 : feats (blk3 m c t') = fun k => srcOf m c (img t') (Fin.natAdd 64 k) := by
      funext k y x; exact (blk3_apply m c t' k y x).trans (by rw [e1])
    rw [h0, h1]
  · rw [← chan_blocks]
    have h0 : feats (blk2 m c t) = fun k => emaOf m c (img t') (Fin.castAdd 64 k) := by
      funext k y x; exact (blk2_apply m c t k y x).trans (by rw [e0, ei])
    have h1 : feats (blk2 m c t') = fun k => emaOf m c (img t') (Fin.natAdd 64 k) := by
      funext k y x; exact (blk2_apply m c t' k y x).trans (by rw [e1])
    rw [h0, h1]

/-- What a point that closes an image leaves, given what the one before it left. -/
theorem closes_image (hl : ∀ b k y x, ∃ r : ℝ, lgtsOf m c b k y x = (r : EReal)) (t t' : Fin cfg0.N) (ht : t.val % 2 = 0) (ht' : t'.val = t.val + 1) :
    (∀ j, (left m c t'.val t'.isLt).sums (ix2 0 j) = after (BitVec.ofNat 32 (t'.val / 2)) (imageOf m c (img t')) (fun j => (left m c t.val t.isLt).sums (ix2 0 j)) j)
    ∧ ∀ j, (left m c t'.val t'.isLt).out (ix2 0 j) = quot (after (BitVec.ofNat 32 (t'.val / 2)) (imageOf m c (img t')) (fun j => (left m c t.val t.isLt).sums (ix2 0 j))) j := by
  have h1 : t'.val % 2 = 1 := by omega
  obtain ⟨s8, s9, s10, -⟩ := left_even m c t ht
  have ei : img t = img t' := Fin.ext (by show t.val / 2 = t'.val / 2; omega)
  have hp : left m c (t'.val - 1) (by omega) = left m c t.val t.isLt := by congr 1; omega
  have hs : ∀ r y x, (left m c t.val t.isLt).src (ix3 r y x) + chan r (feats (blk3 m c t')) y x = chan r (srcOf m c (img t')) y x := fun r y x => by
    rw [s8, opened8_apply]; exact (halves m c t t' ht ht' r y x).1
  have he : ∀ r y x, (left m c t.val t.isLt).ema (ix3 r y x) + chan r (feats (blk2 m c t')) y x = chan r (emaOf m c (img t')) y x := fun r y x => by
    rw [s9, opened9_apply]; exact (halves m c t t' ht ht' r y x).2
  have eL : lgts (blk0 m c t) = lgtsOf m c (img t') := by
    funext k y x; exact (blk0_apply m c t k y x).trans (by rw [ei])
  have hc : ∀ k y x, (left m c t.val t.isLt).planes (ix3 k y x) = cross (lgtsOf m c (img t')) k y x := fun k y x => by
    rw [s10, opened10_apply c _ _ _ _ _ _ _ (by rw [eL]; exact hl (img t')), eL]
  have eT : tags (blk1 m c t') = tagsOf m c (img t') := by funext y x; exact blk1_apply m c t' y x
  have eM : marks (blk4 m c t') = marksOf m c (img t') := by funext y x; exact blk4_apply m c t' y x
  rw [left_pos m c t' (by omega), hp, point_odd m c t' _ h1]
  constructor
  · intro j
    refine (closed11_apply c _ _ _ _ _ _ _ _ _ _ _ (srcOf m c (img t')) (emaOf m c (img t')) (cross (lgtsOf m c (img t'))) hs he hc _ _ j).trans ?_
    rw [eT, eM, coord0]
  · intro j
    refine (closed7_apply c _ _ _ _ _ _ _ _ _ _ _ (srcOf m c (img t')) (emaOf m c (img t')) (cross (lgtsOf m c (img t'))) hs he hc _ _ j).trans ?_
    rw [eT, eM, coord0]

/-- The points. -/
abbrev pt (n : ℕ) (h : n < 4) : Fin cfg0.N := ⟨n, lt_of_lt_of_eq h N_0.symm⟩

/-- The result the last point leaves: the quotients of the totals of both images. -/
theorem last_out (hl : ∀ b k y x, ∃ r : ℝ, lgtsOf m c b k y x = (r : EReal)) (j : Fin 4) :
    (left m c (pt 3 (by decide)).val (pt 3 (by decide)).isLt).out (ix2 0 j) = quot (fun j => imageOf m c 0 j + imageOf m c 1 j) j := by
  rw [(closes_image m c hl (pt 2 (by decide)) (pt 3 (by decide)) rfl rfl).2 j]
  refine congrArg (quot · j) (funext fun j => ?_)
  show (left m c (pt 2 (by decide)).val (pt 2 (by decide)).isLt).sums (ix2 0 j) + imageOf m c 1 j = _
  refine congrArg (· + imageOf m c 1 j) ?_
  obtain ⟨-, -, -, h⟩ := left_even m c (pt 2 (by decide)) rfl
  rw [h (by decide)]
  exact (closes_image m c hl (pt 0 (by decide)) (pt 1 (by decide)) rfl rfl).1 j

/-- The result is written back once, at the last point, and its block is the whole array. -/
theorem whole_block (t : Fin cfg0.N) (y : S1x4.Idx) : ((cfg0.win 5).blk t).view.emb y = y := by
  obtain ⟨-, -, -, -, -, e⟩ := places t
  funext a
  refine Fin.ext ?_
  match a with
  | ⟨0, _⟩ => show win0_5.index t 0 * 1 + 1 * (y 0).val = (y 0).val; rw [e]; show 0 * 1 + 1 * (y 0).val = _; omega
  | ⟨1, _⟩ => show win0_5.index t 1 * 4 + 1 * (y 1).val = (y 1).val; rw [e]; show 0 * 4 + 1 * (y 1).val = _; omega

/-- The result is written back at the last point alone. -/
theorem flushes : ∀ t : Fin cfg0.N, win0_5.flush t = true ↔ t.val = 3 := (by decide +kernel : ∀ t : Fin grid0.N, _)

/-- Every entry of the result lies in the block of every point. -/
theorem in_block (t : Fin cfg0.N) (i : S1x4.Idx) : i ∈ ((View.whole main_v0).slice (win0_5.rect t)).set := by
  obtain ⟨-, -, -, -, -, e⟩ := places t
  rw [View.set_slice_whole, Rect.mem_set_unit]
  have h0 : (i 0).val < 1 := (i 0).isLt
  have h1 : (i 1).val < 4 := (i 1).isLt
  intro a
  match a with
  | ⟨0, _⟩ => show win0_5.index t 0 * 1 ≤ (i 0).val ∧ (i 0).val < win0_5.index t 0 * 1 + 1; rw [e]; show 0 * 1 ≤ (i 0).val ∧ (i 0).val < 0 * 1 + 1; omega
  | ⟨1, _⟩ => show win0_5.index t 1 * 4 ≤ (i 1).val ∧ (i 1).val < win0_5.index t 1 * 4 + 4; rw [e]; show 0 * 4 ≤ (i 1).val ∧ (i 1).val < 0 * 4 + 4; omega

/-- The array the kernel leaves. -/
theorem result : (dats m 0 c).arrAt 5 cfg0.N = (left m c (pt 3 (by decide)).val (pt 3 (by decide)).isLt).out := by
  refine (dats m 0 c).arrAt_eq_of_cover 5 _ (fun t hf => ?_) fun i => ⟨pt 3 (by decide), (flushes _).2 rfl, ?_⟩
  · have ht : t = pt 3 (by decide) := Fin.ext ((flushes t).1 hf)
    subst ht
    show (cfg0.win 5).cut (grid0.coords _) ((dats m 0 c).after 5 _) = _
    rw [after5]
    funext y
    refine Eq.trans ?_ (congrArg (left m c (pt 3 (by decide)).val (pt 3 (by decide)).isLt).out (whole_block (pt 3 (by decide)) y)).symm
    rfl
  · exact in_block _ i

end Cert.KernelIdeal.Body

end
-- ==== Proof.RefSims.lean ====
module
public import proofs.«01_k».proof.Proof.Gen.ReferenceIdeal.Run
public import proofs.«01_k».proof.Proof.Spec
public import proofs.«01_k».proof.Proof.Maxima
public import Idealize.ShloMosaic.Lib.Pointwise
public import Idealize.ShloMosaic.Lib.WordCmp
public import Idealize.ShloMosaic.Lib.Tactic.CleanTypes

@[expose] public section

set_option maxRecDepth 16384

noncomputable section

/-!
The reference's windows, similarities, softmax products and masks, read at one entry.
-/

namespace Cert.ReferenceIdeal.Value

open Cert.ReferenceIdeal Cert.ReferenceIdeal.Gen Idealize.ShloMosaic Cert.Spec

variable (V0 : Valuation τ sig (Elt Ideal)) (b : Fin 2) (k : Fin 9) (y x : Fin 96)

/-- The logits, by class. -/
abbrev logits : Fin 19 → Plane := fun c y x => V0 (Proc.devRef .tc main_arg0) (ix4 b c y x)
/-- The labels. -/
abbrev labels : Fin 96 → Fin 96 → BitVec 32 := fun y x => V0 (Proc.devRef .tc main_arg1) (ix4 b 0 y x)
/-- The averaged model's features, by channel. -/
abbrev ema : Fin 128 → Plane := fun c y x => V0 (Proc.devRef .tc main_arg2) (ix4 b c y x)
/-- The source features, by channel. -/
abbrev src : Fin 128 → Plane := fun c y x => V0 (Proc.devRef .tc main_arg3) (ix4 b c y x)
/-- The mixing mask. -/
abbrev mix : Plane := fun y x => V0 (Proc.devRef .tc main_arg5) (ix4 b 0 y x)

/-- The integer zero as a float. -/
theorem zeroWord : (FloatOps.sitofp .f32 (0#32) : Ideal .f32) = 0 := by
  simp [FloatOps.sitofp]

/-- The source features' window. -/
theorem v25_apply (c : Fin 128) : (res_main_v25 V0 (ix5 b c k y x) : EReal) = tap 0 (src V0 b c) k y x := by
  refine eq_tap (fun u v hu hv => ?_) (fun h => ?_)
  all_goals unfold res_main_v25
  all_goals clean_types
  all_goals pointwise
  all_goals fin_vals k with hk
  all_goals simp only [hk, Nat.reduceSub, Nat.reduceLT, ↓reduceDIte, Nat.reduceDiv, Nat.reduceMod] at *
  all_goals unfold res_main_v6
  all_goals clean_types
  all_goals pointwise
  all_goals try simp only [zeroWord]
  all_goals try split
  all_goals first | (exfalso; omega) | rfl | exact congrArg₂ (src V0 b c) (Fin.ext (by first | omega | (dsimp only; omega))) (Fin.ext (by first | omega | (dsimp only; omega)))

/-- The averaged features' window. -/
theorem v104_apply (c : Fin 128) : (res_main_v104 V0 (ix5 b c k y x) : EReal) = tap 0 (ema V0 b c) k y x := by
  refine eq_tap (fun u v hu hv => ?_) (fun h => ?_)
  all_goals unfold res_main_v104
  all_goals clean_types
  all_goals pointwise
  all_goals fin_vals k with hk
  all_goals simp only [hk, Nat.reduceSub, Nat.reduceLT, ↓reduceDIte, Nat.reduceDiv, Nat.reduceMod] at *
  all_goals unfold res_main_v85
  all_goals clean_types
  all_goals pointwise
  all_goals try simp only [zeroWord]
  all_goals try split
  all_goals first | (exfalso; omega) | rfl | exact congrArg₂ (ema V0 b c) (Fin.ext (by first | omega | (dsimp only; omega))) (Fin.ext (by first | omega | (dsimp only; omega)))

/-- The logits' window. -/
theorem v152_apply (c : Fin 19) : (res_main_v152 V0 (ix5 b c k y x) : EReal) = tap 0 (logits V0 b c) k y x := by
  refine eq_tap (fun u v hu hv => ?_) (fun h => ?_)
  all_goals unfold res_main_v152
  all_goals clean_types
  all_goals pointwise
  all_goals fin_vals k with hk
  all_goals simp only [hk, Nat.reduceSub, Nat.reduceLT, ↓reduceDIte, Nat.reduceDiv, Nat.reduceMod] at *
  all_goals unfold res_main_v133
  all_goals clean_types
  all_goals pointwise
  all_goals try simp only [zeroWord]
  all_goals try split
  all_goals first | (exfalso; omega) | rfl | exact congrArg₂ (logits V0 b c) (Fin.ext (by first | omega | (dsimp only; omega))) (Fin.ext (by first | omega | (dsimp only; omega)))

/-- The similarities of the source features. -/
theorem v42_apply : (res_main_v42 V0 (ix4 b k y x) : EReal) = sim (src V0 b) k y x := by
  unfold res_main_v42
  clean_types
  pointwise
  unfold res_main_v26
  clean_types
  pointwise
  simp only [v25_apply, sim, nrm, eps, src]

/-- The similarities of the averaged features. -/
theorem v168_apply : (res_main_v168 V0 (ix4 b y x k) : EReal) = sim (ema V0 b) k y x := by
  unfold res_main_v168
  clean_types
  pointwise
  unfold res_main_v105
  clean_types
  pointwise
  simp only [v104_apply, sim, nrm, eps, ema]

/-- The exponentials of the logits less their largest. -/
theorem v128_apply (c : Fin 19) : (res_main_v128 V0 (ix4 b c y x) : EReal) = expo (fun c => logits V0 b c y x) c := by
  unfold res_main_v128
  clean_types
  rw [Cert.Maxima.host4]
  pointwise
  simp only [expo, bottom, logits]

/-- The exponentials of the window's logits less their largest. -/
theorem v159_apply (c : Fin 19) : (res_main_v159 V0 (ix5 b c k y x) : EReal) = expo (fun c => tap 0 (logits V0 b c) k y x) c := by
  unfold res_main_v159
  clean_types
  rw [Cert.Maxima.host5]
  pointwise
  simp only [v152_apply, expo, bottom]

/-- The probabilities of equal classes. -/
theorem v167_apply : (res_main_v167 V0 (ix4 b k y x) : EReal) = cross (logits V0 b) k y x := by
  unfold res_main_v167
  clean_types
  pointwise
  simp only [v128_apply, v159_apply, cross, prob, logits]

/-- A word made a float and read back is the word. -/
theorem word_back (w : BitVec 32) : FloatOps.fptosi (F := Ideal) (φ := .f32) 32 (FloatOps.sitofp .f32 w) = w := by
  show Ideal.fptosi 32 ((w.toInt : ℝ) : EReal) = w
  unfold Ideal.fptosi
  have h1 := BitVec.toInt_lt (x := w)
  have h2 := BitVec.le_toInt (x := w)
  rw [Ideal.toIntClamped_coe, Int.floor_intCast, Int.ceil_intCast, ite_self, min_eq_right (by norm_num at h1 ⊢; omega), max_eq_right (by norm_num at h2 ⊢; omega), BitVec.ofInt_toInt]

/-- Whether a pixel and its tap have the same label. -/
theorem v67_apply : (res_main_v67 V0 (ix4 b k y x) : BitVec 1) = BitVec.ofBool (decide (same (labels V0 b) k y x)) := by
  unfold res_main_v67
  clean_types
  pointwise
  refine (WordCmp.cmpi_eq_eq _ _).trans (congrArg (fun w : BitVec 32 => BitVec.ofBool (decide (w = labels V0 b y x))) ?_)
  refine eq_tap (fun u v hu hv => ?_) (fun h => ?_)
  all_goals fin_vals k with hk
  all_goals simp only [hk, Nat.reduceSub, Nat.reduceLT, ↓reduceDIte, Nat.reduceDiv, Nat.reduceMod] at *
  all_goals unfold res_main_v44
  all_goals clean_types
  all_goals pointwise
  all_goals try split
  all_goals first | (exfalso; omega) | exact word_back _ | exact (word_back _).trans (congrArg₂ (labels V0 b) (Fin.ext (by first | omega | (dsimp only; omega))) (Fin.ext (by first | omega | (dsimp only; omega))))

/-- A truth value as a float. -/
theorem flag (p : Prop) [Decidable p] : (FloatOps.uitofp (F := Ideal) .f32 (BitVec.ofBool (decide p)) : EReal) = ind p := by
  show ((((BitVec.ofBool (decide p)).toNat : ℕ) : ℝ) : EReal) = _
  by_cases h : p <;> simp [h, ind]

/-- The weight of a positive pair of pixels. -/
theorem v70_apply : (res_main_v70 V0 (ix4 b k y x) : EReal)
    = posW (labels V0 b) k y x := by
  unfold res_main_v70 res_main_v1
  clean_types
  pointwise
  rw [v67_apply, WordCmp.cmpi_ne_eq]
  unfold posW
  rw [← flag]
  congr 1
  simp only [IntOp.andi]
  by_cases h : same (labels V0 b) k y x <;> by_cases h' : labels V0 b y x = 255#32 <;> simp [h, h']

/-- The weight of a negative pair of pixels. -/
theorem v79_apply : (res_main_v79 V0 (ix4 b k y x) : EReal)
    = negW (labels V0 b) k y x := by
  unfold res_main_v79 res_main_v1
  clean_types
  pointwise
  rw [v67_apply, WordCmp.cmpi_ne_eq]
  unfold negW
  rw [← flag]
  congr 1
  simp only [IntOp.andi]
  by_cases h : same (labels V0 b) k y x <;> by_cases h' : labels V0 b y x = 255#32 <;> simp [h, h']

/-- The target mask of the five most similar taps. -/
theorem v186_apply (l : Fin 5) : (res_main_v186 V0 (ix4 b l y x) : EReal) = mask (mix V0 b) y x := by
  unfold res_main_v186 res_main_v5
  clean_types
  pointwise
  rw [flag]
  rfl

/-- The target mask of the four least similar taps. -/
theorem v193_apply (l : Fin 4) : (res_main_v193 V0 (ix4 b l y x) : EReal) = mask (mix V0 b) y x := by
  unfold res_main_v193 res_main_v5
  clean_types
  pointwise
  rw [flag]
  rfl

end Cert.ReferenceIdeal.Value

end
-- ==== Proof.TopSpec.lean ====
module

public import proofs.«01_k».proof.Proof.RankSpec
public import proofs.«01_k».proof.Proof.KernelOut
public import Idealize.ShloMosaic.Lib.SortFacts

@[expose] public section

noncomputable section

/-! Sums over the most and the least similar taps, however ties are broken. -/

namespace Cert.Spec

open Idealize.ShloMosaic

/-- What coming before means: more similar, or as similar and earlier. -/
theorem before_iff (s : Fin 9 → EReal) (j i : Fin 9) : before s j i ↔ s i < s j ∨ (s i = s j ∧ j < i) := by
  unfold before
  split_ifs with h
  · rw [le_iff_lt_or_eq]; tauto
  · constructor
    · exact fun k => Or.inl k.2
    · rintro (k | k)
      · exact ⟨lt_of_le_of_ne (not_lt.1 h) (fun e => by subst e; exact lt_irrefl _ k), k⟩
      · exact absurd k.2 h

/-- Coming before is transitive. -/
theorem before_trans (s : Fin 9 → EReal) (a b c : Fin 9) (h : before s a b) (h' : before s b c) : before s a c := by
  rw [before_iff] at *
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- A tap that comes before another has the lower place. -/
theorem place_lt (s : Fin 9 → EReal) (a b : Fin 9) (h : before s a b) : place s a < place s b := by
  unfold place
  refine Finset.card_lt_card ⟨fun j hj => ?_, fun hs => ?_⟩
  · rw [Finset.mem_filter] at *; exact ⟨hj.1, before_trans s _ _ _ hj.2 h⟩
  · have := hs (Finset.mem_filter.2 ⟨Finset.mem_univ a, h⟩)
    rw [Finset.mem_filter, before_iff] at this
    rcases this.2 with h | h
    · exact lt_irrefl _ h
    · exact lt_irrefl _ h.2

/-- Of two taps one comes before the other. -/
theorem before_total (s : Fin 9 → EReal) (a b : Fin 9) (h : a ≠ b) : before s a b ∨ before s b a := by
  rw [before_iff, before_iff]
  rcases lt_trichotomy (s a) (s b) with k | k | k
  · exact Or.inr (Or.inl k)
  · rcases lt_or_gt_of_ne h with h | h
    · exact Or.inl (Or.inr ⟨k.symm, h⟩)
    · exact Or.inr (Or.inr ⟨k, h⟩)
  · exact Or.inl (Or.inl k)

/-- No two taps have the same place. -/
theorem place_injective (s : Fin 9 → EReal) : Function.Injective (place s) := fun a b h => by
  by_contra k
  rcases before_total s a b k with k | k
  · exact (place_lt s a b k).ne h
  · exact (place_lt s b a k).ne h.symm

/-- There are nine places. -/
theorem place_lt_nine (s : Fin 9 → EReal) (a : Fin 9) : place s a < 9 := by
  have h : (Finset.univ.filter fun j => before s j a) ⊂ (Finset.univ : Finset (Fin 9)) := by
    refine ⟨Finset.filter_subset _ _, fun h => ?_⟩
    have := h (Finset.mem_univ a)
    rw [Finset.mem_filter, before_iff] at this
    rcases this.2 with h | h
    · exact lt_irrefl _ h
    · exact lt_irrefl _ h.2
  exact (Finset.card_lt_card h).trans_eq (by simp)

/-- The taken taps. -/
def chosen (s : Fin 9 → EReal) : Finset (Fin 9) := Finset.univ.filter fun k => place s k < 5

/-- The chosen taps are those of the first five places. -/
theorem mem_chosen (s : Fin 9 → EReal) (k : Fin 9) : k ∈ chosen s ↔ place s k < 5 := by
  unfold chosen; rw [Finset.mem_filter]; exact ⟨fun h => h.2, fun h => ⟨Finset.mem_univ k, h⟩⟩

/-- Five taps are taken. -/
theorem card_chosen (s : Fin 9 → EReal) : (chosen s).card = 5 := by
  have hb : Function.Bijective (fun k => (⟨place s k, place_lt_nine s k⟩ : Fin 9)) :=
    Finite.injective_iff_bijective.1 fun a b h => place_injective s (by simpa using h)
  have : (chosen s).card = (Finset.univ.filter fun k : Fin 9 => k.val < 5).card := by
    refine Finset.card_bijective _ hb fun k => ?_
    rw [mem_chosen, Finset.mem_filter]
    exact ⟨fun h => ⟨Finset.mem_univ _, h⟩, fun h => h.2⟩
  rw [this]; decide

/-- No tap left out is more similar than a taken one. -/
theorem chosen_top (s : Fin 9 → EReal) (a : Fin 9) (ha : a ∈ chosen s) (b : Fin 9) (hb : b ∉ chosen s) : s b ≤ s a := by
  rw [mem_chosen] at ha hb
  by_contra h
  have := place_lt s b a ((before_iff s b a).2 (Or.inl (not_le.1 h)))
  omega

/-- Two choices of as many largest entries have the same sums of anything equal where the entries are. -/
theorem top_sums (s f : Fin 9 → EReal) (hf : ∀ i j, s i = s j → f i = f j) (A B : Finset (Fin 9)) (hc : A.card = B.card)
    (hA : ∀ a ∈ A, ∀ b, b ∉ A → s b ≤ s a) (hB : ∀ a ∈ B, ∀ b, b ∉ B → s b ≤ s a) : ∑ k ∈ A, f k = ∑ k ∈ B, f k := by
  have e : ∀ a ∈ A \ B, ∀ b ∈ B \ A, f a = f b := fun a ha b hb => by
    rw [Finset.mem_sdiff] at ha hb
    exact hf a b (le_antisymm (hB b hb.1 a ha.2) (hA a ha.1 b hb.2))
  have hd : (A \ B).card = (B \ A).card := Finset.card_sdiff_comm hc
  have es : ∑ k ∈ A \ B, f k = ∑ k ∈ B \ A, f k := by
    rcases (B \ A).eq_empty_or_nonempty with h | ⟨b, hb⟩
    · rw [h, Finset.card_empty, Finset.card_eq_zero] at hd
      rw [h, hd]
    · obtain ⟨a, ha⟩ : (A \ B).Nonempty := by
        rw [← Finset.card_pos, hd]; exact Finset.card_pos.2 ⟨b, hb⟩
      rw [Finset.sum_congr rfl fun k hk => e k hk b hb, Finset.sum_congr rfl (g := fun _ => f b) fun k hk => (e a ha k hk).symm.trans (e a ha b hb),
        Finset.sum_const, Finset.sum_const, hd]
  rw [← Finset.sum_inter_add_sum_sdiff A B f, ← Finset.sum_inter_add_sum_sdiff B A f, es, Finset.inter_comm]

/-- The taps in falling order of an entry. -/
def order (s : Fin 9 → EReal) (l : Fin 9) : Fin 9 := sortedFrom (fun k k' => decide (s k' < s k)) l

/-- The order repeats no tap. -/
theorem order_injective (s : Fin 9 → EReal) : Function.Injective (order s) := sortedFrom_injective _

/-- Along the order the values fall. -/
theorem order_falls (s : Fin 9 → EReal) (i j : Fin 9) (h : i < j) : s (order s j) ≤ s (order s i) := by
  have := sortedFrom_noInversion (fun k k' => decide (s k' < s k)) (fun k k' => decide (s k' < s k))
    (fun a b h => by simp only [decide_eq_true_eq, decide_eq_false_iff_not] at *; exact not_lt.2 h.le) (fun _ _ h => h)
    (fun a b c h h' => by simp only [decide_eq_false_iff_not, not_lt] at *; exact h.trans h') i j h
  exact not_lt.1 (of_decide_eq_false this)

/-- The first `n` taps in falling order. -/
def firsts (s : Fin 9 → EReal) (n : ℕ) : Finset (Fin 9) := (Finset.univ.filter fun l : Fin 9 => l.val < n).image (order s)

/-- A tap among the first is no smaller than one that is not. -/
theorem firsts_top (s : Fin 9 → EReal) (n : ℕ) (a : Fin 9) (ha : a ∈ firsts s n) (b : Fin 9) (hb : b ∉ firsts s n) : s b ≤ s a := by
  obtain ⟨l, hl, rfl⟩ := Finset.mem_image.1 ha
  obtain ⟨l', rfl⟩ := sortedFrom_surjective (fun k k' => decide (s k' < s k)) b
  have h' : ¬ l'.val < n := fun h => hb (Finset.mem_image.2 ⟨l', Finset.mem_filter.2 ⟨Finset.mem_univ _, h⟩, rfl⟩)
  rw [Finset.mem_filter] at hl
  exact order_falls s l l' (Fin.lt_def.2 (by omega))

/-- How many the first are. -/
theorem card_firsts (s : Fin 9 → EReal) (n : ℕ) : (firsts s n).card = (Finset.univ.filter fun l : Fin 9 => l.val < n).card :=
  Finset.card_image_of_injective _ (order_injective s)

/-- A sum over the first taps, along the order. -/
theorem sum_firsts (s f : Fin 9 → EReal) (n : ℕ) (hn : n ≤ 9) : ∑ k ∈ firsts s n, f k = ∑ l : Fin n, f (order s (Fin.castLE hn l)) := by
  unfold firsts
  rw [Finset.sum_image fun a _ b _ h => order_injective s h]
  refine (Finset.sum_bij' (fun (l : Fin n) _ => Fin.castLE hn l) (fun l hl => ⟨l.val, (Finset.mem_filter.1 hl).2⟩) ?_ ?_ ?_ ?_ ?_).symm
  · exact fun l _ => Finset.mem_filter.2 ⟨Finset.mem_univ _, l.isLt⟩
  · exact fun _ _ => Finset.mem_univ _
  · exact fun _ _ => rfl
  · exact fun _ _ => rfl
  · exact fun _ _ => rfl

/-- Summing over the first five in falling order is summing over the taken ones. -/
theorem sum_most (s f : Fin 9 → EReal) (hf : ∀ i j, s i = s j → f i = f j) :
    ∑ l : Fin 5, f (order s (Fin.castLE (by decide) l)) = ∑ k, if place s k < 5 then f k else 0 := by
  rw [← sum_firsts s f 5 (by decide), top_sums s f hf (firsts s 5) (chosen s) (by rw [card_firsts, card_chosen]; decide) (firsts_top s 5) (chosen_top s)]
  unfold chosen
  rw [Finset.sum_filter]

/-- Summing over the first four in rising order is summing over the ones not taken. -/
theorem sum_least (s f : Fin 9 → EReal) (hf : ∀ i j, s i = s j → f i = f j) :
    ∑ l : Fin 4, f (order (fun k => -s k) (Fin.castLE (by decide) l)) = ∑ k, if place s k < 5 then 0 else f k := by
  rw [← sum_firsts (fun k => -s k) f 4 (by decide), top_sums (fun k => -s k) f (fun i j h => hf i j (neg_inj.1 h)) (firsts (fun k => -s k) 4) (chosen s)ᶜ
    (by rw [card_firsts, Finset.card_compl, card_chosen]; decide) (firsts_top _ 4)
    (fun a ha b hb => by
      rw [Finset.mem_compl] at ha hb
      exact EReal.neg_le_neg_iff.2 (chosen_top s b (not_not.1 hb) a ha))]
  have : (chosen s)ᶜ = Finset.univ.filter fun k => ¬ place s k < 5 := by
    ext k; rw [Finset.mem_compl, mem_chosen, Finset.mem_filter]; exact ⟨fun h => ⟨Finset.mem_univ _, h⟩, fun h => h.2⟩
  rw [this, Finset.sum_filter]
  exact Finset.sum_congr rfl fun k _ => by split_ifs <;> rfl

end Cert.Spec

end
-- ==== Proof.RefTop.lean ====
module
public import proofs.«01_k».proof.Proof.RefSims
public import proofs.«01_k».proof.Proof.TopSpec

@[expose] public section

set_option maxRecDepth 16384

noncomputable section

/-! The reference's most and least similar taps, and what it reads off at them. -/

namespace Cert.ReferenceIdeal.Value

open Cert.ReferenceIdeal Cert.ReferenceIdeal.Gen Idealize.ShloMosaic Cert.Spec

/-- The total comparison of extended reals as one bit is the order. -/
theorem gt_iff (a b : EReal) : ((FloatOps.cmpfTotal (F := Ideal) (φ := .f32) .gt a b) == 1#1) = decide (b < a) := by
  show (Ideal.cmpTotal .gt a b == 1#1) = _
  unfold Ideal.cmpTotal
  by_cases h : b < a <;> simp [h, CmpDirection.ordered, Ideal.cmp]

/-- One fiber's position. -/
theorem along_ix (n0 n1 n2 n3 : ℕ) (b : Fin n0) (y : Fin n1) (x : Fin n2) (l k : Fin n3) :
    Shape.Idx.along (s := ⟨4, ![n0, n1, n2, n3]⟩) (ix4 b y x l) 3 k = ix4 b y x k := by
  funext a
  unfold Shape.Idx.along
  match a with
  | ⟨0, _⟩ => rfl
  | ⟨1, _⟩ => rfl
  | ⟨2, _⟩ => rfl
  | ⟨3, _⟩ => rfl

/-- Sorting along the taps with their numbers carried along. -/
theorem sorted_apply (v : S2x96x96x9.Idx → EReal) (b : Fin 2) (y x : Fin 96) (l : Fin 9) :
    (Host.sort2 S2x96x96x9 3 (fun l r : EReal × BitVec 32 => FloatOps.cmpfTotal (F := Ideal) (φ := .f32) .gt l.1 r.1) v
      (fun i => iotaInDim S2x96x96x9 32 3 i)).1 (ix4 b y x l) = v (ix4 b y x (order (fun k => v (ix4 b y x k)) l))
    ∧ (Host.sort2 S2x96x96x9 3 (fun l r : EReal × BitVec 32 => FloatOps.cmpfTotal (F := Ideal) (φ := .f32) .gt l.1 r.1) v
      (fun i => iotaInDim S2x96x96x9 32 3 i)).2 (ix4 b y x l) = BitVec.ofNat 32 (order (fun k => v (ix4 b y x k)) l).val := by
  unfold Host.sort2
  rw [dif_pos (by decide)]
  have e : ∀ k, Shape.Idx.along (s := S2x96x96x9) (ix4 b y x l) ⟨3, by decide⟩ k = ix4 b y x k := along_ix 2 96 96 9 b y x l
  have key : sortedFrom (fun k k' => FloatOps.cmpfTotal (F := Ideal) (φ := .f32) .gt (v (Shape.Idx.along (s := S2x96x96x9) (ix4 b y x l) ⟨3, by decide⟩ k))
      (v (Shape.Idx.along (s := S2x96x96x9) (ix4 b y x l) ⟨3, by decide⟩ k')) == 1#1) = order (fun k => v (ix4 b y x k)) := by
    funext j
    unfold order
    congr 1
    funext k k'
    rw [e, e, gt_iff]
  constructor
  · refine congrArg v ((e _).trans ?_)
    exact congrArg (fun k : Fin 9 => ix4 b y x k) (congrFun key l)
  · refine (congrArg (iotaInDim S2x96x96x9 32 3) (e _)).trans ?_
    exact congrArg (fun k : Fin 9 => BitVec.ofNat 32 k.val) (congrFun key l)

/-- The five largest and their taps. -/
theorem most_apply (v : S2x96x96x9.Idx → EReal) (h) (b : Fin 2) (y x : Fin 96) (l : Fin 5) :
    ((Host.topK S2x96x96x5 3 (FloatOps.cmpfTotal (F := Ideal) (φ := .f32) .gt) v h).1 (ix4 b y x l) : EReal)
      = v (ix4 b y x (order (fun k => v (ix4 b y x k)) (Fin.castLE (by decide) l)))
    ∧ (Host.topK S2x96x96x5 3 (FloatOps.cmpfTotal (F := Ideal) (φ := .f32) .gt) v h).2 (ix4 b y x l)
      = BitVec.ofNat 32 (order (fun k => v (ix4 b y x k)) (Fin.castLE (by decide) l)).val := by
  obtain ⟨h1, h2⟩ := sorted_apply v b y x (Fin.castLE (by decide) l)
  rw [← h1, ← h2]
  unfold Host.topK
  constructor
  · dsimp only
    pointwise
    rfl
  · dsimp only
    pointwise
    rfl

/-- The four largest and their taps. -/
theorem least_apply (v : S2x96x96x9.Idx → EReal) (h) (b : Fin 2) (y x : Fin 96) (l : Fin 4) :
    ((Host.topK S2x96x96x4 3 (FloatOps.cmpfTotal (F := Ideal) (φ := .f32) .gt) v h).1 (ix4 b y x l) : EReal)
      = v (ix4 b y x (order (fun k => v (ix4 b y x k)) (Fin.castLE (by decide) l)))
    ∧ (Host.topK S2x96x96x4 3 (FloatOps.cmpfTotal (F := Ideal) (φ := .f32) .gt) v h).2 (ix4 b y x l)
      = BitVec.ofNat 32 (order (fun k => v (ix4 b y x k)) (Fin.castLE (by decide) l)).val := by
  obtain ⟨h1, h2⟩ := sorted_apply v b y x (Fin.castLE (by decide) l)
  rw [← h1, ← h2]
  unfold Host.topK
  constructor
  · dsimp only
    pointwise
    rfl
  · dsimp only
    pointwise
    rfl

/-- The number of a tap, clamped into the nine, is itself. -/
theorem clamped : ∀ k : Fin 9, min (BitVec.ofNat 32 k.val).toInt.toNat 8 = k.val := by decide

/-- The tap whose number is read off at an entry, 5 of them. -/
theorem gather5_apply (v : S2x96x96x9.Idx → EReal) (idx : IVec S2x96x96x5x1 32) (b : Fin 2) (y x : Fin 96) (l : Fin 5) (k : Fin 9)
    (hk : idx (ix5 b y x l 0) = BitVec.ofNat 32 k.val) :
    Host.gather gather_S2x96x96x9_S2x96x96x5x1_S2x96x96x5_n_3_012_012_3_4_1111 v idx (ix4 b y x l) = v (ix4 b y x k) := by
  unfold Host.gather
  congr 1
  funext a
  refine Fin.ext ?_
  show gather_S2x96x96x9_S2x96x96x5x1_S2x96x96x5_n_3_012_012_3_4_1111.start (ix4 b y x l) idx a
    + gather_S2x96x96x9_S2x96x96x5x1_S2x96x96x5_n_3_012_012_3_4_1111.batchCoord (ix4 b y x l) a
    + gather_S2x96x96x9_S2x96x96x5x1_S2x96x96x5_n_3_012_012_3_4_1111.offCoord (ix4 b y x l) a = _
  by_cases ha : a = 3
  · subst ha
    rw [GatherDims.batchCoord_eq_zero _ _ _ (by decide), GatherDims.offCoord_eq_zero _ _ _ (fun h => ((GatherDims.mem_sKept _ _).mp h).1 (List.mem_singleton.mpr rfl))]
    simp only [Nat.add_zero]
    unfold GatherDims.start
    have h3 : (3 : Fin 4) ∈ gather_S2x96x96x9_S2x96x96x5x1_S2x96x96x5_n_3_012_012_3_4_1111.startIndexMap := List.mem_singleton.mpr rfl
    rw [dif_pos h3]
    refine Eq.trans ?_ (clamped k)
    rw [← hk]
    refine congrArg (fun w : BitVec 32 => min w.toInt.toNat 8) (congrArg idx ?_)
    funext c
    refine Fin.ext ?_
    match c with
    | ⟨0, _⟩ => rfl
    | ⟨1, _⟩ => rfl
    | ⟨2, _⟩ => rfl
    | ⟨3, _⟩ => rfl
    | ⟨4, _⟩ => rfl
  · have hm : a ∈ gather_S2x96x96x9_S2x96x96x5x1_S2x96x96x5_n_3_012_012_3_4_1111.operandBatchingDims := by
      show a ∈ ([0, 1, 2] : List (Fin 4))
      revert ha; revert a; decide
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    match a with
    | ⟨0, _⟩ => rfl
    | ⟨1, _⟩ => rfl
    | ⟨2, _⟩ => rfl
    | ⟨3, _⟩ => exact absurd rfl ha

/-- The tap whose number is read off at an entry, 4 of them. -/
theorem gather4_apply (v : S2x96x96x9.Idx → EReal) (idx : IVec S2x96x96x4x1 32) (b : Fin 2) (y x : Fin 96) (l : Fin 4) (k : Fin 9)
    (hk : idx (ix5 b y x l 0) = BitVec.ofNat 32 k.val) :
    Host.gather gather_S2x96x96x9_S2x96x96x4x1_S2x96x96x4_n_3_012_012_3_4_1111 v idx (ix4 b y x l) = v (ix4 b y x k) := by
  unfold Host.gather
  congr 1
  funext a
  refine Fin.ext ?_
  show gather_S2x96x96x9_S2x96x96x4x1_S2x96x96x4_n_3_012_012_3_4_1111.start (ix4 b y x l) idx a
    + gather_S2x96x96x9_S2x96x96x4x1_S2x96x96x4_n_3_012_012_3_4_1111.batchCoord (ix4 b y x l) a
    + gather_S2x96x96x9_S2x96x96x4x1_S2x96x96x4_n_3_012_012_3_4_1111.offCoord (ix4 b y x l) a = _
  by_cases ha : a = 3
  · subst ha
    rw [GatherDims.batchCoord_eq_zero _ _ _ (by decide), GatherDims.offCoord_eq_zero _ _ _ (fun h => ((GatherDims.mem_sKept _ _).mp h).1 (List.mem_singleton.mpr rfl))]
    simp only [Nat.add_zero]
    unfold GatherDims.start
    have h3 : (3 : Fin 4) ∈ gather_S2x96x96x9_S2x96x96x4x1_S2x96x96x4_n_3_012_012_3_4_1111.startIndexMap := List.mem_singleton.mpr rfl
    rw [dif_pos h3]
    refine Eq.trans ?_ (clamped k)
    rw [← hk]
    refine congrArg (fun w : BitVec 32 => min w.toInt.toNat 8) (congrArg idx ?_)
    funext c
    refine Fin.ext ?_
    match c with
    | ⟨0, _⟩ => rfl
    | ⟨1, _⟩ => rfl
    | ⟨2, _⟩ => rfl
    | ⟨3, _⟩ => rfl
    | ⟨4, _⟩ => rfl
  · have hm : a ∈ gather_S2x96x96x9_S2x96x96x4x1_S2x96x96x4_n_3_012_012_3_4_1111.operandBatchingDims := by
      show a ∈ ([0, 1, 2] : List (Fin 4))
      revert ha; revert a; decide
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    match a with
    | ⟨0, _⟩ => rfl
    | ⟨1, _⟩ => rfl
    | ⟨2, _⟩ => rfl
    | ⟨3, _⟩ => exact absurd rfl ha

variable (V0 : Valuation τ sig (Elt Ideal)) (b : Fin 2) (y x : Fin 96)

/-- The number of a tap is not negative, so it is read as it is, and it is in range. -/
theorem in_range : ∀ k : Fin 9, (Scalar.select (Scalar.cmpi .slt (BitVec.ofNat 32 k.val) 0#32) (BitVec.ofNat 32 k.val + 9#32) (BitVec.ofNat 32 k.val) = BitVec.ofNat 32 k.val)
    ∧ Scalar.cmpi .sge (BitVec.ofNat 32 k.val) 0#32 = 1#1 ∧ Scalar.cmpi .sle (BitVec.ofNat 32 k.val) 8#32 = 1#1 := by decide

/-- The taps of the most similar, in falling order. -/
theorem call4_apply (l : Fin 5) : res_main_call4_v5 V0 (ix5 b y x l 0)
    = BitVec.ofNat 32 (order (fun k => sim (ema V0 b) k y x) (Fin.castLE (by decide) l)).val := by
  have e : res_main_indices V0 (ix4 b y x l) = BitVec.ofNat 32 (order (fun k => sim (ema V0 b) k y x) (Fin.castLE (by decide) l)).val := by
    unfold res_main_indices
    refine (most_apply (res_main_v168 V0) _ b y x l).2.trans ?_
    simp only [v168_apply]
  unfold res_main_call4_v5
  clean_types
  pointwise
  rw [e]
  exact (in_range _).1

/-- The negated similarities. -/
theorem v173_apply (k : Fin 9) : (res_main_v173 V0 (ix4 b y x k) : EReal) = -sim (ema V0 b) k y x := by
  unfold res_main_v173
  clean_types
  pointwise
  rw [v168_apply]

/-- The taps of the least similar, in rising order. -/
theorem call5_apply (l : Fin 4) : res_main_call5_v5 V0 (ix5 b y x l 0)
    = BitVec.ofNat 32 (order (fun k => -sim (ema V0 b) k y x) (Fin.castLE (by decide) l)).val := by
  have e : res_main_indices_30 V0 (ix4 b y x l) = BitVec.ofNat 32 (order (fun k => -sim (ema V0 b) k y x) (Fin.castLE (by decide) l)).val := by
    unfold res_main_indices_30
    refine (least_apply (res_main_v173 V0) _ b y x l).2.trans ?_
    simp only [v173_apply]
  unfold res_main_call5_v5
  clean_types
  pointwise
  rw [e]
  exact (in_range _).1

/-- The losses of the most similar taps. -/
def posLoss : FVec Ideal S2x5x96x96 .f32 :=
  transpose S2x5x96x96 [0, 3, 1, 2] (mulf ((Host.topK S2x96x96x5 3 (FloatOps.cmpfTotal .gt) (res_main_v168 V0) sliceFits_S2x96x96x9_S2x96x96x5).1) (Host.negf (select (Host.reduce IntOp.andi (andi (cmpi .sge (res_main_call4_v5 V0) (broadcastInDim S2x96x96x5x1 ![] bcast_S_S2x96x96x5x1 (constantI S_ 32 0#32))) (cmpi .sle (res_main_call4_v5 V0) (broadcastInDim S2x96x96x5x1 ![0, 1, 2, 3, 4] bcast_S1x1x1x1x1_S2x96x96x5x1_0_1_2_3_4 (broadcastInDim S1x1x1x1x1 ![4] bcast_S1_S1x1x1x1x1_4 (constantI S1 32 8#32))))) (constantI S_ 1 1#1) reducesTo_S2x96x96x5x1_S2x96x96x5_d4 h_S_) (Host.gather gather_S2x96x96x9_S2x96x96x5x1_S2x96x96x5_n_3_012_012_3_4_1111 (transpose S2x96x96x9 [0, 2, 3, 1] (res_main_v167 V0) transposes_S2x9x96x96_S2x96x96x9_0_2_3_1) (res_main_call4_v5 V0)) (broadcastInDim S2x96x96x5 ![] bcast_S_S2x96x96x5 (constant S_ .f32 0x7FC00000#32))))) transposes_S2x96x96x5_S2x5x96x96_0_3_1_2

/-- The losses of the least similar taps. -/
def negLoss : FVec Ideal S2x4x96x96 .f32 :=
  transpose S2x4x96x96 [0, 3, 1, 2] (mulf (subf (broadcastInDim S2x96x96x4 ![] bcast_S_S2x96x96x4 (constant S_ .f32 0x3F800000#32)) (Host.negf ((Host.topK S2x96x96x4 3 (FloatOps.cmpfTotal .gt) (res_main_v173 V0) sliceFits_S2x96x96x9_S2x96x96x4).1))) (Host.negf (select (Host.reduce IntOp.andi (andi (cmpi .sge (res_main_call5_v5 V0) (broadcastInDim S2x96x96x4x1 ![] bcast_S_S2x96x96x4x1 (constantI S_ 32 0#32))) (cmpi .sle (res_main_call5_v5 V0) (broadcastInDim S2x96x96x4x1 ![0, 1, 2, 3, 4] bcast_S1x1x1x1x1_S2x96x96x4x1_0_1_2_3_4 (broadcastInDim S1x1x1x1x1 ![4] bcast_S1_S1x1x1x1x1_4 (constantI S1 32 8#32))))) (constantI S_ 1 1#1) reducesTo_S2x96x96x4x1_S2x96x96x4_d4 h_S_) (Host.gather gather_S2x96x96x9_S2x96x96x4x1_S2x96x96x4_n_3_012_012_3_4_1111 (transpose S2x96x96x9 [0, 2, 3, 1] (subf (broadcastInDim S2x9x96x96 ![] bcast_S_S2x9x96x96 (constant S_ .f32 0x3F800000#32)) (res_main_v167 V0)) transposes_S2x9x96x96_S2x96x96x9_0_2_3_1) (res_main_call5_v5 V0)) (broadcastInDim S2x96x96x4 ![] bcast_S_S2x96x96x4 (constant S_ .f32 0x7FC00000#32))))) transposes_S2x96x96x4_S2x4x96x96_0_3_1_2

/-- An index of five coordinates, the last the only one, by its coordinates. -/
theorem five {n0 n1 n2 n3 : ℕ} (i : (⟨5, ![n0, n1, n2, n3, 1]⟩ : Shape).Idx) : i = ix5 (i 0) (i 1) (i 2) (i 3) 0 := by
  funext a
  match a with
  | ⟨0, _⟩ => rfl
  | ⟨1, _⟩ => rfl
  | ⟨2, _⟩ => rfl
  | ⟨3, _⟩ => rfl
  | ⟨4, _⟩ => exact Subsingleton.elim (α := Fin 1) _ _

/-- Folding ones with the bitwise and. -/
theorem fold_ones {ι : Type} (S : Finset ι) (f : ι → BitVec 1) (h : ∀ i, f i = 1#1) : Finset.fold IntOp.andi 1#1 f S = 1#1 := by
  classical
  induction S using Finset.induction with
  | empty => rfl
  | insert a S ha ih => rw [Finset.fold_insert ha, ih, h]; rfl

/-- Every tap's number is in range. -/
theorem call4_range (i : S2x96x96x5x1.Idx) : IntOp.andi (IntOp.cmpi .sge (res_main_call4_v5 V0 i) 0#32) (IntOp.cmpi .sle (res_main_call4_v5 V0 i) 8#32) = 1#1 := by
  obtain ⟨b, y, x, l, rfl⟩ : ∃ (b : Fin 2) (y x : Fin 96) (l : Fin 5), i = ix5 b y x l 0 := ⟨i 0, i 1, i 2, i 3, five i⟩
  rw [call4_apply]
  obtain ⟨-, h, h'⟩ := in_range (order (fun k => sim (ema V0 b) k y x) (Fin.castLE (by decide) l))
  exact (congrArg₂ IntOp.andi h h').trans rfl

/-- The second gather looks up taps that exist. -/
theorem call5_range (i : S2x96x96x4x1.Idx) : IntOp.andi (IntOp.cmpi .sge (res_main_call5_v5 V0 i) 0#32) (IntOp.cmpi .sle (res_main_call5_v5 V0 i) 8#32) = 1#1 := by
  obtain ⟨b, y, x, l, rfl⟩ : ∃ (b : Fin 2) (y x : Fin 96) (l : Fin 4), i = ix5 b y x l 0 := ⟨i 0, i 1, i 2, i 3, five i⟩
  rw [call5_apply]
  obtain ⟨-, h, h'⟩ := in_range (order (fun k => -sim (ema V0 b) k y x) (Fin.castLE (by decide) l))
  exact (congrArg₂ IntOp.andi h h').trans rfl

/-- A choice by one. -/
theorem select_one (a b : EReal) : Scalar.select 1#1 a b = a := rfl

/-- The loss of the tap at a place among the most similar ones. -/
theorem posLoss_apply (l : Fin 5) : (posLoss V0 (ix4 b l y x) : EReal)
    = (fun k => sim (ema V0 b) k y x * -cross (logits V0 b) k y x) (order (fun k => sim (ema V0 b) k y x) (Fin.castLE (by decide) l)) := by
  unfold posLoss
  pointwise
  refine congrArg₂ (fun u v : EReal => u * v) ?_ (congrArg (fun u : EReal => -u) ?_)
  · refine (most_apply _ _ b y x l).1.trans ?_
    simp only [v168_apply]
  · refine (congrArg (fun w => Scalar.select w _ _) (fold_ones _ _ (call4_range V0))).trans ?_
    refine (select_one _ _).trans ((gather5_apply _ _ b y x l _ (call4_apply V0 b y x l)).trans ?_)
    pointwise
    exact v167_apply V0 b _ y x

/-- The loss of the tap at a place among the least similar ones. -/
theorem negLoss_apply (l : Fin 4) : (negLoss V0 (ix4 b l y x) : EReal)
    = (fun k => (1 - sim (ema V0 b) k y x) * -(1 - cross (logits V0 b) k y x)) (order (fun k => -sim (ema V0 b) k y x) (Fin.castLE (by decide) l)) := by
  unfold negLoss
  pointwise
  refine congrArg₂ (fun u v : EReal => (1 - u) * v) ?_ (congrArg (fun u : EReal => -u) ?_)
  · refine (congrArg (fun u : EReal => -u) (least_apply _ _ b y x l).1).trans ?_
    simp only [v173_apply, neg_neg]
  · refine (congrArg (fun w => Scalar.select w _ _) (fold_ones _ _ (call5_range V0))).trans ?_
    refine (select_one _ _).trans ((gather4_apply _ _ b y x l _ (call5_apply V0 b y x l)).trans ?_)
    pointwise
    exact congrArg (1 - ·) (v167_apply V0 b _ y x)

end Cert.ReferenceIdeal.Value

end
-- ==== Proof.RefOut.lean ====
module
public import proofs.«01_k».proof.Proof.RefTop

@[expose] public section

set_option maxRecDepth 16384

noncomputable section

/-! The reference's four results. -/

namespace Cert.ReferenceIdeal.Value

open Cert.ReferenceIdeal Cert.ReferenceIdeal.Gen Idealize.ShloMosaic Cert.Spec

/-- Four scalars as a row. -/
def row (p0 p1 p2 p3 : FVec Ideal S_ .f32) : (⟨S1x4, .f32⟩ : BufTy).Contents (Elt Ideal) :=
  broadcastInDim S1x4 ![1] bcast_S4_S1x4_1 ((concatenate S4 0 [⟨S1, ((broadcastInDim S1 ![] bcast_S_S1 p0) : (⟨S1, .f32⟩ : BufTy).Contents (Elt Ideal))⟩, ⟨S1, ((broadcastInDim S1 ![] bcast_S_S1 p1) : (⟨S1, .f32⟩ : BufTy).Contents (Elt Ideal))⟩, ⟨S1, ((broadcastInDim S1 ![] bcast_S_S1 p2) : (⟨S1, .f32⟩ : BufTy).Contents (Elt Ideal))⟩, ⟨S1, ((broadcastInDim S1 ![] bcast_S_S1 p3) : (⟨S1, .f32⟩ : BufTy).Contents (Elt Ideal))⟩] concatenates_S1_S1_S1_S1_S4_d0 : (⟨S4, .f32⟩ : BufTy).Contents (Elt Ideal)))

/-- An entry of the row. -/
theorem row_apply (p0 p1 p2 p3 : FVec Ideal S_ .f32) (j : Fin 4) : (row p0 p1 p2 p3 (ix2 0 j) : EReal)
    = if j.val < 1 then p0 ix0 else if j.val - 1 < 1 then p1 ix0 else if j.val - 1 - 1 < 1 then p2 ix0 else p3 ix0 := by
  unfold row
  pointwise
  rfl

/-- The sum over a whole array of four axes. -/
theorem total_apply {n0 n1 n2 n3 : ℕ} (x : FVec Ideal ⟨4, ![n0, n1, n2, n3]⟩ .f32) (h : (⟨4, ![n0, n1, n2, n3]⟩ : Shape).ReducesTo [0, 1, 2, 3] S_) :
    (Host.reduceAdd x (constant S_ .f32 0x00000000#32) h h_S_ ix0 : EReal) = ∑ b, ∑ k, ∑ y, ∑ x', x (ix4 b k y x') := by
  pointwise
  unfold Ideal.hostReduceAdd
  rw [zero_add, Finset.filter_true_of_mem fun i _ => funext fun a => a.elim0]
  exact sum_idx4 x

/-- A mean over the weighted entries. -/
def mean {n : ℕ} (x w : FVec Ideal ⟨4, ![2, n, 96, 96]⟩ .f32) (h : (⟨4, ![2, n, 96, 96]⟩ : Shape).ReducesTo [0, 1, 2, 3] S_) : FVec Ideal S_ .f32 :=
  Host.divf (Host.reduceAdd (mulf x w) (constant S_ .f32 0x00000000#32) h h_S_) (maximumf (Host.reduceAdd w (constant S_ .f32 0x00000000#32) h h_S_) (constant S_ .f32 0x3F800000#32))

/-- A mean as a quotient of sums. -/
theorem mean_apply {n : ℕ} (x w : FVec Ideal ⟨4, ![2, n, 96, 96]⟩ .f32) (h : (⟨4, ![2, n, 96, 96]⟩ : Shape).ReducesTo [0, 1, 2, 3] S_) :
    (mean x w h ix0 : EReal) = Ideal.div (∑ b, ∑ k, ∑ y, ∑ x', x (ix4 b k y x') * w (ix4 b k y x')) (max (∑ b, ∑ k, ∑ y, ∑ x', w (ix4 b k y x')) 1) := by
  rw [← total_apply w h]
  refine Eq.trans ?_ (congrArg (fun u => Ideal.div u _) (total_apply (mulf x w) h))
  unfold mean
  pointwise

variable (V0 : Valuation τ sig (Elt Ideal))

/-- The reference's result. -/
def out : (⟨S1x4, .f32⟩ : BufTy).Contents (Elt Ideal) :=
  broadcastInDim S1x4 ![1] bcast_S4_S1x4_1 ((concatenate S4 0 [⟨S1, ((broadcastInDim S1 ![] bcast_S_S1 (mulf (Host.negf (Host.divf (Host.reduceAdd (mulf (res_main_v42 V0) (res_main_v70 V0)) (constant S_ .f32 0x00000000#32) reducesTo_S2x9x96x96_S_d0_1_2_3 h_S_) (maximumf (Host.reduceAdd (res_main_v70 V0) (constant S_ .f32 0x00000000#32) reducesTo_S2x9x96x96_S_d0_1_2_3 h_S_) (constant S_ .f32 0x3F800000#32)))) (constant S_ .f32 0x3F800000#32))) : (⟨S1, .f32⟩ : BufTy).Contents (Elt Ideal))⟩, ⟨S1, ((broadcastInDim S1 ![] bcast_S_S1 (mulf (Host.divf (Host.reduceAdd (mulf (res_main_v42 V0) (res_main_v79 V0)) (constant S_ .f32 0x00000000#32) reducesTo_S2x9x96x96_S_d0_1_2_3 h_S_) (maximumf (Host.reduceAdd (res_main_v79 V0) (constant S_ .f32 0x00000000#32) reducesTo_S2x9x96x96_S_d0_1_2_3 h_S_) (constant S_ .f32 0x3F800000#32))) (constant S_ .f32 0x3F800000#32))) : (⟨S1, .f32⟩ : BufTy).Contents (Elt Ideal))⟩, ⟨S1, ((broadcastInDim S1 ![] bcast_S_S1 (mulf (Host.divf (Host.reduceAdd (mulf (posLoss V0) (res_main_v186 V0)) (constant S_ .f32 0x00000000#32) reducesTo_S2x5x96x96_S_d0_1_2_3 h_S_) (maximumf (Host.reduceAdd (res_main_v186 V0) (constant S_ .f32 0x00000000#32) reducesTo_S2x5x96x96_S_d0_1_2_3 h_S_) (constant S_ .f32 0x3F800000#32))) (constant S_ .f32 0x3F800000#32))) : (⟨S1, .f32⟩ : BufTy).Contents (Elt Ideal))⟩, ⟨S1, ((broadcastInDim S1 ![] bcast_S_S1 (mulf (Host.divf (Host.reduceAdd (mulf (negLoss V0) (res_main_v193 V0)) (constant S_ .f32 0x00000000#32) reducesTo_S2x4x96x96_S_d0_1_2_3 h_S_) (maximumf (Host.reduceAdd (res_main_v193 V0) (constant S_ .f32 0x00000000#32) reducesTo_S2x4x96x96_S_d0_1_2_3 h_S_) (constant S_ .f32 0x3F800000#32))) (constant S_ .f32 0x3F800000#32))) : (⟨S1, .f32⟩ : BufTy).Contents (Elt Ideal))⟩] concatenates_S1_S1_S1_S1_S4_d0 : (⟨S4, .f32⟩ : BufTy).Contents (Elt Ideal)))

/-- The result is the row of the four means. -/
theorem out_eq : out V0 = row (mulf (Host.negf (mean (res_main_v42 V0) (res_main_v70 V0) reducesTo_S2x9x96x96_S_d0_1_2_3)) (constant S_ .f32 0x3F800000#32))
    (mulf (mean (res_main_v42 V0) (res_main_v79 V0) reducesTo_S2x9x96x96_S_d0_1_2_3) (constant S_ .f32 0x3F800000#32))
    (mulf (mean (posLoss V0) (res_main_v186 V0) reducesTo_S2x5x96x96_S_d0_1_2_3) (constant S_ .f32 0x3F800000#32))
    (mulf (mean (negLoss V0) (res_main_v193 V0) reducesTo_S2x4x96x96_S_d0_1_2_3) (constant S_ .f32 0x3F800000#32)) := rfl

/-- One times a scalar. -/
theorem once_apply (p : FVec Ideal S_ .f32) : (mulf p (constant S_ .f32 0x3F800000#32) ix0 : EReal) = p ix0 := by pointwise

/-- The negation of a scalar. -/
theorem negf_apply (p : FVec Ideal S_ .f32) : (Host.negf p ix0 : EReal) = -p ix0 := by pointwise

/-- A mean in which the entries and the weights are known. -/
theorem mean_of {n : ℕ} (x w : FVec Ideal ⟨4, ![2, n, 96, 96]⟩ .f32) (h : (⟨4, ![2, n, 96, 96]⟩ : Shape).ReducesTo [0, 1, 2, 3] S_)
    (X W : Fin 2 → Fin n → Plane) (hx : ∀ b k y x', x (ix4 b k y x') = X b k y x') (hw : ∀ b k y x', w (ix4 b k y x') = W b k y x') :
    (mean x w h ix0 : EReal) = Ideal.div (∑ b, ∑ k, ∑ y, ∑ x', X b k y x' * W b k y x') (max (∑ b, ∑ k, ∑ y, ∑ x', W b k y x') 1) := by
  rw [mean_apply]
  simp only [hx, hw]

/-- The four results. -/
theorem out_apply (j : Fin 4) : (out V0 (ix2 0 j) : EReal) =
    if j.val < 1 then -Ideal.div (∑ b, ∑ k, ∑ y, ∑ x, sim (src V0 b) k y x * posW (labels V0 b) k y x) (max (∑ b, ∑ k, ∑ y, ∑ x, posW (labels V0 b) k y x) 1)
    else if j.val - 1 < 1 then Ideal.div (∑ b, ∑ k, ∑ y, ∑ x, sim (src V0 b) k y x * negW (labels V0 b) k y x) (max (∑ b, ∑ k, ∑ y, ∑ x, negW (labels V0 b) k y x) 1)
    else if j.val - 1 - 1 < 1 then Ideal.div (∑ b, ∑ l : Fin 5, ∑ y, ∑ x, (fun k => sim (ema V0 b) k y x * -cross (logits V0 b) k y x) (order (fun k => sim (ema V0 b) k y x) (Fin.castLE (by decide) l)) * mask (mix V0 b) y x)
      (max (∑ b, ∑ _l : Fin 5, ∑ y, ∑ x, mask (mix V0 b) y x) 1)
    else Ideal.div (∑ b, ∑ l : Fin 4, ∑ y, ∑ x, (fun k => (1 - sim (ema V0 b) k y x) * -(1 - cross (logits V0 b) k y x)) (order (fun k => -sim (ema V0 b) k y x) (Fin.castLE (by decide) l)) * mask (mix V0 b) y x)
      (max (∑ b, ∑ _l : Fin 4, ∑ y, ∑ x, mask (mix V0 b) y x) 1) := by
  rw [out_eq, row_apply, once_apply, once_apply, once_apply, once_apply, negf_apply,
    mean_of _ _ _ (fun b => sim (src V0 b)) (fun b => posW (labels V0 b)) (v42_apply V0) (v70_apply V0),
    mean_of _ _ _ (fun b => sim (src V0 b)) (fun b => negW (labels V0 b)) (v42_apply V0) (v79_apply V0),
    mean_of _ _ _ (fun b l y x => (fun k => sim (ema V0 b) k y x * -cross (logits V0 b) k y x) (order (fun k => sim (ema V0 b) k y x) (Fin.castLE (by decide) l)))
      (fun b _ => mask (mix V0 b)) (fun b l y x => posLoss_apply V0 b y x l) (fun b l y x => v186_apply V0 b y x l),
    mean_of _ _ _ (fun b l y x => (fun k => (1 - sim (ema V0 b) k y x) * -(1 - cross (logits V0 b) k y x)) (order (fun k => -sim (ema V0 b) k y x) (Fin.castLE (by decide) l)))
      (fun b _ => mask (mix V0 b)) (fun b l y x => negLoss_apply V0 b y x l) (fun b l y x => v193_apply V0 b y x l)]

open Idealize.SL.Sem Idealize.ShloMosaic.StableHlo in
/-- The reference's run leaves that result. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v209) = out (launchContents m c) := by
  refine (θ_run defs _ _).mono (fun r h c => (h c).1.trans ?_) (run (F := Ideal) m ρ)
  unfold out posLoss negLoss
  rfl

end Cert.ReferenceIdeal.Value

end
-- ==== Proof.Finite.lean ====
module

public import proofs.«01_k».proof.Proof.SimSpec
public import proofs.«01_k».proof.Proof.CrossSpec

@[expose] public section

noncomputable section

/-! Extended reals that are real numbers, and that the similarities are. -/

namespace Cert.Spec

open Idealize.ShloMosaic

/-- An extended real that is a real number. -/
def Fine (a : EReal) : Prop := ∃ r : ℝ, a = (r : EReal)

/-- A product of real numbers is one. -/
theorem Fine.mul {a b : EReal} (ha : Fine a) (hb : Fine b) : Fine (a * b) := by
  obtain ⟨r, rfl⟩ := ha; obtain ⟨q, rfl⟩ := hb; exact ⟨r * q, (EReal.coe_mul r q).symm⟩

/-- A difference of real numbers is one. -/
theorem Fine.sub {a b : EReal} (ha : Fine a) (hb : Fine b) : Fine (a - b) := by
  obtain ⟨r, rfl⟩ := ha; obtain ⟨q, rfl⟩ := hb; exact ⟨r - q, (EReal.coe_sub r q).symm⟩

/-- The negation of a real number is one. -/
theorem Fine.neg {a : EReal} (ha : Fine a) : Fine (-a) := by
  obtain ⟨r, rfl⟩ := ha; exact ⟨-r, (EReal.coe_neg r).symm⟩

/-- One is a real number. -/
theorem Fine.one : Fine 1 := ⟨1, rfl⟩

/-- Zero is a real number. -/
theorem Fine.zero : Fine 0 := ⟨0, rfl⟩

/-- An indicator is a real number. -/
theorem Fine.ind (p : Prop) [Decidable p] : Fine (ind p) := by
  unfold Cert.Spec.ind; split_ifs; exacts [Fine.one, Fine.zero]

/-- A sum of real numbers is one. -/
theorem Fine.sum {ι : Type} [Fintype ι] {f : ι → EReal} (h : ∀ i, Fine (f i)) : Fine (∑ i, f i) := by
  choose r hr using h
  exact ⟨∑ i, r i, by rw [coe_sums]; exact Finset.sum_congr rfl fun i _ => hr i⟩

/-- A choice between real numbers is one. -/
theorem Fine.ite {p : Prop} [Decidable p] {a b : EReal} (ha : Fine a) (hb : Fine b) : Fine (if p then a else b) := by
  split_ifs; exacts [ha, hb]

/-- The negation of a sum of real numbers. -/
theorem neg_sums {ι : Type} [Fintype ι] {f : ι → EReal} (h : ∀ i, Fine (f i)) : ∑ i, -f i = -∑ i, f i := by
  choose r hr using h
  simp only [hr]
  rw [← coe_sums, ← EReal.coe_neg, ← Finset.sum_neg_distrib, coe_sums]
  exact Finset.sum_congr rfl fun i _ => (EReal.coe_neg _).symm

/-- Taking a real number away again. -/
theorem add_take {a b : EReal} (hb : Fine b) : a + b - b = a := by
  obtain ⟨r, rfl⟩ := hb; exact EReal.add_sub_cancel_right

/-- A square is not negative. -/
theorem square_nonneg (a : EReal) : 0 ≤ a * a := by
  induction a using EReal.rec with
  | bot => rw [EReal.bot_mul_bot]; exact le_top
  | coe r => rw [← EReal.coe_mul]; exact EReal.coe_nonneg.2 (mul_self_nonneg r)
  | top => rw [EReal.top_mul_top]; exact le_top

/-- A clamped norm is infinite, or the entries are real numbers and it is one. -/
theorem nrm_cases {n : ℕ} (v : Fin n → EReal) : nrm v = ⊤ ∨ (∀ c, Fine (v c)) ∧ Fine (nrm v) := by
  by_cases h : ∃ c, v c * v c = ⊤
  · obtain ⟨c, hc⟩ := h
    left
    have : ∑ c, v c * v c = ⊤ := top_le_iff.1 (hc ▸ Finset.single_le_sum (f := fun c => v c * v c) (fun i _ => square_nonneg (v i)) (Finset.mem_univ c))
    unfold nrm
    rw [this]
    exact max_eq_left le_top
  · right
    have hv : ∀ c, Fine (v c) := fun c => by
      by_contra k
      refine h ⟨c, ?_⟩
      unfold Fine at k
      generalize v c = a at k
      induction a using EReal.rec with
      | bot => exact EReal.bot_mul_bot
      | coe r => exact absurd ⟨r, rfl⟩ k
      | top => exact EReal.top_mul_top
    refine ⟨hv, ?_⟩
    obtain ⟨r, hr⟩ := Fine.sum fun c => (hv c).mul (hv c)
    unfold nrm
    rw [hr]
    have he : Fine eps := by
      unfold eps
      simp [Ideal.ofBits, Ideal.ieee, -EReal.coe_mul]
      exact ⟨_, rfl⟩
    obtain ⟨e, he⟩ := he
    have h0 : ¬ r < 0 := not_lt.2 (EReal.coe_nonneg.1 (hr ▸ Finset.sum_nonneg fun c _ => square_nonneg (v c)))
    rw [he, show Ideal.sqrt (r : EReal) = ((Real.sqrt r : ℝ) : EReal) from if_neg h0]
    exact ⟨max (Real.sqrt r) e, (EReal.coe_strictMono.monotone.map_max).symm⟩

/-- A similarity is a real number. -/
theorem sim_real {n : ℕ} (g : Fin n → Plane) (k : Fin 9) (y x : Fin 96) : Fine (sim g k y x) := by
  unfold sim
  have hp := nrm_pos fun c => tap 0 (g c) k y x
  have hq := nrm_pos fun c => g c y x
  have hz {a : EReal} : Fine (Ideal.div a ⊤) := by
    unfold Ideal.div
    rw [if_neg (by simp)]
    simp [Fine.zero]
  rcases nrm_cases (fun c => tap 0 (g c) k y x) with h | ⟨h, h'⟩
  · rw [h, EReal.top_mul_of_pos hq]; exact hz
  rcases nrm_cases (fun c => g c y x) with h1 | ⟨h1, h1'⟩
  · rw [h1, EReal.mul_top_of_pos hp]; exact hz
  obtain ⟨a, ha⟩ := Fine.sum fun c => (h c).mul (h1 c)
  obtain ⟨b, hb⟩ := h'.mul h1'
  rw [ha, hb]
  have : b ≠ 0 := fun e => (EReal.mul_pos hp hq).ne' (by rw [hb, e]; rfl)
  rw [Ideal.div_coe this]
  exact Fine.mul ⟨_, rfl⟩ ⟨_, rfl⟩

end Cert.Spec

end
-- ==== Proof.Sums.lean ====
module

public import proofs.«01_k».proof.Proof.Finite
public import proofs.«01_k».proof.Proof.TopSpec
public import proofs.«01_k».proof.Proof.KernelPlanes

@[expose] public section

noncomputable section

/-! The kernel's quotients of totals are the reference's means. -/

namespace Cert.Spec

open Idealize.ShloMosaic Cert.KernelIdeal.Body

/-- The taps summed last or first. -/
theorem taps_first {n : ℕ} (f : Fin n → Plane) : ∑ y, ∑ x, ∑ k, f k y x = ∑ k, ∑ y, ∑ x, f k y x :=
  (Finset.sum_congr rfl fun _ _ => Finset.sum_comm).trans Finset.sum_comm

/-- An indicator's product. -/
theorem mul_ind (a : EReal) (p : Prop) [Decidable p] : a * ind p = if p then a else 0 := by
  unfold ind; split_ifs; exacts [mul_one a, mul_zero a]

/-- Over all taps, the pairs of one label and the pairs of two make up the labelled pixel. -/
theorem split_sims (S : Fin 9 → EReal) (t : Fin 96 → Fin 96 → BitVec 32) (y x : Fin 96) :
    (∑ k, S k) * lab t y x = ∑ k, S k * negW t k y x + ∑ k, S k * posW t k y x := by
  rw [← Finset.sum_add_distrib]
  unfold lab negW posW
  simp only [mul_ind]
  by_cases h : t y x ≠ 255#32
  · rw [if_pos h]
    refine Finset.sum_congr rfl fun k _ => ?_
    by_cases h' : same t k y x <;> simp [h, h']
  · simp [h]

/-- The same for their number. -/
theorem split_count (t : Fin 96 → Fin 96 → BitVec 32) (y x : Fin 96) : 9 • lab t y x = ∑ k : Fin 9, negW t k y x + ∑ k : Fin 9, posW t k y x := by
  rw [← Finset.sum_add_distrib]
  unfold lab negW posW ind
  by_cases h : t y x ≠ 255#32
  · rw [if_pos h, show (9 • (1 : EReal)) = ∑ _k : Fin 9, 1 by simp]
    refine Finset.sum_congr rfl fun k _ => ?_
    by_cases h' : same t k y x <;> simp [h, h']
  · simp [h]

/-- The nine, the five and the four of the masks. -/
theorem nine_mul (a : EReal) : Ideal.ofBits FTy.f32 1091567616#32 * a = 9 • a := by
  rw [EReal.nsmul_eq_mul, show Ideal.ofBits FTy.f32 1091567616#32 = ((9 : ℝ) : EReal) by
    simp [Ideal.ofBits, Ideal.ieee, -EReal.coe_mul]; norm_num]
  norm_cast

/-- Five times. -/
theorem five_mul (a : EReal) : Ideal.ofBits FTy.f32 1084227584#32 * a = 5 • a := by
  rw [EReal.nsmul_eq_mul, bits5]; norm_cast

/-- Four times. -/
theorem four_mul (a : EReal) : Ideal.ofBits FTy.f32 1082130432#32 * a = 4 • a := by
  rw [EReal.nsmul_eq_mul, bits4]; norm_cast

variable (S E C : Fin 9 → Plane) (t : Fin 96 → Fin 96 → BitVec 32) (mm : Plane)

/-- The pairs of two labels, as what the pairs of one label leave. -/
theorem lane2 (hS : ∀ k y x, Fine (S k y x)) :
    ∑ y, ∑ x, (∑ k, S k y x) * lab t y x - ∑ y, ∑ x, ∑ k, S k y x * posW t k y x = ∑ k, ∑ y, ∑ x, S k y x * negW t k y x := by
  rw [← taps_first]
  simp only [split_sims (fun k => S k _ _), Finset.sum_add_distrib]
  exact add_take (Fine.sum fun y => Fine.sum fun x => Fine.sum fun k => (hS k y x).mul (Fine.ind _))

/-- The number of pairs of two labels, as what the pairs of one label leave. -/
theorem lane3 : Ideal.ofBits FTy.f32 1091567616#32 * (∑ y, ∑ x, lab t y x) - ∑ y, ∑ x, ∑ k : Fin 9, posW t k y x = ∑ k : Fin 9, ∑ y, ∑ x, negW t k y x := by
  rw [nine_mul, ← taps_first]
  simp only [Finset.smul_sum, split_count, Finset.sum_add_distrib]
  exact add_take (Fine.sum fun y => Fine.sum fun x => Fine.sum fun k => Fine.ind _)

/-- The losses of the most similar taps, pixel by pixel. -/
theorem pixel_pos (s c : Fin 9 → EReal) (hs : ∀ k, Fine (s k)) (hc : ∀ k, Fine (c k)) (ht : ∀ i j, s i = s j → c i = c j) :
    ∑ l : Fin 5, (fun k => s k * -c k) (order s (Fin.castLE (by decide) l)) = -∑ k, if place s k < 5 then s k * c k else 0 := by
  rw [sum_most s (fun k => s k * -c k) fun i j h => by rw [h, ht i j h], ← neg_sums fun k => Fine.ite ((hs k).mul (hc k)) Fine.zero]
  refine Finset.sum_congr rfl fun k _ => ?_
  split_ifs
  · exact mul_neg _ _
  · exact neg_zero.symm

/-- The losses of the least similar taps, pixel by pixel. -/
theorem pixel_neg (s c : Fin 9 → EReal) (hs : ∀ k, Fine (s k)) (hc : ∀ k, Fine (c k)) (ht : ∀ i j, s i = s j → c i = c j) :
    ∑ l : Fin 4, (fun k => (1 - s k) * -(1 - c k)) (order (fun k => -s k) (Fin.castLE (by decide) l))
      = -(∑ k, (1 - s k) * (1 - c k) - ∑ k, if place s k < 5 then (1 - s k) * (1 - c k) else 0) := by
  have hf k : Fine ((1 - s k) * (1 - c k)) := (Fine.one.sub (hs k)).mul (Fine.one.sub (hc k))
  have hsum : ∑ k, (1 - s k) * (1 - c k) = (∑ k, if place s k < 5 then 0 else (1 - s k) * (1 - c k)) + ∑ k, if place s k < 5 then (1 - s k) * (1 - c k) else 0 := by
    rw [← Finset.sum_add_distrib]
    refine Finset.sum_congr rfl fun k _ => ?_
    split_ifs
    · exact (zero_add _).symm
    · exact (add_zero _).symm
  rw [sum_least s (fun k => (1 - s k) * -(1 - c k)) fun i j h => by rw [h, ht i j h]]
  rw [hsum, add_take (Fine.sum fun k => Fine.ite (hf k) Fine.zero), ← neg_sums fun k => Fine.ite Fine.zero (hf k)]
  refine Finset.sum_congr rfl fun k _ => ?_
  split_ifs
  · exact neg_zero.symm
  · exact mul_neg _ _

/-- The masked losses of an image, taps first. -/
theorem masked {n : ℕ} (f : Fin n → Plane) (P : Plane) (hP : ∀ y x, Fine (P y x)) (h : ∀ y x, ∑ l, f l y x = -P y x) :
    ∑ l, ∑ y, ∑ x, f l y x * mask mm y x = 0 - ∑ y, ∑ x, P y x * mask mm y x := by
  have hm y x : Fine (P y x * mask mm y x) := (hP y x).mul (Fine.ind _)
  rw [← taps_first, zero_sub, ← neg_sums fun y => Fine.sum fun x => hm y x]
  refine Finset.sum_congr rfl fun y _ => ?_
  rw [← neg_sums fun x => hm y x]
  refine Finset.sum_congr rfl fun x _ => ?_
  unfold mask
  simp only [mul_ind]
  split_ifs
  · exact h y x
  · rw [neg_zero, Finset.sum_const_zero]

/-- The masked losses of the five most similar taps. -/
theorem lane4 (hE : ∀ k y x, Fine (E k y x)) (hC : ∀ k y x, Fine (C k y x)) (ht : ∀ y x i j, E i y x = E j y x → C i y x = C j y x) :
    ∑ l : Fin 5, ∑ y, ∑ x, (fun k => E k y x * -C k y x) (order (fun k => E k y x) (Fin.castLE (by decide) l)) * mask mm y x
      = 0 - ∑ y, ∑ x, takenPos E C y x * mask mm y x :=
  masked mm (fun l y x => (fun k => E k y x * -C k y x) (order (fun k => E k y x) (Fin.castLE (by decide) l))) (takenPos E C)
    (fun y x => Fine.sum fun k => Fine.ite ((hE k y x).mul (hC k y x)) Fine.zero)
    fun y x => pixel_pos (fun k => E k y x) (fun k => C k y x) (fun k => hE k y x) (fun k => hC k y x) (ht y x)

/-- The masked losses of the four least similar taps. -/
theorem lane5 (hE : ∀ k y x, Fine (E k y x)) (hC : ∀ k y x, Fine (C k y x)) (ht : ∀ y x i j, E i y x = E j y x → C i y x = C j y x) :
    ∑ l : Fin 4, ∑ y, ∑ x, (fun k => (1 - E k y x) * -(1 - C k y x)) (order (fun k => -E k y x) (Fin.castLE (by decide) l)) * mask mm y x
      = 0 - ∑ y, ∑ x, (allNeg E C y x - takenNeg E C y x) * mask mm y x :=
  masked mm (fun l y x => (fun k => (1 - E k y x) * -(1 - C k y x)) (order (fun k => -E k y x) (Fin.castLE (by decide) l)))
    (fun y x => allNeg E C y x - takenNeg E C y x)
    (fun y x => (Fine.sum fun k => (Fine.one.sub (hE k y x)).mul (Fine.one.sub (hC k y x))).sub
      (Fine.sum fun k => Fine.ite ((Fine.one.sub (hE k y x)).mul (Fine.one.sub (hC k y x))) Fine.zero))
    fun y x => pixel_neg (fun k => E k y x) (fun k => C k y x) (fun k => hE k y x) (fun k => hC k y x) (ht y x)

/-- The lanes of an image as sums taps first. -/
theorem image_eq (hS : ∀ k y x, Fine (S k y x)) (hE : ∀ k y x, Fine (E k y x)) (hC : ∀ k y x, Fine (C k y x))
    (ht : ∀ y x i j, E i y x = E j y x → C i y x = C j y x) :
    image S E C t mm 0 = ∑ k, ∑ y, ∑ x, S k y x * posW t k y x
    ∧ image S E C t mm 1 = ∑ k : Fin 9, ∑ y, ∑ x, posW t k y x
    ∧ image S E C t mm 2 = ∑ k, ∑ y, ∑ x, S k y x * negW t k y x
    ∧ image S E C t mm 3 = ∑ k : Fin 9, ∑ y, ∑ x, negW t k y x
    ∧ image S E C t mm 4 = ∑ l : Fin 5, ∑ y, ∑ x, (fun k => E k y x * -C k y x) (order (fun k => E k y x) (Fin.castLE (by decide) l)) * mask mm y x
    ∧ image S E C t mm 5 = ∑ l : Fin 4, ∑ y, ∑ x, (fun k => (1 - E k y x) * -(1 - C k y x)) (order (fun k => -E k y x) (Fin.castLE (by decide) l)) * mask mm y x
    ∧ image S E C t mm 6 = ∑ y, ∑ x, mask mm y x := by
  refine ⟨?_, ?_, ?_, ?_, ?_, ?_, rfl⟩
  · exact (show image S E C t mm 0 = ∑ y, ∑ x, ∑ k, S k y x * posW t k y x from rfl).trans (taps_first fun k y x => S k y x * posW t k y x)
  · exact (show image S E C t mm 1 = ∑ y, ∑ x, ∑ k : Fin 9, posW t k y x from rfl).trans (taps_first fun k y x => posW t k y x)
  · rw [← lane2 S t hS]; rfl
  · rw [← lane3 t]; rfl
  · rw [lane4 E C mm hE hC ht]; rfl
  · rw [lane5 E C mm hE hC ht]; rfl

/-- The kernel's results of two images are the reference's. -/
theorem quot_eq (S E C : Fin 2 → Fin 9 → Plane) (t : Fin 2 → Fin 96 → Fin 96 → BitVec 32) (mm : Fin 2 → Plane)
    (hS : ∀ b k y x, Fine (S b k y x)) (hE : ∀ b k y x, Fine (E b k y x)) (hC : ∀ b k y x, Fine (C b k y x))
    (ht : ∀ b y x i j, E b i y x = E b j y x → C b i y x = C b j y x) (j : Fin 4) :
    quot (fun j => image (S 0) (E 0) (C 0) (t 0) (mm 0) j + image (S 1) (E 1) (C 1) (t 1) (mm 1) j) j =
    if j.val < 1 then -Ideal.div (∑ b, ∑ k, ∑ y, ∑ x, S b k y x * posW (t b) k y x) (max (∑ b, ∑ k : Fin 9, ∑ y, ∑ x, posW (t b) k y x) 1)
    else if j.val - 1 < 1 then Ideal.div (∑ b, ∑ k, ∑ y, ∑ x, S b k y x * negW (t b) k y x) (max (∑ b, ∑ k : Fin 9, ∑ y, ∑ x, negW (t b) k y x) 1)
    else if j.val - 1 - 1 < 1 then Ideal.div (∑ b, ∑ l : Fin 5, ∑ y, ∑ x, (fun k => E b k y x * -C b k y x) (order (fun k => E b k y x) (Fin.castLE (by decide) l)) * mask (mm b) y x)
      (max (∑ b, ∑ _l : Fin 5, ∑ y, ∑ x, mask (mm b) y x) 1)
    else Ideal.div (∑ b, ∑ l : Fin 4, ∑ y, ∑ x, (fun k => (1 - E b k y x) * -(1 - C b k y x)) (order (fun k => -E b k y x) (Fin.castLE (by decide) l)) * mask (mm b) y x)
      (max (∑ b, ∑ _l : Fin 4, ∑ y, ∑ x, mask (mm b) y x) 1) := by
  obtain ⟨a0, a1, a2, a3, a4, a5, a6⟩ := image_eq (S 0) (E 0) (C 0) (t 0) (mm 0) (hS 0) (hE 0) (hC 0) (ht 0)
  obtain ⟨b0, b1, b2, b3, b4, b5, b6⟩ := image_eq (S 1) (E 1) (C 1) (t 1) (mm 1) (hS 1) (hE 1) (hC 1) (ht 1)
  unfold quot
  beta_reduce
  rw [five_mul, four_mul, a0, a1, a2, a3, a4, a5, a6, b0, b1, b2, b3, b4, b5, b6, zero_sub]
  simp only [Fin.sum_univ_two, Finset.sum_const, Finset.card_univ, Fintype.card_fin, smul_add]

end Cert.Spec

end
-- ==== Proof.Tame.lean ====
module

public import proofs.«01_k».proof.Pre_tame
public import proofs.«01_k».proof.Proof.Finite
public import proofs.«01_k».proof.Proof.Maxima
public import Idealize.ShloMosaic.Lib.Pointwise
public import Idealize.ShloMosaic.Lib.WordCmp
public import Idealize.ShloMosaic.Lib.Tactic.CleanTypes

@[expose] public section

set_option maxRecDepth 16384

noncomputable section

/-! What the precondition says of the logits, and of the averaged features' similarities. -/

namespace Cert.Pre_tame

open Idealize.ShloMosaic Cert.Spec
open Facts

variable [Facts]

/-- The window at tap `k` lies in the padded plane. -/
theorem cut1 : ∀ k : Fin 9, S2x1x98x98.Slices ![0, 0, k.val / 3, k.val % 3] S2x1x96x96 := by decide
/-- The same for the logits. -/
theorem cut19 : ∀ k : Fin 9, S2x19x98x98.Slices ![0, 0, k.val / 3, k.val % 3] S2x19x96x96 := by decide
/-- The same for the features. -/
theorem cut128 : ∀ k : Fin 9, S2x128x98x98.Slices ![0, 0, k.val / 3, k.val % 3] S2x128x96x96 := by decide

/-- The window's feature at tap `k`. -/
def shifted (e : FVec Ideal S2x128x96x96 .f32) (k : Fin 9) : FVec Ideal S2x128x96x96 .f32 :=
  extractStridedSlice S2x128x96x96 ![0, 0, k.val / 3, k.val % 3] (fn_pad (F := Ideal) e (constantI S_ 32 0#32)) (cut128 k)

/-- The clamped norms of the features around. -/
def norms (e : FVec Ideal S2x128x96x96 .f32) : FVec Ideal S2x1x98x98 .f32 :=
  maximumf (Host.sqrt (broadcastInDim S2x1x98x98 ![0, 2, 3] bcast_S2x98x98_S2x1x98x98_0_2_3
    (Host.reduceAdd (mulf (fn_pad (F := Ideal) e (constantI S_ 32 0#32)) (fn_pad (F := Ideal) e (constantI S_ 32 0#32)))
      (constant S_ .f32 0x00000000#32) reducesTo_S2x128x98x98_S2x98x98_d1 h_S_)))
    (broadcastInDim S2x1x98x98 ![] bcast_S_S2x1x98x98 (constant S_ .f32 0x322BCC77#32))

/-- The similarities with tap `k`. -/
def similar (e : FVec Ideal S2x128x96x96 .f32) (k : Fin 9) : FVec Ideal S2x1x96x96 .f32 :=
  Host.divf (broadcastInDim S2x1x96x96 ![0, 2, 3] bcast_S2x96x96_S2x1x96x96_0_2_3
      (Host.reduceAdd (mulf (shifted e k) e) (constant S_ .f32 0x00000000#32) reducesTo_S2x128x96x96_S2x96x96_d1 h_S_))
    (mulf (extractStridedSlice S2x1x96x96 ![0, 0, k.val / 3, k.val % 3] (norms e) (cut1 k))
      (extractStridedSlice S2x1x96x96 ![0, 0, (4 : Fin 9).val / 3, (4 : Fin 9).val % 3] (norms e) (cut1 4)))

/-- The exponentials of the logits around less their largest. -/
def powers (l : FVec Ideal S2x19x96x96 .f32) : FVec Ideal S2x19x98x98 .f32 :=
  Host.exp (subf (fn_pad_0 (F := Ideal) l (constantI S_ 32 0#32))
    (broadcastInDim S2x19x98x98 ![0, 1, 2, 3] bcast_S2x1x98x98_S2x19x98x98_0_1_2_3
      (broadcastInDim S2x1x98x98 ![0, 2, 3] bcast_S2x98x98_S2x1x98x98_0_2_3
        (maximumf (broadcastInDim S2x98x98 ![] bcast_S_S2x98x98 (constant S_ .f32 0xFF800000#32))
          (Host.reduce FloatOps.maximumf (fn_pad_0 (F := Ideal) l (constantI S_ 32 0#32)) (constant S_ .f32 0xFF800000#32)
            reducesTo_S2x19x98x98_S2x98x98_d1 h_S_)))))

/-- The probabilities around. -/
def probs (l : FVec Ideal S2x19x96x96 .f32) : FVec Ideal S2x19x98x98 .f32 :=
  Host.divf (powers l) (broadcastInDim S2x19x98x98 ![0, 1, 2, 3] bcast_S2x1x98x98_S2x19x98x98_0_1_2_3
    (broadcastInDim S2x1x98x98 ![0, 2, 3] bcast_S2x98x98_S2x1x98x98_0_2_3
      (Host.reduceAdd (powers l) (constant S_ .f32 0x00000000#32) reducesTo_S2x19x98x98_S2x98x98_d1 h_S_)))

/-- The agreements with tap `k`. -/
def agree (l : FVec Ideal S2x19x96x96 .f32) (k : Fin 9) : FVec Ideal S2x1x96x96 .f32 :=
  broadcastInDim S2x1x96x96 ![0, 2, 3] bcast_S2x96x96_S2x1x96x96_0_2_3
    (Host.reduceAdd (mulf (extractStridedSlice S2x19x96x96 ![0, 0, (4 : Fin 9).val / 3, (4 : Fin 9).val % 3] (probs l) (cut19 4))
        (extractStridedSlice S2x19x96x96 ![0, 0, k.val / 3, k.val % 3] (probs l) (cut19 k)))
      (constant S_ .f32 0x00000000#32) reducesTo_S2x19x96x96_S2x96x96_d1 h_S_)

/-- Whether two taps are told apart, or their agreements are the same. -/
def told (s c : Fin 9 → FVec Ideal S2x1x96x96 .f32) (p : Fin 9 × Fin 9) : IVec S2x1x96x96 1 :=
  ori (cmpf .une (s p.1) (s p.2)) (cmpf .oeq (c p.1) (c p.2))

/-- The pairs of taps but the first. -/
def pairs : List (Fin 9 × Fin 9) :=
  [(0, 2), (0, 3), (0, 4), (0, 5), (0, 6), (0, 7), (0, 8), (1, 2), (1, 3), (1, 4), (1, 5), (1, 6), (1, 7), (1, 8),
   (2, 3), (2, 4), (2, 5), (2, 6), (2, 7), (2, 8), (3, 4), (3, 5), (3, 6), (3, 7), (3, 8), (4, 5), (4, 6), (4, 7), (4, 8),
   (5, 6), (5, 7), (5, 8), (6, 7), (6, 8), (7, 8)]

/-- Whether all pairs are. -/
def allTold (s c : Fin 9 → FVec Ideal S2x1x96x96 .f32) : IVec S2x1x96x96 1 :=
  pairs.foldl (fun a p => andi a (told s c p)) (told s c (0, 1))

/-- Whether the logits are finite. -/
def finite (l : FVec Ideal S2x19x96x96 .f32) : IVec S2x19x96x96 1 :=
  cmpf .olt (Host.absf l) (broadcastInDim S2x19x96x96 ![] bcast_S_S2x19x96x96 (constant S_ .f32 0x7F800000#32))

/-- The precondition's two results. -/
theorem fn_eq (a0 : FVec Ideal S2x19x96x96 .f32) (a1 : IVec S2x1x96x96 32) (a2 a3 : FVec Ideal S2x128x96x96 .f32)
    (a4 : FVec Ideal S2x3x384x384 .f32) (a5 : FVec Ideal S2x1x96x96 .f32) :
    fn (F := Ideal) a0 a1 a2 a3 a4 a5 = (finite a0, allTold (similar a2) (agree a0)) := rfl

end Cert.Pre_tame

end
-- ==== Proof.TameRead.lean ====
module

public import proofs.«01_k».proof.Proof.Tame

@[expose] public section

set_option maxRecDepth 16384

noncomputable section

/-! The precondition's arrays read at one entry. -/

namespace Cert.Pre_tame

open Idealize.ShloMosaic Cert.Spec
open Facts

variable [Facts]
variable (e : FVec Ideal S2x128x96x96 .f32) (l : FVec Ideal S2x19x96x96 .f32) (b : Fin 2) (k : Fin 9) (y x : Fin 96)

/-- The features, by channel. -/
abbrev feats : Fin 128 → Plane := fun c y x => e (ix4 b c y x)
/-- The logits, by class. -/
abbrev classes : Fin 19 → Plane := fun c y x => l (ix4 b c y x)

/-- A row of the window at tap `k`. -/
abbrev dy : Fin 98 := ⟨k.val / 3 + y.val, by omega⟩
/-- A column of the window at tap `k`. -/
abbrev dx : Fin 98 := ⟨k.val % 3 + x.val, by omega⟩

/-- The integer zero as a float. -/
theorem zeroWord : (FloatOps.sitofp .f32 (0#32) : Ideal .f32) = 0 := by
  simp [FloatOps.sitofp]

/-- The padded features at a tap. -/
theorem pad_apply128 (c : Fin 128) : (fn_pad (F := Ideal) e (constantI S_ 32 0#32) (ix4 b c (dy k y) (dx k x)) : EReal) = tap 0 (feats e b c) k y x := by
  refine eq_tap (fun u v hu hv => ?_) (fun h => ?_)
  all_goals unfold fn_pad
  all_goals clean_types
  all_goals pointwise
  all_goals try simp only [zeroWord]
  all_goals try split
  all_goals first | (exfalso; omega) | rfl | exact congrArg₂ (feats e b c) (Fin.ext (by first | omega | (dsimp only; omega))) (Fin.ext (by first | omega | (dsimp only; omega)))

/-- The padded logits at a tap. -/
theorem pad_apply19 (c : Fin 19) : (fn_pad_0 (F := Ideal) l (constantI S_ 32 0#32) (ix4 b c (dy k y) (dx k x)) : EReal) = tap 0 (classes l b c) k y x := by
  refine eq_tap (fun u v hu hv => ?_) (fun h => ?_)
  all_goals unfold fn_pad_0
  all_goals clean_types
  all_goals pointwise
  all_goals try simp only [zeroWord]
  all_goals try split
  all_goals first | (exfalso; omega) | rfl | exact congrArg₂ (classes l b c) (Fin.ext (by first | omega | (dsimp only; omega))) (Fin.ext (by first | omega | (dsimp only; omega)))

/-- A cut of one plane, read at an entry. -/
theorem cut1_apply (v : FVec Ideal S2x1x98x98 .f32) :
    extractStridedSlice S2x1x96x96 ![0, 0, k.val / 3, k.val % 3] v (cut1 k) (ix4 b 0 y x) = v (ix4 b 0 (dy k y) (dx k x)) := by
  pointwise

/-- A cut of the logits, read at an entry. -/
theorem cut19_apply (v : FVec Ideal S2x19x98x98 .f32) (c : Fin 19) :
    extractStridedSlice S2x19x96x96 ![0, 0, k.val / 3, k.val % 3] v (cut19 k) (ix4 b c y x) = v (ix4 b c (dy k y) (dx k x)) := by
  pointwise

/-- A cut of the features, read at an entry. -/
theorem cut128_apply (v : FVec Ideal S2x128x98x98 .f32) (c : Fin 128) :
    extractStridedSlice S2x128x96x96 ![0, 0, k.val / 3, k.val % 3] v (cut128 k) (ix4 b c y x) = v (ix4 b c (dy k y) (dx k x)) := by
  pointwise

/-- The norms at a tap. -/
theorem norms_apply : (norms e (ix4 b 0 (dy k y) (dx k x)) : EReal) = nrm fun c => tap 0 (feats e b c) k y x := by
  unfold norms
  pointwise
  simp only [pad_apply128 e b k y x, nrm, eps]

/-- The middle tap is the pixel. -/
theorem tap_mid (f : Plane) : tap 0 f 4 y x = f y x := tap_in 0 f (by simp) (by simp)

/-- The similarities. -/
theorem similar_apply : (similar e k (ix4 b 0 y x) : EReal) = sim (feats e b) k y x := by
  have hm : (norms e (ix4 b 0 ⟨1 + y.val, by omega⟩ ⟨1 + x.val, by omega⟩) : EReal) = nrm fun c => feats e b c y x :=
    (norms_apply e b 4 y x).trans (by simp only [tap_mid])
  unfold similar shifted
  pointwise
  simp only [cut1_apply, cut128_apply, norms_apply, pad_apply128 e b k y x, hm, sim, feats]

/-- The exponentials at a tap. -/
theorem powers_apply (c : Fin 19) : (powers l (ix4 b c (dy k y) (dx k x)) : EReal) = expo (fun c => tap 0 (classes l b c) k y x) c := by
  unfold powers
  rw [Cert.Maxima.host4]
  pointwise
  simp only [pad_apply19 l b k y x, expo, bottom]

/-- The probabilities at a tap. -/
theorem probs_apply (c : Fin 19) : (probs l (ix4 b c (dy k y) (dx k x)) : EReal) = prob (fun c => tap 0 (classes l b c) k y x) c := by
  unfold probs
  pointwise
  simp only [powers_apply l b k y x, prob]

/-- The agreements. -/
theorem agree_apply : (agree l k (ix4 b 0 y x) : EReal) = cross (classes l b) k y x := by
  have hm c : (probs l (ix4 b c ⟨1 + y.val, by omega⟩ ⟨1 + x.val, by omega⟩) : EReal) = prob (fun c => classes l b c y x) c :=
    (probs_apply l b 4 y x c).trans (by simp only [tap_mid])
  unfold agree
  pointwise
  simp only [cut19_apply, probs_apply, hm, cross]

/-- A conjunction of bits. -/
theorem and_bits {a c : BitVec 1} (h : a &&& c = 1#1) : a = 1#1 ∧ c = 1#1 := by
  revert a c; decide

/-- All pairs are told apart where the conjunction says so. -/
theorem chain {s c : Fin 9 → FVec Ideal S2x1x96x96 .f32} {i : S2x1x96x96.Idx} (ps : List (Fin 9 × Fin 9)) (a : IVec S2x1x96x96 1)
    (h : ps.foldl (fun a p => andi a (told s c p)) a i = 1#1) : a i = 1#1 ∧ ∀ p ∈ ps, told s c p i = 1#1 := by
  induction ps generalizing a with
  | nil => exact ⟨h, fun p hp => absurd hp (List.not_mem_nil)⟩
  | cons q qs ih =>
    obtain ⟨h1, h2⟩ := ih _ h
    obtain ⟨h3, h4⟩ := and_bits (show a i &&& told s c q i = 1#1 from h1)
    exact ⟨h3, fun p hp => (List.mem_cons.1 hp).elim (fun e => e ▸ h4) (h2 p)⟩

/-- Two taps in order are one of the pairs. -/
theorem mem_pairs : ∀ i j : Fin 9, i < j → (i, j) = (0, 1) ∨ (i, j) ∈ pairs := by decide

/-- Taps equally similar agree equally. -/
theorem told_apply {s c : Fin 9 → FVec Ideal S2x1x96x96 .f32} {i : S2x1x96x96.Idx} (p : Fin 9 × Fin 9) (h : told s c p i = 1#1)
    (he : s p.1 i = s p.2 i) : c p.1 i = c p.2 i := by
  have h' : (FloatOps.cmpf .une (s p.1 i) (s p.2 i)) ||| (FloatOps.cmpf .oeq (c p.1 i) (c p.2 i)) = 1#1 := h
  rw [he] at h'
  by_contra hne
  simp [FloatOps.cmpf, Ideal.cmp, hne] at h'

/-- Where all pairs are told apart, taps equally similar agree equally. -/
theorem ties {s c : Fin 9 → FVec Ideal S2x1x96x96 .f32} {i : S2x1x96x96.Idx} (h : allTold s c i = 1#1) (p q : Fin 9)
    (he : s p i = s q i) : c p i = c q i := by
  obtain ⟨h0, h1⟩ := chain pairs _ h
  have key : ∀ p q : Fin 9, p < q → s p i = s q i → c p i = c q i := fun p q hpq he =>
    told_apply (p, q) ((mem_pairs p q hpq).elim (fun e => e ▸ h0) (h1 (p, q))) he
  rcases lt_trichotomy p q with hpq | rfl | hpq
  · exact key p q hpq he
  · rfl
  · exact (key q p hpq he.symm).symm

/-- An extended real below infinity in absolute value is real. -/
theorem real_of (a : EReal) (h : max a (-a) < ⊤) : ∃ r : ℝ, a = (r : EReal) := by
  induction a using EReal.rec with
  | bot => simp at h
  | coe r => exact ⟨r, rfl⟩
  | top => simp at h

/-- A logit found finite is a real number. -/
theorem finite_apply {i : S2x19x96x96.Idx} (h : finite l i = 1#1) : ∃ r : ℝ, (l i : EReal) = (r : EReal) := by
  have h' : FloatOps.cmpf .olt (FloatOps.absf (l i)) (FloatOps.ofBits (F := Ideal) .f32 0x7F800000#32) = 1#1 := h
  have ht : Ideal.ofBits FTy.f32 0x7F800000#32 = ⊤ := by simp [Ideal.ofBits, Ideal.ieee]
  have h2 : BitVec.ofBool (decide ((max (l i) (-(l i)) : EReal) < ⊤)) = 1#1 := by rw [← ht]; exact h'
  refine real_of (l i) ?_
  by_contra hn
  rw [decide_eq_false hn] at h2
  exact absurd h2 (by decide)

end Cert.Pre_tame

end
-- ==== Proof.Equal.lean ====
module

public import proofs.«01_k».proof.Defs
public import proofs.«01_k».proof.Proof.KernelArrays
public import proofs.«01_k».proof.Proof.RefOut
public import proofs.«01_k».proof.Proof.Sums
public import proofs.«01_k».proof.Proof.TameRead

@[expose] public section

set_option maxRecDepth 16384

noncomputable section

/-! Under the precondition the kernel and the reference leave the same array. -/

namespace Cert.Proof

open Idealize.ShloMosaic Idealize.SL.Sem Cert.Spec Cert.KernelIdeal.Body

/-- The shape relations of the precondition's operations. -/
instance tameFacts : Cert.Pre_tame.Facts := by constructor <;> decide

variable (m : (ℓ : Loc Cert.KernelIdeal.nD Cert.KernelIdeal.τ Cert.KernelIdeal.sig) → Buf (Elt Ideal) ℓ)
variable (V0 : Valuation Cert.ReferenceIdeal.τ Cert.ReferenceIdeal.sig (Elt Ideal)) (c : Dev Cert.KernelIdeal.nD)

/-- The reference's arguments are the kernel's. -/
structure Agree : Prop where
  e0 : V0 (Proc.devRef .tc Cert.ReferenceIdeal.main_arg0) = arr0 m c
  e1 : V0 (Proc.devRef .tc Cert.ReferenceIdeal.main_arg1) = arr1 m c
  e2 : V0 (Proc.devRef .tc Cert.ReferenceIdeal.main_arg2) = arr2 m c
  e3 : V0 (Proc.devRef .tc Cert.ReferenceIdeal.main_arg3) = arr3 m c
  e5 : V0 (Proc.devRef .tc Cert.ReferenceIdeal.main_arg5) = arr5 m c

variable {m V0 c}

/-- The logits are real numbers. -/
theorem logits_real (hp : Cert.Pre_KernelIdeal_tame m) (b : Fin 2) (k : Fin 19) (y x : Fin 96) : Fine (lgtsOf m c b k y x) := by
  have h := (hp c).1
  rw [Cert.Pre_tame.fn_eq] at h
  exact Cert.Pre_tame.finite_apply _ (congrFun h (ix4 b k y x))

/-- Taps equally similar agree equally. -/
theorem ties (hp : Cert.Pre_KernelIdeal_tame m) (b : Fin 2) (y x : Fin 96) (i j : Fin 9)
    (he : sim (emaOf m c b) i y x = sim (emaOf m c b) j y x) : cross (lgtsOf m c b) i y x = cross (lgtsOf m c b) j y x := by
  have h := (hp c).2
  rw [Cert.Pre_tame.fn_eq] at h
  have h' := Cert.Pre_tame.ties (congrFun h (ix4 b 0 y x)) i j
  rw [Cert.Pre_tame.similar_apply, Cert.Pre_tame.similar_apply, Cert.Pre_tame.agree_apply, Cert.Pre_tame.agree_apply] at h'
  exact h' he

/-- The two arrays are equal. -/
theorem arrays (hp : Cert.Pre_KernelIdeal_tame m) (ha : Agree m V0 c) :
    (left m c (pt 3 (by decide)).val (pt 3 (by decide)).isLt).out = Cert.ReferenceIdeal.Value.out V0 := by
  have eL : (fun b => Cert.ReferenceIdeal.Value.logits V0 b) = lgtsOf m c := by
    funext b k y x; exact congrFun ha.e0 (ix4 b k y x)
  have eT : (fun b => Cert.ReferenceIdeal.Value.labels V0 b) = tagsOf m c := by
    funext b y x; exact congrFun ha.e1 (ix4 b 0 y x)
  have eE : (fun b => Cert.ReferenceIdeal.Value.ema V0 b) = emaOf m c := by
    funext b k y x; exact congrFun ha.e2 (ix4 b k y x)
  have eS : (fun b => Cert.ReferenceIdeal.Value.src V0 b) = srcOf m c := by
    funext b k y x; exact congrFun ha.e3 (ix4 b k y x)
  have eM : (fun b => Cert.ReferenceIdeal.Value.mix V0 b) = marksOf m c := by
    funext b y x; exact congrFun ha.e5 (ix4 b 0 y x)
  funext i
  obtain ⟨j, rfl⟩ : ∃ j : Fin 4, i = ix2 0 j := ⟨i 1, by
    funext a; apply Fin.ext
    match a with
    | ⟨0, _⟩ => have : (i 0).val < 1 := (i 0).isLt; show (i 0).val = 0; omega
    | ⟨1, _⟩ => rfl⟩
  refine (last_out m c (logits_real hp) j).trans ?_
  refine (quot_eq (fun b => sim (srcOf m c b)) (fun b => sim (emaOf m c b)) (fun b => cross (lgtsOf m c b)) (tagsOf m c) (marksOf m c)
    (fun b => sim_real _) (fun b => sim_real _) (fun b k y x => cross_real _ (logits_real hp b)) (ties hp) j).trans ?_
  rw [← eL, ← eT, ← eE, ← eS, ← eM]
  exact (Cert.ReferenceIdeal.Value.out_apply V0 j).symm

end Cert.Proof

end
-- ==== Proof.lean ====
module

public import proofs.«01_k».proof.Defs
public import proofs.«01_k».proof.Proof.KernelFrame
public import proofs.«01_k».proof.Proof.KernelIdealFrame
public import proofs.«01_k».proof.Proof.Gen.ReferenceIdeal
public import proofs.«01_k».proof.Proof.Gen.ReferenceIdeal.Run
public import proofs.«01_k».proof.Proof.Equal

/-! The certificate: every claim, from the proofs of its parts. -/

@[expose] public section

noncomputable section

namespace Cert.Proof

open Idealize.ShloMosaic Idealize.SL.Sem

/-- The kernel's frame. -/
theorem frame_kernel : Cert.quiescent_Kernel := fun m ρ _ => Cert.Kernel.Body.frame m ρ

/-- The idealized kernel's frame. -/
theorem frame_ideal : Cert.quiescent_KernelIdeal := fun m ρ _ => Cert.KernelIdeal.Body.frame m ρ

/-- The reference's frame, where the precondition holds: a host program has no counters. -/
theorem frame_reference_tame : Cert.quiescent_ReferenceIdeal_pre_tame := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel is the kernel, its printed weight of a missing neighbour read as one nineteenth. -/
theorem preserved : Cert.preserves_Kernel_KernelIdeal :=
  IdealRules.named_const.statement Cert.KernelIdeal.κ "u" .f32 0x3D579436#32 ((19⁻¹ : ℝ) : EReal) rfl

/-- The idealized kernel's frame, where the precondition holds. -/
theorem frame_ideal_tame : Cert.quiescent_KernelIdeal_pre_tame := fun m ρ _ => Cert.KernelIdeal.Body.frame m ρ

/-- Where the precondition holds, the idealized kernel and the reference leave the same four losses. -/
theorem equal : Cert.algebraic_KernelIdeal_ReferenceIdeal_pre_tame := fun m ρ m' ρ' hp ha => by
  refine ⟨fun c => (Cert.KernelIdeal.Body.left m c (Cert.KernelIdeal.Body.pt 3 (by decide)).val (Cert.KernelIdeal.Body.pt 3 (by decide)).isLt).out, ?_, ?_⟩
  · refine (θ_run Cert.KernelIdeal.defs _ _).mono (fun r h c => ⟨?_, h.2.1 c⟩)
      (θ_run_and (Cert.KernelIdeal.Body.run_arrays (F := Ideal) m ρ) (Cert.KernelIdeal.Body.frame (F := Ideal) m ρ))
    exact ((h.1 c).1 5).trans (Cert.KernelIdeal.Body.result m c)
  · refine (θ_run Cert.ReferenceIdeal.defs _ _).mono (fun r h c => ⟨?_, (h.2 c).2⟩)
      (θ_run_and (Cert.ReferenceIdeal.Value.run_out m' ρ') (Cert.ReferenceIdeal.Value.run (F := Ideal) m' ρ'))
    obtain ⟨h0, h1, h2, h3, -, h5⟩ := ha c
    exact (h.1 c).trans (arrays hp ⟨h0, h1, h2, h3, h5⟩).symm

/-- Every claim. -/
theorem claim : Cert.Claim :=
  ⟨Cert.Kernel.Gen.facts, Cert.KernelIdeal.Gen.facts, Cert.ReferenceIdeal.Gen.facts, tameFacts, frame_kernel, frame_ideal, frame_ideal_tame,
    frame_reference, frame_reference_tame, preserved, equal⟩

end Cert.Proof

end
